-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11)
      ∧ r.2.mem ((c.tc : Thread Cert.Kernel13.nD Cert.Kernel13.τ).loc Cert.Kernel13.main_arg12) = m ((c.tc : Thread Cert.Kernel13.nD Cert.Kernel13.τ).loc Cert.Kernel13.main_arg12)
      ∧ r.2.mem ((c.tc : Thread Cert.Kernel13.nD Cert.Kernel13.τ).loc Cert.Kernel13.main_arg13) = m ((c.tc : Thread Cert.Kernel13.nD Cert.Kernel13.τ).loc Cert.Kernel13.main_arg13)
      ∧ r.2.mem ((c.tc : Thread Cert.Kernel13.nD Cert.Kernel13.τ).loc Cert.Kernel13.main_arg14) = m ((c.tc : Thread Cert.Kernel13.nD Cert.Kernel13.τ).loc Cert.Kernel13.main_arg14)
      ∧ r.2.mem ((c.tc : Thread Cert.Kernel13.nD Cert.Kernel13.τ).loc Cert.Kernel13.main_arg15) = m ((c.tc : Thread Cert.Kernel13.nD Cert.Kernel13.τ).loc Cert.Kernel13.main_arg15)
      ∧ r.2.mem ((c.tc : Thread Cert.Kernel13.nD Cert.Kernel13.τ).loc Cert.Kernel13.main_arg16) = m ((c.tc : Thread Cert.Kernel13.nD Cert.Kernel13.τ).loc Cert.Kernel13.main_arg16)
      ∧ r.2.mem ((c.tc : Thread Cert.Kernel13.nD Cert.Kernel13.τ).loc Cert.Kernel13.main_arg17) = m ((c.tc : Thread Cert.Kernel13.nD Cert.Kernel13.τ).loc Cert.Kernel13.main_arg17)
      ∧ r.2.mem ((c.tc : Thread Cert.Kernel13.nD Cert.Kernel13.τ).loc Cert.Kernel13.main_arg18) = m ((c.tc : Thread Cert.Kernel13.nD Cert.Kernel13.τ).loc Cert.Kernel13.main_arg18)
      ∧ r.2.mem ((c.tc : Thread Cert.Kernel13.nD Cert.Kernel13.τ).loc Cert.Kernel13.main_arg19) = m ((c.tc : Thread Cert.Kernel13.nD Cert.Kernel13.τ).loc Cert.Kernel13.main_arg19)
      ∧ r.2.mem ((c.tc : Thread Cert.Kernel13.nD Cert.Kernel13.τ).loc Cert.Kernel13.main_arg20) = m ((c.tc : Thread Cert.Kernel13.nD Cert.Kernel13.τ).loc Cert.Kernel13.main_arg20)
      ∧ r.2.mem ((c.tc : Thread Cert.Kernel13.nD Cert.Kernel13.τ).loc Cert.Kernel13.main_arg21) = m ((c.tc : Thread Cert.Kernel13.nD Cert.Kernel13.τ).loc Cert.Kernel13.main_arg21)
      ∧ r.2.mem ((c.tc : Thread Cert.Kernel13.nD Cert.Kernel13.τ).loc Cert.Kernel13.main_arg22) = m ((c.tc : Thread Cert.Kernel13.nD Cert.Kernel13.τ).loc Cert.Kernel13.main_arg22)
      ∧ r.2.mem ((c.tc : Thread Cert.Kernel13.nD Cert.Kernel13.τ).loc Cert.Kernel13.main_arg23) = m ((c.tc : Thread Cert.Kernel13.nD Cert.Kernel13.τ).loc Cert.Kernel13.main_arg23))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
      ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
      ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
      ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
      ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
      ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
      ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
      ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
      ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
      ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
      ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
      ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
      ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11)
      ∧ r.2.mem ((c.tc : Thread Cert.Reference13Ideal.nD Cert.Reference13Ideal.τ).loc Cert.Reference13Ideal.main_arg12) = m ((c.tc : Thread Cert.Reference13Ideal.nD Cert.Reference13Ideal.τ).loc Cert.Reference13Ideal.main_arg12)
      ∧ r.2.mem ((c.tc : Thread Cert.Reference13Ideal.nD Cert.Reference13Ideal.τ).loc Cert.Reference13Ideal.main_arg13) = m ((c.tc : Thread Cert.Reference13Ideal.nD Cert.Reference13Ideal.τ).loc Cert.Reference13Ideal.main_arg13)
      ∧ r.2.mem ((c.tc : Thread Cert.Reference13Ideal.nD Cert.Reference13Ideal.τ).loc Cert.Reference13Ideal.main_arg14) = m ((c.tc : Thread Cert.Reference13Ideal.nD Cert.Reference13Ideal.τ).loc Cert.Reference13Ideal.main_arg14)
      ∧ r.2.mem ((c.tc : Thread Cert.Reference13Ideal.nD Cert.Reference13Ideal.τ).loc Cert.Reference13Ideal.main_arg15) = m ((c.tc : Thread Cert.Reference13Ideal.nD Cert.Reference13Ideal.τ).loc Cert.Reference13Ideal.main_arg15)
      ∧ r.2.mem ((c.tc : Thread Cert.Reference13Ideal.nD Cert.Reference13Ideal.τ).loc Cert.Reference13Ideal.main_arg16) = m ((c.tc : Thread Cert.Reference13Ideal.nD Cert.Reference13Ideal.τ).loc Cert.Reference13Ideal.main_arg16)
      ∧ r.2.mem ((c.tc : Thread Cert.Reference13Ideal.nD Cert.Reference13Ideal.τ).loc Cert.Reference13Ideal.main_arg17) = m ((c.tc : Thread Cert.Reference13Ideal.nD Cert.Reference13Ideal.τ).loc Cert.Reference13Ideal.main_arg17)
      ∧ r.2.mem ((c.tc : Thread Cert.Reference13Ideal.nD Cert.Reference13Ideal.τ).loc Cert.Reference13Ideal.main_arg18) = m ((c.tc : Thread Cert.Reference13Ideal.nD Cert.Reference13Ideal.τ).loc Cert.Reference13Ideal.main_arg18)
      ∧ r.2.mem ((c.tc : Thread Cert.Reference13Ideal.nD Cert.Reference13Ideal.τ).loc Cert.Reference13Ideal.main_arg19) = m ((c.tc : Thread Cert.Reference13Ideal.nD Cert.Reference13Ideal.τ).loc Cert.Reference13Ideal.main_arg19)
      ∧ r.2.mem ((c.tc : Thread Cert.Reference13Ideal.nD Cert.Reference13Ideal.τ).loc Cert.Reference13Ideal.main_arg20) = m ((c.tc : Thread Cert.Reference13Ideal.nD Cert.Reference13Ideal.τ).loc Cert.Reference13Ideal.main_arg20)
      ∧ r.2.mem ((c.tc : Thread Cert.Reference13Ideal.nD Cert.Reference13Ideal.τ).loc Cert.Reference13Ideal.main_arg21) = m ((c.tc : Thread Cert.Reference13Ideal.nD Cert.Reference13Ideal.τ).loc Cert.Reference13Ideal.main_arg21)
      ∧ r.2.mem ((c.tc : Thread Cert.Reference13Ideal.nD Cert.Reference13Ideal.τ).loc Cert.Reference13Ideal.main_arg22) = m ((c.tc : Thread Cert.Reference13Ideal.nD Cert.Reference13Ideal.τ).loc Cert.Reference13Ideal.main_arg22)
      ∧ r.2.mem ((c.tc : Thread Cert.Reference13Ideal.nD Cert.Reference13Ideal.τ).loc Cert.Reference13Ideal.main_arg23) = m ((c.tc : Thread Cert.Reference13Ideal.nD Cert.Reference13Ideal.τ).loc Cert.Reference13Ideal.main_arg23))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15)
      ∧ r.2.mem ((c.tc : Thread Cert.Kernel14.nD Cert.Kernel14.τ).loc Cert.Kernel14.main_arg16) = m ((c.tc : Thread Cert.Kernel14.nD Cert.Kernel14.τ).loc Cert.Kernel14.main_arg16)
      ∧ r.2.mem ((c.tc : Thread Cert.Kernel14.nD Cert.Kernel14.τ).loc Cert.Kernel14.main_arg17) = m ((c.tc : Thread Cert.Kernel14.nD Cert.Kernel14.τ).loc Cert.Kernel14.main_arg17)
      ∧ r.2.mem ((c.tc : Thread Cert.Kernel14.nD Cert.Kernel14.τ).loc Cert.Kernel14.main_arg18) = m ((c.tc : Thread Cert.Kernel14.nD Cert.Kernel14.τ).loc Cert.Kernel14.main_arg18)
      ∧ r.2.mem ((c.tc : Thread Cert.Kernel14.nD Cert.Kernel14.τ).loc Cert.Kernel14.main_arg19) = m ((c.tc : Thread Cert.Kernel14.nD Cert.Kernel14.τ).loc Cert.Kernel14.main_arg19)
      ∧ r.2.mem ((c.tc : Thread Cert.Kernel14.nD Cert.Kernel14.τ).loc Cert.Kernel14.main_arg20) = m ((c.tc : Thread Cert.Kernel14.nD Cert.Kernel14.τ).loc Cert.Kernel14.main_arg20)
      ∧ r.2.mem ((c.tc : Thread Cert.Kernel14.nD Cert.Kernel14.τ).loc Cert.Kernel14.main_arg21) = m ((c.tc : Thread Cert.Kernel14.nD Cert.Kernel14.τ).loc Cert.Kernel14.main_arg21)
      ∧ r.2.mem ((c.tc : Thread Cert.Kernel14.nD Cert.Kernel14.τ).loc Cert.Kernel14.main_arg22) = m ((c.tc : Thread Cert.Kernel14.nD Cert.Kernel14.τ).loc Cert.Kernel14.main_arg22)
      ∧ r.2.mem ((c.tc : Thread Cert.Kernel14.nD Cert.Kernel14.τ).loc Cert.Kernel14.main_arg23) = m ((c.tc : Thread Cert.Kernel14.nD Cert.Kernel14.τ).loc Cert.Kernel14.main_arg23)
      ∧ r.2.mem ((c.tc : Thread Cert.Kernel14.nD Cert.Kernel14.τ).loc Cert.Kernel14.main_arg24) = m ((c.tc : Thread Cert.Kernel14.nD Cert.Kernel14.τ).loc Cert.Kernel14.main_arg24)
      ∧ r.2.mem ((c.tc : Thread Cert.Kernel14.nD Cert.Kernel14.τ).loc Cert.Kernel14.main_arg25) = m ((c.tc : Thread Cert.Kernel14.nD Cert.Kernel14.τ).loc Cert.Kernel14.main_arg25)
      ∧ r.2.mem ((c.tc : Thread Cert.Kernel14.nD Cert.Kernel14.τ).loc Cert.Kernel14.main_arg26) = m ((c.tc : Thread Cert.Kernel14.nD Cert.Kernel14.τ).loc Cert.Kernel14.main_arg26)
      ∧ r.2.mem ((c.tc : Thread Cert.Kernel14.nD Cert.Kernel14.τ).loc Cert.Kernel14.main_arg27) = m ((c.tc : Thread Cert.Kernel14.nD Cert.Kernel14.τ).loc Cert.Kernel14.main_arg27)
      ∧ r.2.mem ((c.tc : Thread Cert.Kernel14.nD Cert.Kernel14.τ).loc Cert.Kernel14.main_arg28) = m ((c.tc : Thread Cert.Kernel14.nD Cert.Kernel14.τ).loc Cert.Kernel14.main_arg28)
      ∧ r.2.mem ((c.tc : Thread Cert.Kernel14.nD Cert.Kernel14.τ).loc Cert.Kernel14.main_arg29) = m ((c.tc : Thread Cert.Kernel14.nD Cert.Kernel14.τ).loc Cert.Kernel14.main_arg29)
      ∧ r.2.mem ((c.tc : Thread Cert.Kernel14.nD Cert.Kernel14.τ).loc Cert.Kernel14.main_arg30) = m ((c.tc : Thread Cert.Kernel14.nD Cert.Kernel14.τ).loc Cert.Kernel14.main_arg30)
      ∧ r.2.mem ((c.tc : Thread Cert.Kernel14.nD Cert.Kernel14.τ).loc Cert.Kernel14.main_arg31) = m ((c.tc : Thread Cert.Kernel14.nD Cert.Kernel14.τ).loc Cert.Kernel14.main_arg31)
      ∧ r.2.mem ((c.tc : Thread Cert.Kernel14.nD Cert.Kernel14.τ).loc Cert.Kernel14.main_arg32) = m ((c.tc : Thread Cert.Kernel14.nD Cert.Kernel14.τ).loc Cert.Kernel14.main_arg32)
      ∧ r.2.mem ((c.tc : Thread Cert.Kernel14.nD Cert.Kernel14.τ).loc Cert.Kernel14.main_arg33) = m ((c.tc : Thread Cert.Kernel14.nD Cert.Kernel14.τ).loc Cert.Kernel14.main_arg33)
      ∧ r.2.mem ((c.tc : Thread Cert.Kernel14.nD Cert.Kernel14.τ).loc Cert.Kernel14.main_arg34) = m ((c.tc : Thread Cert.Kernel14.nD Cert.Kernel14.τ).loc Cert.Kernel14.main_arg34)
      ∧ r.2.mem ((c.tc : Thread Cert.Kernel14.nD Cert.Kernel14.τ).loc Cert.Kernel14.main_arg35) = m ((c.tc : Thread Cert.Kernel14.nD Cert.Kernel14.τ).loc Cert.Kernel14.main_arg35)
      ∧ r.2.mem ((c.tc : Thread Cert.Kernel14.nD Cert.Kernel14.τ).loc Cert.Kernel14.main_arg36) = m ((c.tc : Thread Cert.Kernel14.nD Cert.Kernel14.τ).loc Cert.Kernel14.main_arg36)
      ∧ r.2.mem ((c.tc : Thread Cert.Kernel14.nD Cert.Kernel14.τ).loc Cert.Kernel14.main_arg37) = m ((c.tc : Thread Cert.Kernel14.nD Cert.Kernel14.τ).loc Cert.Kernel14.main_arg37)
      ∧ r.2.mem ((c.tc : Thread Cert.Kernel14.nD Cert.Kernel14.τ).loc Cert.Kernel14.main_arg38) = m ((c.tc : Thread Cert.Kernel14.nD Cert.Kernel14.τ).loc Cert.Kernel14.main_arg38)
      ∧ r.2.mem ((c.tc : Thread Cert.Kernel14.nD Cert.Kernel14.τ).loc Cert.Kernel14.main_arg39) = m ((c.tc : Thread Cert.Kernel14.nD Cert.Kernel14.τ).loc Cert.Kernel14.main_arg39))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
      ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
      ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
      ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
      ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
      ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
      ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
      ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
      ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24)
      ∧ r.2.mem ((c.tc : Thread Cert.Kernel14Ideal.nD Cert.Kernel14Ideal.τ).loc Cert.Kernel14Ideal.main_arg25) = m ((c.tc : Thread Cert.Kernel14Ideal.nD Cert.Kernel14Ideal.τ).loc Cert.Kernel14Ideal.main_arg25)
      ∧ r.2.mem ((c.tc : Thread Cert.Kernel14Ideal.nD Cert.Kernel14Ideal.τ).loc Cert.Kernel14Ideal.main_arg26) = m ((c.tc : Thread Cert.Kernel14Ideal.nD Cert.Kernel14Ideal.τ).loc Cert.Kernel14Ideal.main_arg26)
      ∧ r.2.mem ((c.tc : Thread Cert.Kernel14Ideal.nD Cert.Kernel14Ideal.τ).loc Cert.Kernel14Ideal.main_arg27) = m ((c.tc : Thread Cert.Kernel14Ideal.nD Cert.Kernel14Ideal.τ).loc Cert.Kernel14Ideal.main_arg27)
      ∧ r.2.mem ((c.tc : Thread Cert.Kernel14Ideal.nD Cert.Kernel14Ideal.τ).loc Cert.Kernel14Ideal.main_arg28) = m ((c.tc : Thread Cert.Kernel14Ideal.nD Cert.Kernel14Ideal.τ).loc Cert.Kernel14Ideal.main_arg28)
      ∧ r.2.mem ((c.tc : Thread Cert.Kernel14Ideal.nD Cert.Kernel14Ideal.τ).loc Cert.Kernel14Ideal.main_arg29) = m ((c.tc : Thread Cert.Kernel14Ideal.nD Cert.Kernel14Ideal.τ).loc Cert.Kernel14Ideal.main_arg29)
      ∧ r.2.mem ((c.tc : Thread Cert.Kernel14Ideal.nD Cert.Kernel14Ideal.τ).loc Cert.Kernel14Ideal.main_arg30) = m ((c.tc : Thread Cert.Kernel14Ideal.nD Cert.Kernel14Ideal.τ).loc Cert.Kernel14Ideal.main_arg30)
      ∧ r.2.mem ((c.tc : Thread Cert.Kernel14Ideal.nD Cert.Kernel14Ideal.τ).loc Cert.Kernel14Ideal.main_arg31) = m ((c.tc : Thread Cert.Kernel14Ideal.nD Cert.Kernel14Ideal.τ).loc Cert.Kernel14Ideal.main_arg31)
      ∧ r.2.mem ((c.tc : Thread Cert.Kernel14Ideal.nD Cert.Kernel14Ideal.τ).loc Cert.Kernel14Ideal.main_arg32) = m ((c.tc : Thread Cert.Kernel14Ideal.nD Cert.Kernel14Ideal.τ).loc Cert.Kernel14Ideal.main_arg32)
      ∧ r.2.mem ((c.tc : Thread Cert.Kernel14Ideal.nD Cert.Kernel14Ideal.τ).loc Cert.Kernel14Ideal.main_arg33) = m ((c.tc : Thread Cert.Kernel14Ideal.nD Cert.Kernel14Ideal.τ).loc Cert.Kernel14Ideal.main_arg33)
      ∧ r.2.mem ((c.tc : Thread Cert.Kernel14Ideal.nD Cert.Kernel14Ideal.τ).loc Cert.Kernel14Ideal.main_arg34) = m ((c.tc : Thread Cert.Kernel14Ideal.nD Cert.Kernel14Ideal.τ).loc Cert.Kernel14Ideal.main_arg34)
      ∧ r.2.mem ((c.tc : Thread Cert.Kernel14Ideal.nD Cert.Kernel14Ideal.τ).loc Cert.Kernel14Ideal.main_arg35) = m ((c.tc : Thread Cert.Kernel14Ideal.nD Cert.Kernel14Ideal.τ).loc Cert.Kernel14Ideal.main_arg35)
      ∧ r.2.mem ((c.tc : Thread Cert.Kernel14Ideal.nD Cert.Kernel14Ideal.τ).loc Cert.Kernel14Ideal.main_arg36) = m ((c.tc : Thread Cert.Kernel14Ideal.nD Cert.Kernel14Ideal.τ).loc Cert.Kernel14Ideal.main_arg36)
      ∧ r.2.mem ((c.tc : Thread Cert.Kernel14Ideal.nD Cert.Kernel14Ideal.τ).loc Cert.Kernel14Ideal.main_arg37) = m ((c.tc : Thread Cert.Kernel14Ideal.nD Cert.Kernel14Ideal.τ).loc Cert.Kernel14Ideal.main_arg37)
      ∧ r.2.mem ((c.tc : Thread Cert.Kernel14Ideal.nD Cert.Kernel14Ideal.τ).loc Cert.Kernel14Ideal.main_arg38) = m ((c.tc : Thread Cert.Kernel14Ideal.nD Cert.Kernel14Ideal.τ).loc Cert.Kernel14Ideal.main_arg38)
      ∧ r.2.mem ((c.tc : Thread Cert.Kernel14Ideal.nD Cert.Kernel14Ideal.τ).loc Cert.Kernel14Ideal.main_arg39) = m ((c.tc : Thread Cert.Kernel14Ideal.nD Cert.Kernel14Ideal.τ).loc Cert.Kernel14Ideal.main_arg39))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16)
      ∧ r.2.mem ((c.tc : Thread Cert.Reference14Ideal.nD Cert.Reference14Ideal.τ).loc Cert.Reference14Ideal.main_arg17) = m ((c.tc : Thread Cert.Reference14Ideal.nD Cert.Reference14Ideal.τ).loc Cert.Reference14Ideal.main_arg17)
      ∧ r.2.mem ((c.tc : Thread Cert.Reference14Ideal.nD Cert.Reference14Ideal.τ).loc Cert.Reference14Ideal.main_arg18) = m ((c.tc : Thread Cert.Reference14Ideal.nD Cert.Reference14Ideal.τ).loc Cert.Reference14Ideal.main_arg18)
      ∧ r.2.mem ((c.tc : Thread Cert.Reference14Ideal.nD Cert.Reference14Ideal.τ).loc Cert.Reference14Ideal.main_arg19) = m ((c.tc : Thread Cert.Reference14Ideal.nD Cert.Reference14Ideal.τ).loc Cert.Reference14Ideal.main_arg19)
      ∧ r.2.mem ((c.tc : Thread Cert.Reference14Ideal.nD Cert.Reference14Ideal.τ).loc Cert.Reference14Ideal.main_arg20) = m ((c.tc : Thread Cert.Reference14Ideal.nD Cert.Reference14Ideal.τ).loc Cert.Reference14Ideal.main_arg20)
      ∧ r.2.mem ((c.tc : Thread Cert.Reference14Ideal.nD Cert.Reference14Ideal.τ).loc Cert.Reference14Ideal.main_arg21) = m ((c.tc : Thread Cert.Reference14Ideal.nD Cert.Reference14Ideal.τ).loc Cert.Reference14Ideal.main_arg21)
      ∧ r.2.mem ((c.tc : Thread Cert.Reference14Ideal.nD Cert.Reference14Ideal.τ).loc Cert.Reference14Ideal.main_arg22) = m ((c.tc : Thread Cert.Reference14Ideal.nD Cert.Reference14Ideal.τ).loc Cert.Reference14Ideal.main_arg22)
      ∧ r.2.mem ((c.tc : Thread Cert.Reference14Ideal.nD Cert.Reference14Ideal.τ).loc Cert.Reference14Ideal.main_arg23) = m ((c.tc : Thread Cert.Reference14Ideal.nD Cert.Reference14Ideal.τ).loc Cert.Reference14Ideal.main_arg23)
      ∧ r.2.mem ((c.tc : Thread Cert.Reference14Ideal.nD Cert.Reference14Ideal.τ).loc Cert.Reference14Ideal.main_arg24) = m ((c.tc : Thread Cert.Reference14Ideal.nD Cert.Reference14Ideal.τ).loc Cert.Reference14Ideal.main_arg24)
      ∧ r.2.mem ((c.tc : Thread Cert.Reference14Ideal.nD Cert.Reference14Ideal.τ).loc Cert.Reference14Ideal.main_arg25) = m ((c.tc : Thread Cert.Reference14Ideal.nD Cert.Reference14Ideal.τ).loc Cert.Reference14Ideal.main_arg25)
      ∧ r.2.mem ((c.tc : Thread Cert.Reference14Ideal.nD Cert.Reference14Ideal.τ).loc Cert.Reference14Ideal.main_arg26) = m ((c.tc : Thread Cert.Reference14Ideal.nD Cert.Reference14Ideal.τ).loc Cert.Reference14Ideal.main_arg26)
      ∧ r.2.mem ((c.tc : Thread Cert.Reference14Ideal.nD Cert.Reference14Ideal.τ).loc Cert.Reference14Ideal.main_arg27) = m ((c.tc : Thread Cert.Reference14Ideal.nD Cert.Reference14Ideal.τ).loc Cert.Reference14Ideal.main_arg27)
      ∧ r.2.mem ((c.tc : Thread Cert.Reference14Ideal.nD Cert.Reference14Ideal.τ).loc Cert.Reference14Ideal.main_arg28) = m ((c.tc : Thread Cert.Reference14Ideal.nD Cert.Reference14Ideal.τ).loc Cert.Reference14Ideal.main_arg28)
      ∧ r.2.mem ((c.tc : Thread Cert.Reference14Ideal.nD Cert.Reference14Ideal.τ).loc Cert.Reference14Ideal.main_arg29) = m ((c.tc : Thread Cert.Reference14Ideal.nD Cert.Reference14Ideal.τ).loc Cert.Reference14Ideal.main_arg29)
      ∧ r.2.mem ((c.tc : Thread Cert.Reference14Ideal.nD Cert.Reference14Ideal.τ).loc Cert.Reference14Ideal.main_arg30) = m ((c.tc : Thread Cert.Reference14Ideal.nD Cert.Reference14Ideal.τ).loc Cert.Reference14Ideal.main_arg30)
      ∧ r.2.mem ((c.tc : Thread Cert.Reference14Ideal.nD Cert.Reference14Ideal.τ).loc Cert.Reference14Ideal.main_arg31) = m ((c.tc : Thread Cert.Reference14Ideal.nD Cert.Reference14Ideal.τ).loc Cert.Reference14Ideal.main_arg31)
      ∧ r.2.mem ((c.tc : Thread Cert.Reference14Ideal.nD Cert.Reference14Ideal.τ).loc Cert.Reference14Ideal.main_arg32) = m ((c.tc : Thread Cert.Reference14Ideal.nD Cert.Reference14Ideal.τ).loc Cert.Reference14Ideal.main_arg32)
      ∧ r.2.mem ((c.tc : Thread Cert.Reference14Ideal.nD Cert.Reference14Ideal.τ).loc Cert.Reference14Ideal.main_arg33) = m ((c.tc : Thread Cert.Reference14Ideal.nD Cert.Reference14Ideal.τ).loc Cert.Reference14Ideal.main_arg33)
      ∧ r.2.mem ((c.tc : Thread Cert.Reference14Ideal.nD Cert.Reference14Ideal.τ).loc Cert.Reference14Ideal.main_arg34) = m ((c.tc : Thread Cert.Reference14Ideal.nD Cert.Reference14Ideal.τ).loc Cert.Reference14Ideal.main_arg34)
      ∧ r.2.mem ((c.tc : Thread Cert.Reference14Ideal.nD Cert.Reference14Ideal.τ).loc Cert.Reference14Ideal.main_arg35) = m ((c.tc : Thread Cert.Reference14Ideal.nD Cert.Reference14Ideal.τ).loc Cert.Reference14Ideal.main_arg35)
      ∧ r.2.mem ((c.tc : Thread Cert.Reference14Ideal.nD Cert.Reference14Ideal.τ).loc Cert.Reference14Ideal.main_arg36) = m ((c.tc : Thread Cert.Reference14Ideal.nD Cert.Reference14Ideal.τ).loc Cert.Reference14Ideal.main_arg36)
      ∧ r.2.mem ((c.tc : Thread Cert.Reference14Ideal.nD Cert.Reference14Ideal.τ).loc Cert.Reference14Ideal.main_arg37) = m ((c.tc : Thread Cert.Reference14Ideal.nD Cert.Reference14Ideal.τ).loc Cert.Reference14Ideal.main_arg37)
      ∧ r.2.mem ((c.tc : Thread Cert.Reference14Ideal.nD Cert.Reference14Ideal.τ).loc Cert.Reference14Ideal.main_arg38) = m ((c.tc : Thread Cert.Reference14Ideal.nD Cert.Reference14Ideal.τ).loc Cert.Reference14Ideal.main_arg38)
      ∧ r.2.mem ((c.tc : Thread Cert.Reference14Ideal.nD Cert.Reference14Ideal.τ).loc Cert.Reference14Ideal.main_arg39) = m ((c.tc : Thread Cert.Reference14Ideal.nD Cert.Reference14Ideal.τ).loc Cert.Reference14Ideal.main_arg39))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v16)) (v1 : (c : Dev Cert.Kernel6Ideal.nD) → Buf (Elt Ideal) ((c.tc : Thread Cert.Kernel6Ideal.nD Cert.Kernel6Ideal.τ).loc Cert.Kernel6Ideal.main_v19)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_v19) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v56) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4)) (v1 : (c : Dev Cert.Kernel8Ideal.nD) → Buf (Elt Ideal) ((c.tc : Thread Cert.Kernel8Ideal.nD Cert.Kernel8Ideal.τ).loc Cert.Kernel8Ideal.main_v3_3)) (v2 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_v3_3) = v1 c
          ∧ r.2.mem ((c.tc : Thread Cert.Kernel8Ideal.nD Cert.Kernel8Ideal.τ).loc Cert.Kernel8Ideal.main_v7) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v71) = v0 c
          ∧ r.2.mem ((c.tc : Thread Cert.Reference8Ideal.nD Cert.Reference8Ideal.τ).loc Cert.Reference8Ideal.main_v64) = v1 c
          ∧ r.2.mem ((c.tc : Thread Cert.Reference8Ideal.nD Cert.Reference8Ideal.τ).loc Cert.Reference8Ideal.main_v75) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4)) (v1 : (c : Dev Cert.Kernel11Ideal.nD) → Buf (Elt Ideal) ((c.tc : Thread Cert.Kernel11Ideal.nD Cert.Kernel11Ideal.τ).loc Cert.Kernel11Ideal.main_v9)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_v9) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)
      ∧ m' ((c.tc : Thread Cert.Reference13Ideal.nD Cert.Reference13Ideal.τ).loc Cert.Reference13Ideal.main_arg12) = m ((c.tc : Thread Cert.Kernel13Ideal.nD Cert.Kernel13Ideal.τ).loc Cert.Kernel13Ideal.main_arg12)
      ∧ m' ((c.tc : Thread Cert.Reference13Ideal.nD Cert.Reference13Ideal.τ).loc Cert.Reference13Ideal.main_arg13) = m ((c.tc : Thread Cert.Kernel13Ideal.nD Cert.Kernel13Ideal.τ).loc Cert.Kernel13Ideal.main_arg13)
      ∧ m' ((c.tc : Thread Cert.Reference13Ideal.nD Cert.Reference13Ideal.τ).loc Cert.Reference13Ideal.main_arg14) = m ((c.tc : Thread Cert.Kernel13Ideal.nD Cert.Kernel13Ideal.τ).loc Cert.Kernel13Ideal.main_arg14)
      ∧ m' ((c.tc : Thread Cert.Reference13Ideal.nD Cert.Reference13Ideal.τ).loc Cert.Reference13Ideal.main_arg15) = m ((c.tc : Thread Cert.Kernel13Ideal.nD Cert.Kernel13Ideal.τ).loc Cert.Kernel13Ideal.main_arg15)
      ∧ m' ((c.tc : Thread Cert.Reference13Ideal.nD Cert.Reference13Ideal.τ).loc Cert.Reference13Ideal.main_arg16) = m ((c.tc : Thread Cert.Kernel13Ideal.nD Cert.Kernel13Ideal.τ).loc Cert.Kernel13Ideal.main_arg16)
      ∧ m' ((c.tc : Thread Cert.Reference13Ideal.nD Cert.Reference13Ideal.τ).loc Cert.Reference13Ideal.main_arg17) = m ((c.tc : Thread Cert.Kernel13Ideal.nD Cert.Kernel13Ideal.τ).loc Cert.Kernel13Ideal.main_arg17)
      ∧ m' ((c.tc : Thread Cert.Reference13Ideal.nD Cert.Reference13Ideal.τ).loc Cert.Reference13Ideal.main_arg18) = m ((c.tc : Thread Cert.Kernel13Ideal.nD Cert.Kernel13Ideal.τ).loc Cert.Kernel13Ideal.main_arg18)
      ∧ m' ((c.tc : Thread Cert.Reference13Ideal.nD Cert.Reference13Ideal.τ).loc Cert.Reference13Ideal.main_arg19) = m ((c.tc : Thread Cert.Kernel13Ideal.nD Cert.Kernel13Ideal.τ).loc Cert.Kernel13Ideal.main_arg19)
      ∧ m' ((c.tc : Thread Cert.Reference13Ideal.nD Cert.Reference13Ideal.τ).loc Cert.Reference13Ideal.main_arg20) = m ((c.tc : Thread Cert.Kernel13Ideal.nD Cert.Kernel13Ideal.τ).loc Cert.Kernel13Ideal.main_arg20)
      ∧ m' ((c.tc : Thread Cert.Reference13Ideal.nD Cert.Reference13Ideal.τ).loc Cert.Reference13Ideal.main_arg21) = m ((c.tc : Thread Cert.Kernel13Ideal.nD Cert.Kernel13Ideal.τ).loc Cert.Kernel13Ideal.main_arg21)
      ∧ m' ((c.tc : Thread Cert.Reference13Ideal.nD Cert.Reference13Ideal.τ).loc Cert.Reference13Ideal.main_arg22) = m ((c.tc : Thread Cert.Kernel13Ideal.nD Cert.Kernel13Ideal.τ).loc Cert.Kernel13Ideal.main_arg22)
      ∧ m' ((c.tc : Thread Cert.Reference13Ideal.nD Cert.Reference13Ideal.τ).loc Cert.Reference13Ideal.main_arg23) = m ((c.tc : Thread Cert.Kernel13Ideal.nD Cert.Kernel13Ideal.τ).loc Cert.Kernel13Ideal.main_arg23)) →
    ∃ (v0 : (c : Dev Cert.Kernel13Ideal.nD) → Buf (Elt Ideal) ((c.tc : Thread Cert.Kernel13Ideal.nD Cert.Kernel13Ideal.τ).loc Cert.Kernel13Ideal.main_v5)) (v1 : (c : Dev Cert.Kernel13Ideal.nD) → Buf (Elt Ideal) ((c.tc : Thread Cert.Kernel13Ideal.nD Cert.Kernel13Ideal.τ).loc Cert.Kernel13Ideal.main_v6)) (v2 : (c : Dev Cert.Kernel13Ideal.nD) → Buf (Elt Ideal) ((c.tc : Thread Cert.Kernel13Ideal.nD Cert.Kernel13Ideal.τ).loc Cert.Kernel13Ideal.main_v7)) (v3 : (c : Dev Cert.Kernel13Ideal.nD) → Buf (Elt Ideal) ((c.tc : Thread Cert.Kernel13Ideal.nD Cert.Kernel13Ideal.τ).loc Cert.Kernel13Ideal.main_v13)) (v4 : (c : Dev Cert.Kernel13Ideal.nD) → Buf (Elt Ideal) ((c.tc : Thread Cert.Kernel13Ideal.nD Cert.Kernel13Ideal.τ).loc Cert.Kernel13Ideal.main_v14)) (v5 : (c : Dev Cert.Kernel13Ideal.nD) → Buf (Elt Ideal) ((c.tc : Thread Cert.Kernel13Ideal.nD Cert.Kernel13Ideal.τ).loc Cert.Kernel13Ideal.main_v15)) (v6 : (c : Dev Cert.Kernel13Ideal.nD) → Buf (Elt Ideal) ((c.tc : Thread Cert.Kernel13Ideal.nD Cert.Kernel13Ideal.τ).loc Cert.Kernel13Ideal.main_v21)) (v7 : (c : Dev Cert.Kernel13Ideal.nD) → Buf (Elt Ideal) ((c.tc : Thread Cert.Kernel13Ideal.nD Cert.Kernel13Ideal.τ).loc Cert.Kernel13Ideal.main_v22)) (v8 : (c : Dev Cert.Kernel13Ideal.nD) → Buf (Elt Ideal) ((c.tc : Thread Cert.Kernel13Ideal.nD Cert.Kernel13Ideal.τ).loc Cert.Kernel13Ideal.main_v23)) (v9 : (c : Dev Cert.Kernel13Ideal.nD) → Buf (Elt Ideal) ((c.tc : Thread Cert.Kernel13Ideal.nD Cert.Kernel13Ideal.τ).loc Cert.Kernel13Ideal.main_v29)) (v10 : (c : Dev Cert.Kernel13Ideal.nD) → Buf (Elt Ideal) ((c.tc : Thread Cert.Kernel13Ideal.nD Cert.Kernel13Ideal.τ).loc Cert.Kernel13Ideal.main_v30)) (v11 : (c : Dev Cert.Kernel13Ideal.nD) → Buf (Elt Ideal) ((c.tc : Thread Cert.Kernel13Ideal.nD Cert.Kernel13Ideal.τ).loc Cert.Kernel13Ideal.main_v31)) (v12 : (c : Dev Cert.Kernel13Ideal.nD) → Buf (Elt Ideal) ((c.tc : Thread Cert.Kernel13Ideal.nD Cert.Kernel13Ideal.τ).loc Cert.Kernel13Ideal.main_v37)) (v13 : (c : Dev Cert.Kernel13Ideal.nD) → Buf (Elt Ideal) ((c.tc : Thread Cert.Kernel13Ideal.nD Cert.Kernel13Ideal.τ).loc Cert.Kernel13Ideal.main_v38)) (v14 : (c : Dev Cert.Kernel13Ideal.nD) → Buf (Elt Ideal) ((c.tc : Thread Cert.Kernel13Ideal.nD Cert.Kernel13Ideal.τ).loc Cert.Kernel13Ideal.main_v39)) (v15 : (c : Dev Cert.Kernel13Ideal.nD) → Buf (Elt Ideal) ((c.tc : Thread Cert.Kernel13Ideal.nD Cert.Kernel13Ideal.τ).loc Cert.Kernel13Ideal.main_v45)) (v16 : (c : Dev Cert.Kernel13Ideal.nD) → Buf (Elt Ideal) ((c.tc : Thread Cert.Kernel13Ideal.nD Cert.Kernel13Ideal.τ).loc Cert.Kernel13Ideal.main_v46)) (v17 : (c : Dev Cert.Kernel13Ideal.nD) → Buf (Elt Ideal) ((c.tc : Thread Cert.Kernel13Ideal.nD Cert.Kernel13Ideal.τ).loc Cert.Kernel13Ideal.main_v47)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_v6) = v1 c
          ∧ r.2.mem ((c.tc : Thread Cert.Kernel13Ideal.nD Cert.Kernel13Ideal.τ).loc Cert.Kernel13Ideal.main_v7) = v2 c
          ∧ r.2.mem ((c.tc : Thread Cert.Kernel13Ideal.nD Cert.Kernel13Ideal.τ).loc Cert.Kernel13Ideal.main_v13) = v3 c
          ∧ r.2.mem ((c.tc : Thread Cert.Kernel13Ideal.nD Cert.Kernel13Ideal.τ).loc Cert.Kernel13Ideal.main_v14) = v4 c
          ∧ r.2.mem ((c.tc : Thread Cert.Kernel13Ideal.nD Cert.Kernel13Ideal.τ).loc Cert.Kernel13Ideal.main_v15) = v5 c
          ∧ r.2.mem ((c.tc : Thread Cert.Kernel13Ideal.nD Cert.Kernel13Ideal.τ).loc Cert.Kernel13Ideal.main_v21) = v6 c
          ∧ r.2.mem ((c.tc : Thread Cert.Kernel13Ideal.nD Cert.Kernel13Ideal.τ).loc Cert.Kernel13Ideal.main_v22) = v7 c
          ∧ r.2.mem ((c.tc : Thread Cert.Kernel13Ideal.nD Cert.Kernel13Ideal.τ).loc Cert.Kernel13Ideal.main_v23) = v8 c
          ∧ r.2.mem ((c.tc : Thread Cert.Kernel13Ideal.nD Cert.Kernel13Ideal.τ).loc Cert.Kernel13Ideal.main_v29) = v9 c
          ∧ r.2.mem ((c.tc : Thread Cert.Kernel13Ideal.nD Cert.Kernel13Ideal.τ).loc Cert.Kernel13Ideal.main_v30) = v10 c
          ∧ r.2.mem ((c.tc : Thread Cert.Kernel13Ideal.nD Cert.Kernel13Ideal.τ).loc Cert.Kernel13Ideal.main_v31) = v11 c
          ∧ r.2.mem ((c.tc : Thread Cert.Kernel13Ideal.nD Cert.Kernel13Ideal.τ).loc Cert.Kernel13Ideal.main_v37) = v12 c
          ∧ r.2.mem ((c.tc : Thread Cert.Kernel13Ideal.nD Cert.Kernel13Ideal.τ).loc Cert.Kernel13Ideal.main_v38) = v13 c
          ∧ r.2.mem ((c.tc : Thread Cert.Kernel13Ideal.nD Cert.Kernel13Ideal.τ).loc Cert.Kernel13Ideal.main_v39) = v14 c
          ∧ r.2.mem ((c.tc : Thread Cert.Kernel13Ideal.nD Cert.Kernel13Ideal.τ).loc Cert.Kernel13Ideal.main_v45) = v15 c
          ∧ r.2.mem ((c.tc : Thread Cert.Kernel13Ideal.nD Cert.Kernel13Ideal.τ).loc Cert.Kernel13Ideal.main_v46) = v16 c
          ∧ r.2.mem ((c.tc : Thread Cert.Kernel13Ideal.nD Cert.Kernel13Ideal.τ).loc Cert.Kernel13Ideal.main_v47) = v17 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11)
          ∧ r.2.mem ((c.tc : Thread Cert.Kernel13Ideal.nD Cert.Kernel13Ideal.τ).loc Cert.Kernel13Ideal.main_arg12) = m ((c.tc : Thread Cert.Kernel13Ideal.nD Cert.Kernel13Ideal.τ).loc Cert.Kernel13Ideal.main_arg12)
          ∧ r.2.mem ((c.tc : Thread Cert.Kernel13Ideal.nD Cert.Kernel13Ideal.τ).loc Cert.Kernel13Ideal.main_arg13) = m ((c.tc : Thread Cert.Kernel13Ideal.nD Cert.Kernel13Ideal.τ).loc Cert.Kernel13Ideal.main_arg13)
          ∧ r.2.mem ((c.tc : Thread Cert.Kernel13Ideal.nD Cert.Kernel13Ideal.τ).loc Cert.Kernel13Ideal.main_arg14) = m ((c.tc : Thread Cert.Kernel13Ideal.nD Cert.Kernel13Ideal.τ).loc Cert.Kernel13Ideal.main_arg14)
          ∧ r.2.mem ((c.tc : Thread Cert.Kernel13Ideal.nD Cert.Kernel13Ideal.τ).loc Cert.Kernel13Ideal.main_arg15) = m ((c.tc : Thread Cert.Kernel13Ideal.nD Cert.Kernel13Ideal.τ).loc Cert.Kernel13Ideal.main_arg15)
          ∧ r.2.mem ((c.tc : Thread Cert.Kernel13Ideal.nD Cert.Kernel13Ideal.τ).loc Cert.Kernel13Ideal.main_arg16) = m ((c.tc : Thread Cert.Kernel13Ideal.nD Cert.Kernel13Ideal.τ).loc Cert.Kernel13Ideal.main_arg16)
          ∧ r.2.mem ((c.tc : Thread Cert.Kernel13Ideal.nD Cert.Kernel13Ideal.τ).loc Cert.Kernel13Ideal.main_arg17) = m ((c.tc : Thread Cert.Kernel13Ideal.nD Cert.Kernel13Ideal.τ).loc Cert.Kernel13Ideal.main_arg17)
          ∧ r.2.mem ((c.tc : Thread Cert.Kernel13Ideal.nD Cert.Kernel13Ideal.τ).loc Cert.Kernel13Ideal.main_arg18) = m ((c.tc : Thread Cert.Kernel13Ideal.nD Cert.Kernel13Ideal.τ).loc Cert.Kernel13Ideal.main_arg18)
          ∧ r.2.mem ((c.tc : Thread Cert.Kernel13Ideal.nD Cert.Kernel13Ideal.τ).loc Cert.Kernel13Ideal.main_arg19) = m ((c.tc : Thread Cert.Kernel13Ideal.nD Cert.Kernel13Ideal.τ).loc Cert.Kernel13Ideal.main_arg19)
          ∧ r.2.mem ((c.tc : Thread Cert.Kernel13Ideal.nD Cert.Kernel13Ideal.τ).loc Cert.Kernel13Ideal.main_arg20) = m ((c.tc : Thread Cert.Kernel13Ideal.nD Cert.Kernel13Ideal.τ).loc Cert.Kernel13Ideal.main_arg20)
          ∧ r.2.mem ((c.tc : Thread Cert.Kernel13Ideal.nD Cert.Kernel13Ideal.τ).loc Cert.Kernel13Ideal.main_arg21) = m ((c.tc : Thread Cert.Kernel13Ideal.nD Cert.Kernel13Ideal.τ).loc Cert.Kernel13Ideal.main_arg21)
          ∧ r.2.mem ((c.tc : Thread Cert.Kernel13Ideal.nD Cert.Kernel13Ideal.τ).loc Cert.Kernel13Ideal.main_arg22) = m ((c.tc : Thread Cert.Kernel13Ideal.nD Cert.Kernel13Ideal.τ).loc Cert.Kernel13Ideal.main_arg22)
          ∧ r.2.mem ((c.tc : Thread Cert.Kernel13Ideal.nD Cert.Kernel13Ideal.τ).loc Cert.Kernel13Ideal.main_arg23) = m ((c.tc : Thread Cert.Kernel13Ideal.nD Cert.Kernel13Ideal.τ).loc Cert.Kernel13Ideal.main_arg23))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_v47) = v3 c
          ∧ r.2.mem ((c.tc : Thread Cert.Reference13Ideal.nD Cert.Reference13Ideal.τ).loc Cert.Reference13Ideal.main_v28) = v4 c
          ∧ r.2.mem ((c.tc : Thread Cert.Reference13Ideal.nD Cert.Reference13Ideal.τ).loc Cert.Reference13Ideal.main_v34) = v5 c
          ∧ r.2.mem ((c.tc : Thread Cert.Reference13Ideal.nD Cert.Reference13Ideal.τ).loc Cert.Reference13Ideal.main_v71) = v6 c
          ∧ r.2.mem ((c.tc : Thread Cert.Reference13Ideal.nD Cert.Reference13Ideal.τ).loc Cert.Reference13Ideal.main_v52) = v7 c
          ∧ r.2.mem ((c.tc : Thread Cert.Reference13Ideal.nD Cert.Reference13Ideal.τ).loc Cert.Reference13Ideal.main_v58) = v8 c
          ∧ r.2.mem ((c.tc : Thread Cert.Reference13Ideal.nD Cert.Reference13Ideal.τ).loc Cert.Reference13Ideal.main_v95) = v9 c
          ∧ r.2.mem ((c.tc : Thread Cert.Reference13Ideal.nD Cert.Reference13Ideal.τ).loc Cert.Reference13Ideal.main_v76) = v10 c
          ∧ r.2.mem ((c.tc : Thread Cert.Reference13Ideal.nD Cert.Reference13Ideal.τ).loc Cert.Reference13Ideal.main_v82) = v11 c
          ∧ r.2.mem ((c.tc : Thread Cert.Reference13Ideal.nD Cert.Reference13Ideal.τ).loc Cert.Reference13Ideal.main_v119) = v12 c
          ∧ r.2.mem ((c.tc : Thread Cert.Reference13Ideal.nD Cert.Reference13Ideal.τ).loc Cert.Reference13Ideal.main_v100) = v13 c
          ∧ r.2.mem ((c.tc : Thread Cert.Reference13Ideal.nD Cert.Reference13Ideal.τ).loc Cert.Reference13Ideal.main_v106) = v14 c
          ∧ r.2.mem ((c.tc : Thread Cert.Reference13Ideal.nD Cert.Reference13Ideal.τ).loc Cert.Reference13Ideal.main_v143) = v15 c
          ∧ r.2.mem ((c.tc : Thread Cert.Reference13Ideal.nD Cert.Reference13Ideal.τ).loc Cert.Reference13Ideal.main_v124) = v16 c
          ∧ r.2.mem ((c.tc : Thread Cert.Reference13Ideal.nD Cert.Reference13Ideal.τ).loc Cert.Reference13Ideal.main_v130) = v17 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11)
          ∧ r.2.mem ((c.tc : Thread Cert.Reference13Ideal.nD Cert.Reference13Ideal.τ).loc Cert.Reference13Ideal.main_arg12) = m' ((c.tc : Thread Cert.Reference13Ideal.nD Cert.Reference13Ideal.τ).loc Cert.Reference13Ideal.main_arg12)
          ∧ r.2.mem ((c.tc : Thread Cert.Reference13Ideal.nD Cert.Reference13Ideal.τ).loc Cert.Reference13Ideal.main_arg13) = m' ((c.tc : Thread Cert.Reference13Ideal.nD Cert.Reference13Ideal.τ).loc Cert.Reference13Ideal.main_arg13)
          ∧ r.2.mem ((c.tc : Thread Cert.Reference13Ideal.nD Cert.Reference13Ideal.τ).loc Cert.Reference13Ideal.main_arg14) = m' ((c.tc : Thread Cert.Reference13Ideal.nD Cert.Reference13Ideal.τ).loc Cert.Reference13Ideal.main_arg14)
          ∧ r.2.mem ((c.tc : Thread Cert.Reference13Ideal.nD Cert.Reference13Ideal.τ).loc Cert.Reference13Ideal.main_arg15) = m' ((c.tc : Thread Cert.Reference13Ideal.nD Cert.Reference13Ideal.τ).loc Cert.Reference13Ideal.main_arg15)
          ∧ r.2.mem ((c.tc : Thread Cert.Reference13Ideal.nD Cert.Reference13Ideal.τ).loc Cert.Reference13Ideal.main_arg16) = m' ((c.tc : Thread Cert.Reference13Ideal.nD Cert.Reference13Ideal.τ).loc Cert.Reference13Ideal.main_arg16)
          ∧ r.2.mem ((c.tc : Thread Cert.Reference13Ideal.nD Cert.Reference13Ideal.τ).loc Cert.Reference13Ideal.main_arg17) = m' ((c.tc : Thread Cert.Reference13Ideal.nD Cert.Reference13Ideal.τ).loc Cert.Reference13Ideal.main_arg17)
          ∧ r.2.mem ((c.tc : Thread Cert.Reference13Ideal.nD Cert.Reference13Ideal.τ).loc Cert.Reference13Ideal.main_arg18) = m' ((c.tc : Thread Cert.Reference13Ideal.nD Cert.Reference13Ideal.τ).loc Cert.Reference13Ideal.main_arg18)
          ∧ r.2.mem ((c.tc : Thread Cert.Reference13Ideal.nD Cert.Reference13Ideal.τ).loc Cert.Reference13Ideal.main_arg19) = m' ((c.tc : Thread Cert.Reference13Ideal.nD Cert.Reference13Ideal.τ).loc Cert.Reference13Ideal.main_arg19)
          ∧ r.2.mem ((c.tc : Thread Cert.Reference13Ideal.nD Cert.Reference13Ideal.τ).loc Cert.Reference13Ideal.main_arg20) = m' ((c.tc : Thread Cert.Reference13Ideal.nD Cert.Reference13Ideal.τ).loc Cert.Reference13Ideal.main_arg20)
          ∧ r.2.mem ((c.tc : Thread Cert.Reference13Ideal.nD Cert.Reference13Ideal.τ).loc Cert.Reference13Ideal.main_arg21) = m' ((c.tc : Thread Cert.Reference13Ideal.nD Cert.Reference13Ideal.τ).loc Cert.Reference13Ideal.main_arg21)
          ∧ r.2.mem ((c.tc : Thread Cert.Reference13Ideal.nD Cert.Reference13Ideal.τ).loc Cert.Reference13Ideal.main_arg22) = m' ((c.tc : Thread Cert.Reference13Ideal.nD Cert.Reference13Ideal.τ).loc Cert.Reference13Ideal.main_arg22)
          ∧ r.2.mem ((c.tc : Thread Cert.Reference13Ideal.nD Cert.Reference13Ideal.τ).loc Cert.Reference13Ideal.main_arg23) = m' ((c.tc : Thread Cert.Reference13Ideal.nD Cert.Reference13Ideal.τ).loc Cert.Reference13Ideal.main_arg23))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)
      ∧ m' ((c.tc : Thread Cert.Reference14Ideal.nD Cert.Reference14Ideal.τ).loc Cert.Reference14Ideal.main_arg14) = m ((c.tc : Thread Cert.Kernel14Ideal.nD Cert.Kernel14Ideal.τ).loc Cert.Kernel14Ideal.main_arg14)
      ∧ m' ((c.tc : Thread Cert.Reference14Ideal.nD Cert.Reference14Ideal.τ).loc Cert.Reference14Ideal.main_arg15) = m ((c.tc : Thread Cert.Kernel14Ideal.nD Cert.Kernel14Ideal.τ).loc Cert.Kernel14Ideal.main_arg15)
      ∧ m' ((c.tc : Thread Cert.Reference14Ideal.nD Cert.Reference14Ideal.τ).loc Cert.Reference14Ideal.main_arg16) = m ((c.tc : Thread Cert.Kernel14Ideal.nD Cert.Kernel14Ideal.τ).loc Cert.Kernel14Ideal.main_arg16)
      ∧ m' ((c.tc : Thread Cert.Reference14Ideal.nD Cert.Reference14Ideal.τ).loc Cert.Reference14Ideal.main_arg17) = m ((c.tc : Thread Cert.Kernel14Ideal.nD Cert.Kernel14Ideal.τ).loc Cert.Kernel14Ideal.main_arg17)
      ∧ m' ((c.tc : Thread Cert.Reference14Ideal.nD Cert.Reference14Ideal.τ).loc Cert.Reference14Ideal.main_arg18) = m ((c.tc : Thread Cert.Kernel14Ideal.nD Cert.Kernel14Ideal.τ).loc Cert.Kernel14Ideal.main_arg18)
      ∧ m' ((c.tc : Thread Cert.Reference14Ideal.nD Cert.Reference14Ideal.τ).loc Cert.Reference14Ideal.main_arg19) = m ((c.tc : Thread Cert.Kernel14Ideal.nD Cert.Kernel14Ideal.τ).loc Cert.Kernel14Ideal.main_arg19)
      ∧ m' ((c.tc : Thread Cert.Reference14Ideal.nD Cert.Reference14Ideal.τ).loc Cert.Reference14Ideal.main_arg20) = m ((c.tc : Thread Cert.Kernel14Ideal.nD Cert.Kernel14Ideal.τ).loc Cert.Kernel14Ideal.main_arg20)
      ∧ m' ((c.tc : Thread Cert.Reference14Ideal.nD Cert.Reference14Ideal.τ).loc Cert.Reference14Ideal.main_arg21) = m ((c.tc : Thread Cert.Kernel14Ideal.nD Cert.Kernel14Ideal.τ).loc Cert.Kernel14Ideal.main_arg21)
      ∧ m' ((c.tc : Thread Cert.Reference14Ideal.nD Cert.Reference14Ideal.τ).loc Cert.Reference14Ideal.main_arg22) = m ((c.tc : Thread Cert.Kernel14Ideal.nD Cert.Kernel14Ideal.τ).loc Cert.Kernel14Ideal.main_arg22)
      ∧ m' ((c.tc : Thread Cert.Reference14Ideal.nD Cert.Reference14Ideal.τ).loc Cert.Reference14Ideal.main_arg23) = m ((c.tc : Thread Cert.Kernel14Ideal.nD Cert.Kernel14Ideal.τ).loc Cert.Kernel14Ideal.main_arg23)
      ∧ m' ((c.tc : Thread Cert.Reference14Ideal.nD Cert.Reference14Ideal.τ).loc Cert.Reference14Ideal.main_arg24) = m ((c.tc : Thread Cert.Kernel14Ideal.nD Cert.Kernel14Ideal.τ).loc Cert.Kernel14Ideal.main_arg24)
      ∧ m' ((c.tc : Thread Cert.Reference14Ideal.nD Cert.Reference14Ideal.τ).loc Cert.Reference14Ideal.main_arg25) = m ((c.tc : Thread Cert.Kernel14Ideal.nD Cert.Kernel14Ideal.τ).loc Cert.Kernel14Ideal.main_arg25)
      ∧ m' ((c.tc : Thread Cert.Reference14Ideal.nD Cert.Reference14Ideal.τ).loc Cert.Reference14Ideal.main_arg26) = m ((c.tc : Thread Cert.Kernel14Ideal.nD Cert.Kernel14Ideal.τ).loc Cert.Kernel14Ideal.main_arg26)
      ∧ m' ((c.tc : Thread Cert.Reference14Ideal.nD Cert.Reference14Ideal.τ).loc Cert.Reference14Ideal.main_arg27) = m ((c.tc : Thread Cert.Kernel14Ideal.nD Cert.Kernel14Ideal.τ).loc Cert.Kernel14Ideal.main_arg27)
      ∧ m' ((c.tc : Thread Cert.Reference14Ideal.nD Cert.Reference14Ideal.τ).loc Cert.Reference14Ideal.main_arg28) = m ((c.tc : Thread Cert.Kernel14Ideal.nD Cert.Kernel14Ideal.τ).loc Cert.Kernel14Ideal.main_arg28)
      ∧ m' ((c.tc : Thread Cert.Reference14Ideal.nD Cert.Reference14Ideal.τ).loc Cert.Reference14Ideal.main_arg29) = m ((c.tc : Thread Cert.Kernel14Ideal.nD Cert.Kernel14Ideal.τ).loc Cert.Kernel14Ideal.main_arg29)
      ∧ m' ((c.tc : Thread Cert.Reference14Ideal.nD Cert.Reference14Ideal.τ).loc Cert.Reference14Ideal.main_arg30) = m ((c.tc : Thread Cert.Kernel14Ideal.nD Cert.Kernel14Ideal.τ).loc Cert.Kernel14Ideal.main_arg30)
      ∧ m' ((c.tc : Thread Cert.Reference14Ideal.nD Cert.Reference14Ideal.τ).loc Cert.Reference14Ideal.main_arg31) = m ((c.tc : Thread Cert.Kernel14Ideal.nD Cert.Kernel14Ideal.τ).loc Cert.Kernel14Ideal.main_arg31)
      ∧ m' ((c.tc : Thread Cert.Reference14Ideal.nD Cert.Reference14Ideal.τ).loc Cert.Reference14Ideal.main_arg32) = m ((c.tc : Thread Cert.Kernel14Ideal.nD Cert.Kernel14Ideal.τ).loc Cert.Kernel14Ideal.main_arg32)
      ∧ m' ((c.tc : Thread Cert.Reference14Ideal.nD Cert.Reference14Ideal.τ).loc Cert.Reference14Ideal.main_arg33) = m ((c.tc : Thread Cert.Kernel14Ideal.nD Cert.Kernel14Ideal.τ).loc Cert.Kernel14Ideal.main_arg33)
      ∧ m' ((c.tc : Thread Cert.Reference14Ideal.nD Cert.Reference14Ideal.τ).loc Cert.Reference14Ideal.main_arg34) = m ((c.tc : Thread Cert.Kernel14Ideal.nD Cert.Kernel14Ideal.τ).loc Cert.Kernel14Ideal.main_arg34)
      ∧ m' ((c.tc : Thread Cert.Reference14Ideal.nD Cert.Reference14Ideal.τ).loc Cert.Reference14Ideal.main_arg35) = m ((c.tc : Thread Cert.Kernel14Ideal.nD Cert.Kernel14Ideal.τ).loc Cert.Kernel14Ideal.main_arg35)
      ∧ m' ((c.tc : Thread Cert.Reference14Ideal.nD Cert.Reference14Ideal.τ).loc Cert.Reference14Ideal.main_arg36) = m ((c.tc : Thread Cert.Kernel14Ideal.nD Cert.Kernel14Ideal.τ).loc Cert.Kernel14Ideal.main_arg36)
      ∧ m' ((c.tc : Thread Cert.Reference14Ideal.nD Cert.Reference14Ideal.τ).loc Cert.Reference14Ideal.main_arg37) = m ((c.tc : Thread Cert.Kernel14Ideal.nD Cert.Kernel14Ideal.τ).loc Cert.Kernel14Ideal.main_arg37)
      ∧ m' ((c.tc : Thread Cert.Reference14Ideal.nD Cert.Reference14Ideal.τ).loc Cert.Reference14Ideal.main_arg38) = m ((c.tc : Thread Cert.Kernel14Ideal.nD Cert.Kernel14Ideal.τ).loc Cert.Kernel14Ideal.main_arg38)
      ∧ m' ((c.tc : Thread Cert.Reference14Ideal.nD Cert.Reference14Ideal.τ).loc Cert.Reference14Ideal.main_arg39) = m ((c.tc : Thread Cert.Kernel14Ideal.nD Cert.Kernel14Ideal.τ).loc Cert.Kernel14Ideal.main_arg39)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v1_0)) (v4 : (c : Dev Cert.Kernel14Ideal.nD) → Buf (Elt Ideal) ((c.tc : Thread Cert.Kernel14Ideal.nD Cert.Kernel14Ideal.τ).loc Cert.Kernel14Ideal.main_v1_1)) (v5 : (c : Dev Cert.Kernel14Ideal.nD) → Buf (Elt Ideal) ((c.tc : Thread Cert.Kernel14Ideal.nD Cert.Kernel14Ideal.τ).loc Cert.Kernel14Ideal.main_v1_2)) (v6 : (c : Dev Cert.Kernel14Ideal.nD) → Buf (Elt Ideal) ((c.tc : Thread Cert.Kernel14Ideal.nD Cert.Kernel14Ideal.τ).loc Cert.Kernel14Ideal.main_v2_0)) (v7 : (c : Dev Cert.Kernel14Ideal.nD) → Buf (Elt Ideal) ((c.tc : Thread Cert.Kernel14Ideal.nD Cert.Kernel14Ideal.τ).loc Cert.Kernel14Ideal.main_v2_1)) (v8 : (c : Dev Cert.Kernel14Ideal.nD) → Buf (Elt Ideal) ((c.tc : Thread Cert.Kernel14Ideal.nD Cert.Kernel14Ideal.τ).loc Cert.Kernel14Ideal.main_v2_2)) (v9 : (c : Dev Cert.Kernel14Ideal.nD) → Buf (Elt Ideal) ((c.tc : Thread Cert.Kernel14Ideal.nD Cert.Kernel14Ideal.τ).loc Cert.Kernel14Ideal.main_v8)) (v10 : (c : Dev Cert.Kernel14Ideal.nD) → Buf (Elt Ideal) ((c.tc : Thread Cert.Kernel14Ideal.nD Cert.Kernel14Ideal.τ).loc Cert.Kernel14Ideal.main_v9)) (v11 : (c : Dev Cert.Kernel14Ideal.nD) → Buf (Elt Ideal) ((c.tc : Thread Cert.Kernel14Ideal.nD Cert.Kernel14Ideal.τ).loc Cert.Kernel14Ideal.main_v10)) (v12 : (c : Dev Cert.Kernel14Ideal.nD) → Buf (Elt Ideal) ((c.tc : Thread Cert.Kernel14Ideal.nD Cert.Kernel14Ideal.τ).loc Cert.Kernel14Ideal.main_v16)) (v13 : (c : Dev Cert.Kernel14Ideal.nD) → Buf (Elt Ideal) ((c.tc : Thread Cert.Kernel14Ideal.nD Cert.Kernel14Ideal.τ).loc Cert.Kernel14Ideal.main_v17)) (v14 : (c : Dev Cert.Kernel14Ideal.nD) → Buf (Elt Ideal) ((c.tc : Thread Cert.Kernel14Ideal.nD Cert.Kernel14Ideal.τ).loc Cert.Kernel14Ideal.main_v18)) (v15 : (c : Dev Cert.Kernel14Ideal.nD) → Buf (Elt Ideal) ((c.tc : Thread Cert.Kernel14Ideal.nD Cert.Kernel14Ideal.τ).loc Cert.Kernel14Ideal.main_v24)) (v16 : (c : Dev Cert.Kernel14Ideal.nD) → Buf (Elt Ideal) ((c.tc : Thread Cert.Kernel14Ideal.nD Cert.Kernel14Ideal.τ).loc Cert.Kernel14Ideal.main_v25)) (v17 : (c : Dev Cert.Kernel14Ideal.nD) → Buf (Elt Ideal) ((c.tc : Thread Cert.Kernel14Ideal.nD Cert.Kernel14Ideal.τ).loc Cert.Kernel14Ideal.main_v26)) (v18 : (c : Dev Cert.Kernel14Ideal.nD) → Buf (Elt Ideal) ((c.tc : Thread Cert.Kernel14Ideal.nD Cert.Kernel14Ideal.τ).loc Cert.Kernel14Ideal.main_v27_0)) (v19 : (c : Dev Cert.Kernel14Ideal.nD) → Buf (Elt Ideal) ((c.tc : Thread Cert.Kernel14Ideal.nD Cert.Kernel14Ideal.τ).loc Cert.Kernel14Ideal.main_v27_1)) (v20 : (c : Dev Cert.Kernel14Ideal.nD) → Buf (Elt Ideal) ((c.tc : Thread Cert.Kernel14Ideal.nD Cert.Kernel14Ideal.τ).loc Cert.Kernel14Ideal.main_v27_2)) (v21 : (c : Dev Cert.Kernel14Ideal.nD) → Buf (Elt Ideal) ((c.tc : Thread Cert.Kernel14Ideal.nD Cert.Kernel14Ideal.τ).loc Cert.Kernel14Ideal.main_v33)) (v22 : (c : Dev Cert.Kernel14Ideal.nD) → Buf (Elt Ideal) ((c.tc : Thread Cert.Kernel14Ideal.nD Cert.Kernel14Ideal.τ).loc Cert.Kernel14Ideal.main_v34)) (v23 : (c : Dev Cert.Kernel14Ideal.nD) → Buf (Elt Ideal) ((c.tc : Thread Cert.Kernel14Ideal.nD Cert.Kernel14Ideal.τ).loc Cert.Kernel14Ideal.main_v35)) (v24 : (c : Dev Cert.Kernel14Ideal.nD) → Buf (Elt Ideal) ((c.tc : Thread Cert.Kernel14Ideal.nD Cert.Kernel14Ideal.τ).loc Cert.Kernel14Ideal.main_v36_0)) (v25 : (c : Dev Cert.Kernel14Ideal.nD) → Buf (Elt Ideal) ((c.tc : Thread Cert.Kernel14Ideal.nD Cert.Kernel14Ideal.τ).loc Cert.Kernel14Ideal.main_v36_1)) (v26 : (c : Dev Cert.Kernel14Ideal.nD) → Buf (Elt Ideal) ((c.tc : Thread Cert.Kernel14Ideal.nD Cert.Kernel14Ideal.τ).loc Cert.Kernel14Ideal.main_v36_2)) (v27 : (c : Dev Cert.Kernel14Ideal.nD) → Buf (Elt Ideal) ((c.tc : Thread Cert.Kernel14Ideal.nD Cert.Kernel14Ideal.τ).loc Cert.Kernel14Ideal.main_v42)) (v28 : (c : Dev Cert.Kernel14Ideal.nD) → Buf (Elt Ideal) ((c.tc : Thread Cert.Kernel14Ideal.nD Cert.Kernel14Ideal.τ).loc Cert.Kernel14Ideal.main_v43)) (v29 : (c : Dev Cert.Kernel14Ideal.nD) → Buf (Elt Ideal) ((c.tc : Thread Cert.Kernel14Ideal.nD Cert.Kernel14Ideal.τ).loc Cert.Kernel14Ideal.main_v44)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v1_0) = v3 c
          ∧ r.2.mem ((c.tc : Thread Cert.Kernel14Ideal.nD Cert.Kernel14Ideal.τ).loc Cert.Kernel14Ideal.main_v1_1) = v4 c
          ∧ r.2.mem ((c.tc : Thread Cert.Kernel14Ideal.nD Cert.Kernel14Ideal.τ).loc Cert.Kernel14Ideal.main_v1_2) = v5 c
          ∧ r.2.mem ((c.tc : Thread Cert.Kernel14Ideal.nD Cert.Kernel14Ideal.τ).loc Cert.Kernel14Ideal.main_v2_0) = v6 c
          ∧ r.2.mem ((c.tc : Thread Cert.Kernel14Ideal.nD Cert.Kernel14Ideal.τ).loc Cert.Kernel14Ideal.main_v2_1) = v7 c
          ∧ r.2.mem ((c.tc : Thread Cert.Kernel14Ideal.nD Cert.Kernel14Ideal.τ).loc Cert.Kernel14Ideal.main_v2_2) = v8 c
          ∧ r.2.mem ((c.tc : Thread Cert.Kernel14Ideal.nD Cert.Kernel14Ideal.τ).loc Cert.Kernel14Ideal.main_v8) = v9 c
          ∧ r.2.mem ((c.tc : Thread Cert.Kernel14Ideal.nD Cert.Kernel14Ideal.τ).loc Cert.Kernel14Ideal.main_v9) = v10 c
          ∧ r.2.mem ((c.tc : Thread Cert.Kernel14Ideal.nD Cert.Kernel14Ideal.τ).loc Cert.Kernel14Ideal.main_v10) = v11 c
          ∧ r.2.mem ((c.tc : Thread Cert.Kernel14Ideal.nD Cert.Kernel14Ideal.τ).loc Cert.Kernel14Ideal.main_v16) = v12 c
          ∧ r.2.mem ((c.tc : Thread Cert.Kernel14Ideal.nD Cert.Kernel14Ideal.τ).loc Cert.Kernel14Ideal.main_v17) = v13 c
          ∧ r.2.mem ((c.tc : Thread Cert.Kernel14Ideal.nD Cert.Kernel14Ideal.τ).loc Cert.Kernel14Ideal.main_v18) = v14 c
          ∧ r.2.mem ((c.tc : Thread Cert.Kernel14Ideal.nD Cert.Kernel14Ideal.τ).loc Cert.Kernel14Ideal.main_v24) = v15 c
          ∧ r.2.mem ((c.tc : Thread Cert.Kernel14Ideal.nD Cert.Kernel14Ideal.τ).loc Cert.Kernel14Ideal.main_v25) = v16 c
          ∧ r.2.mem ((c.tc : Thread Cert.Kernel14Ideal.nD Cert.Kernel14Ideal.τ).loc Cert.Kernel14Ideal.main_v26) = v17 c
          ∧ r.2.mem ((c.tc : Thread Cert.Kernel14Ideal.nD Cert.Kernel14Ideal.τ).loc Cert.Kernel14Ideal.main_v27_0) = v18 c
          ∧ r.2.mem ((c.tc : Thread Cert.Kernel14Ideal.nD Cert.Kernel14Ideal.τ).loc Cert.Kernel14Ideal.main_v27_1) = v19 c
          ∧ r.2.mem ((c.tc : Thread Cert.Kernel14Ideal.nD Cert.Kernel14Ideal.τ).loc Cert.Kernel14Ideal.main_v27_2) = v20 c
          ∧ r.2.mem ((c.tc : Thread Cert.Kernel14Ideal.nD Cert.Kernel14Ideal.τ).loc Cert.Kernel14Ideal.main_v33) = v21 c
          ∧ r.2.mem ((c.tc : Thread Cert.Kernel14Ideal.nD Cert.Kernel14Ideal.τ).loc Cert.Kernel14Ideal.main_v34) = v22 c
          ∧ r.2.mem ((c.tc : Thread Cert.Kernel14Ideal.nD Cert.Kernel14Ideal.τ).loc Cert.Kernel14Ideal.main_v35) = v23 c
          ∧ r.2.mem ((c.tc : Thread Cert.Kernel14Ideal.nD Cert.Kernel14Ideal.τ).loc Cert.Kernel14Ideal.main_v36_0) = v24 c
          ∧ r.2.mem ((c.tc : Thread Cert.Kernel14Ideal.nD Cert.Kernel14Ideal.τ).loc Cert.Kernel14Ideal.main_v36_1) = v25 c
          ∧ r.2.mem ((c.tc : Thread Cert.Kernel14Ideal.nD Cert.Kernel14Ideal.τ).loc Cert.Kernel14Ideal.main_v36_2) = v26 c
          ∧ r.2.mem ((c.tc : Thread Cert.Kernel14Ideal.nD Cert.Kernel14Ideal.τ).loc Cert.Kernel14Ideal.main_v42) = v27 c
          ∧ r.2.mem ((c.tc : Thread Cert.Kernel14Ideal.nD Cert.Kernel14Ideal.τ).loc Cert.Kernel14Ideal.main_v43) = v28 c
          ∧ r.2.mem ((c.tc : Thread Cert.Kernel14Ideal.nD Cert.Kernel14Ideal.τ).loc Cert.Kernel14Ideal.main_v44) = v29 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
          ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
          ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
          ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16)
          ∧ r.2.mem ((c.tc : Thread Cert.Kernel14Ideal.nD Cert.Kernel14Ideal.τ).loc Cert.Kernel14Ideal.main_arg17) = m ((c.tc : Thread Cert.Kernel14Ideal.nD Cert.Kernel14Ideal.τ).loc Cert.Kernel14Ideal.main_arg17)
          ∧ r.2.mem ((c.tc : Thread Cert.Kernel14Ideal.nD Cert.Kernel14Ideal.τ).loc Cert.Kernel14Ideal.main_arg18) = m ((c.tc : Thread Cert.Kernel14Ideal.nD Cert.Kernel14Ideal.τ).loc Cert.Kernel14Ideal.main_arg18)
          ∧ r.2.mem ((c.tc : Thread Cert.Kernel14Ideal.nD Cert.Kernel14Ideal.τ).loc Cert.Kernel14Ideal.main_arg19) = m ((c.tc : Thread Cert.Kernel14Ideal.nD Cert.Kernel14Ideal.τ).loc Cert.Kernel14Ideal.main_arg19)
          ∧ r.2.mem ((c.tc : Thread Cert.Kernel14Ideal.nD Cert.Kernel14Ideal.τ).loc Cert.Kernel14Ideal.main_arg20) = m ((c.tc : Thread Cert.Kernel14Ideal.nD Cert.Kernel14Ideal.τ).loc Cert.Kernel14Ideal.main_arg20)
          ∧ r.2.mem ((c.tc : Thread Cert.Kernel14Ideal.nD Cert.Kernel14Ideal.τ).loc Cert.Kernel14Ideal.main_arg21) = m ((c.tc : Thread Cert.Kernel14Ideal.nD Cert.Kernel14Ideal.τ).loc Cert.Kernel14Ideal.main_arg21)
          ∧ r.2.mem ((c.tc : Thread Cert.Kernel14Ideal.nD Cert.Kernel14Ideal.τ).loc Cert.Kernel14Ideal.main_arg22) = m ((c.tc : Thread Cert.Kernel14Ideal.nD Cert.Kernel14Ideal.τ).loc Cert.Kernel14Ideal.main_arg22)
          ∧ r.2.mem ((c.tc : Thread Cert.Kernel14Ideal.nD Cert.Kernel14Ideal.τ).loc Cert.Kernel14Ideal.main_arg23) = m ((c.tc : Thread Cert.Kernel14Ideal.nD Cert.Kernel14Ideal.τ).loc Cert.Kernel14Ideal.main_arg23)
          ∧ r.2.mem ((c.tc : Thread Cert.Kernel14Ideal.nD Cert.Kernel14Ideal.τ).loc Cert.Kernel14Ideal.main_arg24) = m ((c.tc : Thread Cert.Kernel14Ideal.nD Cert.Kernel14Ideal.τ).loc Cert.Kernel14Ideal.main_arg24)
          ∧ r.2.mem ((c.tc : Thread Cert.Kernel14Ideal.nD Cert.Kernel14Ideal.τ).loc Cert.Kernel14Ideal.main_arg25) = m ((c.tc : Thread Cert.Kernel14Ideal.nD Cert.Kernel14Ideal.τ).loc Cert.Kernel14Ideal.main_arg25)
          ∧ r.2.mem ((c.tc : Thread Cert.Kernel14Ideal.nD Cert.Kernel14Ideal.τ).loc Cert.Kernel14Ideal.main_arg26) = m ((c.tc : Thread Cert.Kernel14Ideal.nD Cert.Kernel14Ideal.τ).loc Cert.Kernel14Ideal.main_arg26)
          ∧ r.2.mem ((c.tc : Thread Cert.Kernel14Ideal.nD Cert.Kernel14Ideal.τ).loc Cert.Kernel14Ideal.main_arg27) = m ((c.tc : Thread Cert.Kernel14Ideal.nD Cert.Kernel14Ideal.τ).loc Cert.Kernel14Ideal.main_arg27)
          ∧ r.2.mem ((c.tc : Thread Cert.Kernel14Ideal.nD Cert.Kernel14Ideal.τ).loc Cert.Kernel14Ideal.main_arg28) = m ((c.tc : Thread Cert.Kernel14Ideal.nD Cert.Kernel14Ideal.τ).loc Cert.Kernel14Ideal.main_arg28)
          ∧ r.2.mem ((c.tc : Thread Cert.Kernel14Ideal.nD Cert.Kernel14Ideal.τ).loc Cert.Kernel14Ideal.main_arg29) = m ((c.tc : Thread Cert.Kernel14Ideal.nD Cert.Kernel14Ideal.τ).loc Cert.Kernel14Ideal.main_arg29)
          ∧ r.2.mem ((c.tc : Thread Cert.Kernel14Ideal.nD Cert.Kernel14Ideal.τ).loc Cert.Kernel14Ideal.main_arg30) = m ((c.tc : Thread Cert.Kernel14Ideal.nD Cert.Kernel14Ideal.τ).loc Cert.Kernel14Ideal.main_arg30)
          ∧ r.2.mem ((c.tc : Thread Cert.Kernel14Ideal.nD Cert.Kernel14Ideal.τ).loc Cert.Kernel14Ideal.main_arg31) = m ((c.tc : Thread Cert.Kernel14Ideal.nD Cert.Kernel14Ideal.τ).loc Cert.Kernel14Ideal.main_arg31)
          ∧ r.2.mem ((c.tc : Thread Cert.Kernel14Ideal.nD Cert.Kernel14Ideal.τ).loc Cert.Kernel14Ideal.main_arg32) = m ((c.tc : Thread Cert.Kernel14Ideal.nD Cert.Kernel14Ideal.τ).loc Cert.Kernel14Ideal.main_arg32)
          ∧ r.2.mem ((c.tc : Thread Cert.Kernel14Ideal.nD Cert.Kernel14Ideal.τ).loc Cert.Kernel14Ideal.main_arg33) = m ((c.tc : Thread Cert.Kernel14Ideal.nD Cert.Kernel14Ideal.τ).loc Cert.Kernel14Ideal.main_arg33)
          ∧ r.2.mem ((c.tc : Thread Cert.Kernel14Ideal.nD Cert.Kernel14Ideal.τ).loc Cert.Kernel14Ideal.main_arg34) = m ((c.tc : Thread Cert.Kernel14Ideal.nD Cert.Kernel14Ideal.τ).loc Cert.Kernel14Ideal.main_arg34)
          ∧ r.2.mem ((c.tc : Thread Cert.Kernel14Ideal.nD Cert.Kernel14Ideal.τ).loc Cert.Kernel14Ideal.main_arg35) = m ((c.tc : Thread Cert.Kernel14Ideal.nD Cert.Kernel14Ideal.τ).loc Cert.Kernel14Ideal.main_arg35)
          ∧ r.2.mem ((c.tc : Thread Cert.Kernel14Ideal.nD Cert.Kernel14Ideal.τ).loc Cert.Kernel14Ideal.main_arg36) = m ((c.tc : Thread Cert.Kernel14Ideal.nD Cert.Kernel14Ideal.τ).loc Cert.Kernel14Ideal.main_arg36)
          ∧ r.2.mem ((c.tc : Thread Cert.Kernel14Ideal.nD Cert.Kernel14Ideal.τ).loc Cert.Kernel14Ideal.main_arg37) = m ((c.tc : Thread Cert.Kernel14Ideal.nD Cert.Kernel14Ideal.τ).loc Cert.Kernel14Ideal.main_arg37)
          ∧ r.2.mem ((c.tc : Thread Cert.Kernel14Ideal.nD Cert.Kernel14Ideal.τ).loc Cert.Kernel14Ideal.main_arg38) = m ((c.tc : Thread Cert.Kernel14Ideal.nD Cert.Kernel14Ideal.τ).loc Cert.Kernel14Ideal.main_arg38)
          ∧ r.2.mem ((c.tc : Thread Cert.Kernel14Ideal.nD Cert.Kernel14Ideal.τ).loc Cert.Kernel14Ideal.main_arg39) = m ((c.tc : Thread Cert.Kernel14Ideal.nD Cert.Kernel14Ideal.τ).loc Cert.Kernel14Ideal.main_arg39))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_v47) = v3 c
          ∧ r.2.mem ((c.tc : Thread Cert.Reference14Ideal.nD Cert.Reference14Ideal.τ).loc Cert.Reference14Ideal.main_v28) = v4 c
          ∧ r.2.mem ((c.tc : Thread Cert.Reference14Ideal.nD Cert.Reference14Ideal.τ).loc Cert.Reference14Ideal.main_v34) = v5 c
          ∧ r.2.mem ((c.tc : Thread Cert.Reference14Ideal.nD Cert.Reference14Ideal.τ).loc Cert.Reference14Ideal.main_v71) = v6 c
          ∧ r.2.mem ((c.tc : Thread Cert.Reference14Ideal.nD Cert.Reference14Ideal.τ).loc Cert.Reference14Ideal.main_v52) = v7 c
          ∧ r.2.mem ((c.tc : Thread Cert.Reference14Ideal.nD Cert.Reference14Ideal.τ).loc Cert.Reference14Ideal.main_v58) = v8 c
          ∧ r.2.mem ((c.tc : Thread Cert.Reference14Ideal.nD Cert.Reference14Ideal.τ).loc Cert.Reference14Ideal.main_v95) = v9 c
          ∧ r.2.mem ((c.tc : Thread Cert.Reference14Ideal.nD Cert.Reference14Ideal.τ).loc Cert.Reference14Ideal.main_v76) = v10 c
          ∧ r.2.mem ((c.tc : Thread Cert.Reference14Ideal.nD Cert.Reference14Ideal.τ).loc Cert.Reference14Ideal.main_v82) = v11 c
          ∧ r.2.mem ((c.tc : Thread Cert.Reference14Ideal.nD Cert.Reference14Ideal.τ).loc Cert.Reference14Ideal.main_v119) = v12 c
          ∧ r.2.mem ((c.tc : Thread Cert.Reference14Ideal.nD Cert.Reference14Ideal.τ).loc Cert.Reference14Ideal.main_v100) = v13 c
          ∧ r.2.mem ((c.tc : Thread Cert.Reference14Ideal.nD Cert.Reference14Ideal.τ).loc Cert.Reference14Ideal.main_v106) = v14 c
          ∧ r.2.mem ((c.tc : Thread Cert.Reference14Ideal.nD Cert.Reference14Ideal.τ).loc Cert.Reference14Ideal.main_v143) = v15 c
          ∧ r.2.mem ((c.tc : Thread Cert.Reference14Ideal.nD Cert.Reference14Ideal.τ).loc Cert.Reference14Ideal.main_v124) = v16 c
          ∧ r.2.mem ((c.tc : Thread Cert.Reference14Ideal.nD Cert.Reference14Ideal.τ).loc Cert.Reference14Ideal.main_v130) = v17 c
          ∧ r.2.mem ((c.tc : Thread Cert.Reference14Ideal.nD Cert.Reference14Ideal.τ).loc Cert.Reference14Ideal.main_v167) = v18 c
          ∧ r.2.mem ((c.tc : Thread Cert.Reference14Ideal.nD Cert.Reference14Ideal.τ).loc Cert.Reference14Ideal.main_v148) = v19 c
          ∧ r.2.mem ((c.tc : Thread Cert.Reference14Ideal.nD Cert.Reference14Ideal.τ).loc Cert.Reference14Ideal.main_v154) = v20 c
          ∧ r.2.mem ((c.tc : Thread Cert.Reference14Ideal.nD Cert.Reference14Ideal.τ).loc Cert.Reference14Ideal.main_v191) = v21 c
          ∧ r.2.mem ((c.tc : Thread Cert.Reference14Ideal.nD Cert.Reference14Ideal.τ).loc Cert.Reference14Ideal.main_v172) = v22 c
          ∧ r.2.mem ((c.tc : Thread Cert.Reference14Ideal.nD Cert.Reference14Ideal.τ).loc Cert.Reference14Ideal.main_v178) = v23 c
          ∧ r.2.mem ((c.tc : Thread Cert.Reference14Ideal.nD Cert.Reference14Ideal.τ).loc Cert.Reference14Ideal.main_v215) = v24 c
          ∧ r.2.mem ((c.tc : Thread Cert.Reference14Ideal.nD Cert.Reference14Ideal.τ).loc Cert.Reference14Ideal.main_v196) = v25 c
          ∧ r.2.mem ((c.tc : Thread Cert.Reference14Ideal.nD Cert.Reference14Ideal.τ).loc Cert.Reference14Ideal.main_v202) = v26 c
          ∧ r.2.mem ((c.tc : Thread Cert.Reference14Ideal.nD Cert.Reference14Ideal.τ).loc Cert.Reference14Ideal.main_v239) = v27 c
          ∧ r.2.mem ((c.tc : Thread Cert.Reference14Ideal.nD Cert.Reference14Ideal.τ).loc Cert.Reference14Ideal.main_v220) = v28 c
          ∧ r.2.mem ((c.tc : Thread Cert.Reference14Ideal.nD Cert.Reference14Ideal.τ).loc Cert.Reference14Ideal.main_v226) = v29 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13)
          ∧ r.2.mem ((c.tc : Thread Cert.Reference14Ideal.nD Cert.Reference14Ideal.τ).loc Cert.Reference14Ideal.main_arg14) = m' ((c.tc : Thread Cert.Reference14Ideal.nD Cert.Reference14Ideal.τ).loc Cert.Reference14Ideal.main_arg14)
          ∧ r.2.mem ((c.tc : Thread Cert.Reference14Ideal.nD Cert.Reference14Ideal.τ).loc Cert.Reference14Ideal.main_arg15) = m' ((c.tc : Thread Cert.Reference14Ideal.nD Cert.Reference14Ideal.τ).loc Cert.Reference14Ideal.main_arg15)
          ∧ r.2.mem ((c.tc : Thread Cert.Reference14Ideal.nD Cert.Reference14Ideal.τ).loc Cert.Reference14Ideal.main_arg16) = m' ((c.tc : Thread Cert.Reference14Ideal.nD Cert.Reference14Ideal.τ).loc Cert.Reference14Ideal.main_arg16)
          ∧ r.2.mem ((c.tc : Thread Cert.Reference14Ideal.nD Cert.Reference14Ideal.τ).loc Cert.Reference14Ideal.main_arg17) = m' ((c.tc : Thread Cert.Reference14Ideal.nD Cert.Reference14Ideal.τ).loc Cert.Reference14Ideal.main_arg17)
          ∧ r.2.mem ((c.tc : Thread Cert.Reference14Ideal.nD Cert.Reference14Ideal.τ).loc Cert.Reference14Ideal.main_arg18) = m' ((c.tc : Thread Cert.Reference14Ideal.nD Cert.Reference14Ideal.τ).loc Cert.Reference14Ideal.main_arg18)
          ∧ r.2.mem ((c.tc : Thread Cert.Reference14Ideal.nD Cert.Reference14Ideal.τ).loc Cert.Reference14Ideal.main_arg19) = m' ((c.tc : Thread Cert.Reference14Ideal.nD Cert.Reference14Ideal.τ).loc Cert.Reference14Ideal.main_arg19)
          ∧ r.2.mem ((c.tc : Thread Cert.Reference14Ideal.nD Cert.Reference14Ideal.τ).loc Cert.Reference14Ideal.main_arg20) = m' ((c.tc : Thread Cert.Reference14Ideal.nD Cert.Reference14Ideal.τ).loc Cert.Reference14Ideal.main_arg20)
          ∧ r.2.mem ((c.tc : Thread Cert.Reference14Ideal.nD Cert.Reference14Ideal.τ).loc Cert.Reference14Ideal.main_arg21) = m' ((c.tc : Thread Cert.Reference14Ideal.nD Cert.Reference14Ideal.τ).loc Cert.Reference14Ideal.main_arg21)
          ∧ r.2.mem ((c.tc : Thread Cert.Reference14Ideal.nD Cert.Reference14Ideal.τ).loc Cert.Reference14Ideal.main_arg22) = m' ((c.tc : Thread Cert.Reference14Ideal.nD Cert.Reference14Ideal.τ).loc Cert.Reference14Ideal.main_arg22)
          ∧ r.2.mem ((c.tc : Thread Cert.Reference14Ideal.nD Cert.Reference14Ideal.τ).loc Cert.Reference14Ideal.main_arg23) = m' ((c.tc : Thread Cert.Reference14Ideal.nD Cert.Reference14Ideal.τ).loc Cert.Reference14Ideal.main_arg23)
          ∧ r.2.mem ((c.tc : Thread Cert.Reference14Ideal.nD Cert.Reference14Ideal.τ).loc Cert.Reference14Ideal.main_arg24) = m' ((c.tc : Thread Cert.Reference14Ideal.nD Cert.Reference14Ideal.τ).loc Cert.Reference14Ideal.main_arg24)
          ∧ r.2.mem ((c.tc : Thread Cert.Reference14Ideal.nD Cert.Reference14Ideal.τ).loc Cert.Reference14Ideal.main_arg25) = m' ((c.tc : Thread Cert.Reference14Ideal.nD Cert.Reference14Ideal.τ).loc Cert.Reference14Ideal.main_arg25)
          ∧ r.2.mem ((c.tc : Thread Cert.Reference14Ideal.nD Cert.Reference14Ideal.τ).loc Cert.Reference14Ideal.main_arg26) = m' ((c.tc : Thread Cert.Reference14Ideal.nD Cert.Reference14Ideal.τ).loc Cert.Reference14Ideal.main_arg26)
          ∧ r.2.mem ((c.tc : Thread Cert.Reference14Ideal.nD Cert.Reference14Ideal.τ).loc Cert.Reference14Ideal.main_arg27) = m' ((c.tc : Thread Cert.Reference14Ideal.nD Cert.Reference14Ideal.τ).loc Cert.Reference14Ideal.main_arg27)
          ∧ r.2.mem ((c.tc : Thread Cert.Reference14Ideal.nD Cert.Reference14Ideal.τ).loc Cert.Reference14Ideal.main_arg28) = m' ((c.tc : Thread Cert.Reference14Ideal.nD Cert.Reference14Ideal.τ).loc Cert.Reference14Ideal.main_arg28)
          ∧ r.2.mem ((c.tc : Thread Cert.Reference14Ideal.nD Cert.Reference14Ideal.τ).loc Cert.Reference14Ideal.main_arg29) = m' ((c.tc : Thread Cert.Reference14Ideal.nD Cert.Reference14Ideal.τ).loc Cert.Reference14Ideal.main_arg29)
          ∧ r.2.mem ((c.tc : Thread Cert.Reference14Ideal.nD Cert.Reference14Ideal.τ).loc Cert.Reference14Ideal.main_arg30) = m' ((c.tc : Thread Cert.Reference14Ideal.nD Cert.Reference14Ideal.τ).loc Cert.Reference14Ideal.main_arg30)
          ∧ r.2.mem ((c.tc : Thread Cert.Reference14Ideal.nD Cert.Reference14Ideal.τ).loc Cert.Reference14Ideal.main_arg31) = m' ((c.tc : Thread Cert.Reference14Ideal.nD Cert.Reference14Ideal.τ).loc Cert.Reference14Ideal.main_arg31)
          ∧ r.2.mem ((c.tc : Thread Cert.Reference14Ideal.nD Cert.Reference14Ideal.τ).loc Cert.Reference14Ideal.main_arg32) = m' ((c.tc : Thread Cert.Reference14Ideal.nD Cert.Reference14Ideal.τ).loc Cert.Reference14Ideal.main_arg32)
          ∧ r.2.mem ((c.tc : Thread Cert.Reference14Ideal.nD Cert.Reference14Ideal.τ).loc Cert.Reference14Ideal.main_arg33) = m' ((c.tc : Thread Cert.Reference14Ideal.nD Cert.Reference14Ideal.τ).loc Cert.Reference14Ideal.main_arg33)
          ∧ r.2.mem ((c.tc : Thread Cert.Reference14Ideal.nD Cert.Reference14Ideal.τ).loc Cert.Reference14Ideal.main_arg34) = m' ((c.tc : Thread Cert.Reference14Ideal.nD Cert.Reference14Ideal.τ).loc Cert.Reference14Ideal.main_arg34)
          ∧ r.2.mem ((c.tc : Thread Cert.Reference14Ideal.nD Cert.Reference14Ideal.τ).loc Cert.Reference14Ideal.main_arg35) = m' ((c.tc : Thread Cert.Reference14Ideal.nD Cert.Reference14Ideal.τ).loc Cert.Reference14Ideal.main_arg35)
          ∧ r.2.mem ((c.tc : Thread Cert.Reference14Ideal.nD Cert.Reference14Ideal.τ).loc Cert.Reference14Ideal.main_arg36) = m' ((c.tc : Thread Cert.Reference14Ideal.nD Cert.Reference14Ideal.τ).loc Cert.Reference14Ideal.main_arg36)
          ∧ r.2.mem ((c.tc : Thread Cert.Reference14Ideal.nD Cert.Reference14Ideal.τ).loc Cert.Reference14Ideal.main_arg37) = m' ((c.tc : Thread Cert.Reference14Ideal.nD Cert.Reference14Ideal.τ).loc Cert.Reference14Ideal.main_arg37)
          ∧ r.2.mem ((c.tc : Thread Cert.Reference14Ideal.nD Cert.Reference14Ideal.τ).loc Cert.Reference14Ideal.main_arg38) = m' ((c.tc : Thread Cert.Reference14Ideal.nD Cert.Reference14Ideal.τ).loc Cert.Reference14Ideal.main_arg38)
          ∧ r.2.mem ((c.tc : Thread Cert.Reference14Ideal.nD Cert.Reference14Ideal.τ).loc Cert.Reference14Ideal.main_arg39) = m' ((c.tc : Thread Cert.Reference14Ideal.nD Cert.Reference14Ideal.τ).loc Cert.Reference14Ideal.main_arg39))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v44) = v0 c
          ∧ r.2.mem ((c.tc : Thread Cert.Reference15Ideal.nD Cert.Reference15Ideal.τ).loc Cert.Reference15Ideal.main_v68) = v1 c
          ∧ r.2.mem ((c.tc : Thread Cert.Reference15Ideal.nD Cert.Reference15Ideal.τ).loc Cert.Reference15Ideal.main_v49) = v2 c
          ∧ r.2.mem ((c.tc : Thread Cert.Reference15Ideal.nD Cert.Reference15Ideal.τ).loc Cert.Reference15Ideal.main_v55) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S2048x2048 : Shape := ⟨2, ![2048, 2048]⟩
abbrev S2048x11264 : Shape := ⟨2, ![2048, 11264]⟩
abbrev S3x11264 : Shape := ⟨2, ![3, 11264]⟩
abbrev S5632x2048 : Shape := ⟨2, ![5632, 2048]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩
abbrev S1x1x5632x2048 : Shape := ⟨4, ![1, 1, 5632, 2048]⟩
abbrev S1024x2048 : Shape := ⟨2, ![1024, 2048]⟩
abbrev S1x1x2048x1408 : Shape := ⟨4, ![1, 1, 2048, 1408]⟩
abbrev S1024x1408 : Shape := ⟨2, ![1024, 1408]⟩
abbrev S2048x1408 : Shape := ⟨2, ![2048, 1408]⟩
abbrev S2048x5632 : Shape := ⟨2, ![2048, 5632]⟩
abbrev S2048x128 : Shape := ⟨2, ![2048, 128]⟩
abbrev S3x128 : Shape := ⟨2, ![3, 128]⟩
abbrev S1x128 : Shape := ⟨2, ![1, 128]⟩
abbrev S1x1x1408x2048 : Shape := ⟨4, ![1, 1, 1408, 2048]⟩
abbrev S1408x2048 : Shape := ⟨2, ![1408, 2048]⟩
abbrev S_ : Shape := ⟨0, ![]⟩
abbrev S2048x512 : Shape := ⟨2, ![2048, 512]⟩
abbrev S1x1x1408x512 : Shape := ⟨4, ![1, 1, 1408, 512]⟩
abbrev S1408x512 : Shape := ⟨2, ![1408, 512]⟩
abbrev S3x5632 : Shape := ⟨2, ![3, 5632]⟩
abbrev S128 : Shape := ⟨1, ![128]⟩
abbrev S2048x1024 : Shape := ⟨2, ![2048, 1024]⟩
abbrev S1x1x1024x1408 : Shape := ⟨4, ![1, 1, 1024, 1408]⟩

abbrev nBuf : Space → Nat
  | .hbm => 30
  | .vmem => 52
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .f32⟩
  | .hbm, ⟨2, _⟩ => ⟨S3x11264, .f32⟩
  | .hbm, ⟨3, _⟩ => ⟨S5632x2048, .f32⟩
  | .hbm, ⟨4, _⟩ => ⟨S2048x2048, .bf16⟩
  | .hbm, ⟨5, _⟩ => ⟨S2048x11264, .bf16⟩
  | .hbm, ⟨6, _⟩ => ⟨S2048x4x2816, .bf16⟩
  | .hbm, ⟨7, _⟩ => ⟨S4x2048x2816, .bf16⟩
  | .hbm, ⟨8, _⟩ => ⟨S1x4x2048x2816, .bf16⟩
  | .hbm, ⟨9, _⟩ => ⟨S5632x2048, .bf16⟩
  | .hbm, ⟨10, _⟩ => ⟨S1x1x5632x2048, .bf16⟩
  | .hbm, ⟨11, _⟩ => ⟨S2048x11264, .f32⟩
  | .hbm, ⟨12, _⟩ => ⟨S2048x5632, .bf16⟩
  | .hbm, ⟨13, _⟩ => ⟨S2048x5632, .bf16⟩
  | .hbm, ⟨14, _⟩ => ⟨S_, .f32⟩
  | .hbm, ⟨15, _⟩ => ⟨S1x1x5632x2048, .f32⟩
  | .hbm, ⟨16, _⟩ => ⟨S1x1x5632x2048, .f32⟩
  | .hbm, ⟨17, _⟩ => ⟨S2048x5632, .bf16⟩
  | .hbm, ⟨18, _⟩ => ⟨S2048x5632, .bf16⟩
  | .hbm, ⟨19, _⟩ => ⟨S3x5632, .f32⟩
  | .hbm, ⟨20, _⟩ => ⟨S3x5632, .f32⟩
  | .hbm, ⟨21, _⟩ => ⟨S2048x11264, .bf16⟩
  | .hbm, ⟨22, _⟩ => ⟨S_, .f32⟩
  | .hbm, ⟨23, _⟩ => ⟨S1x4x2048x2816, .f32⟩
  | .hbm, ⟨24, _⟩ => ⟨S1x4x2048x2816, .f32⟩
  | .hbm, ⟨25, _⟩ => ⟨S4x2048x2816, .f32⟩
  | .hbm, ⟨26, _⟩ => ⟨S2048x4x2816, .f32⟩
  | .hbm, ⟨27, _⟩ => ⟨S2048x11264, .f32⟩
  | .hbm, ⟨28, _⟩ => ⟨S3x11264, .f32⟩
  | .hbm, ⟨29, _⟩ => ⟨S5632x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S3x128, .f32⟩
  | .local _ .vmem, ⟨11, _⟩ => ⟨S3x128, .f32⟩
  | .local _ .vmem, ⟨12, _⟩ => ⟨S3x128, .f32⟩
  | .local _ .vmem, ⟨13, _⟩ => ⟨S3x128, .f32⟩
  | .local _ .vmem, ⟨14, _⟩ => ⟨S2048x128, .bf16⟩
  | .local _ .vmem, ⟨15, _⟩ => ⟨S2048x128, .bf16⟩
  | .local _ .vmem, ⟨16, _⟩ => ⟨S1024x2048, .bf16⟩
  | .local _ .vmem, ⟨17, _⟩ => ⟨S1024x2048, .bf16⟩
  | .local _ .vmem, ⟨18, _⟩ => ⟨S1x1x1408x2048, .bf16⟩
  | .local _ .vmem, ⟨19, _⟩ => ⟨S1x1x1408x2048, .bf16⟩
  | .local _ .vmem, ⟨20, _⟩ => ⟨S1024x1408, .bf16⟩
  | .local _ .vmem, ⟨21, _⟩ => ⟨S1024x1408, .bf16⟩
  | .local _ .vmem, ⟨22, _⟩ => ⟨S2048x1408, .bf16⟩
  | .local _ .vmem, ⟨23, _⟩ => ⟨S2048x1408, .bf16⟩
  | .local _ .vmem, ⟨24, _⟩ => ⟨S2048x512, .bf16⟩
  | .local _ .vmem, ⟨25, _⟩ => ⟨S2048x512, .bf16⟩
  | .local _ .vmem, ⟨26, _⟩ => ⟨S1x1x1408x512, .f32⟩
  | .local _ .vmem, ⟨27, _⟩ => ⟨S1x1x1408x512, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S3x128, .f32⟩
  | .local _ .vmem, ⟨33, _⟩ => ⟨S3x128, .f32⟩
  | .local _ .vmem, ⟨34, _⟩ => ⟨S3x128, .f32⟩
  | .local _ .vmem, ⟨35, _⟩ => ⟨S3x128, .f32⟩
  | .local _ .vmem, ⟨36, _⟩ => ⟨S2048x128, .bf16⟩
  | .local _ .vmem, ⟨37, _⟩ => ⟨S2048x128, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S2048x128, .bf16⟩
  | .local _ .vmem, ⟨42, _⟩ => ⟨S3x128, .f32⟩
  | .local _ .vmem, ⟨43, _⟩ => ⟨S3x128, .f32⟩
  | .local _ .vmem, ⟨44, _⟩ => ⟨S3x128, .f32⟩
  | .local _ .vmem, ⟨45, _⟩ => ⟨S3x128, .f32⟩
  | .local _ .vmem, ⟨46, _⟩ => ⟨S2048x1024, .bf16⟩
  | .local _ .vmem, ⟨47, _⟩ => ⟨S2048x1024, .bf16⟩
  | .local _ .vmem, ⟨48, _⟩ => ⟨S2048x1408, .bf16⟩
  | .local _ .vmem, ⟨49, _⟩ => ⟨S2048x1408, .bf16⟩
  | .local _ .vmem, ⟨50, _⟩ => ⟨S1x1x1024x1408, .f32⟩
  | .local _ .vmem, ⟨51, _⟩ => ⟨S1x1x1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc4_stg7_1 : Ref sig .tc := ⟨.vmem, 43, rfl⟩
abbrev cc4_stg8_0 : Ref sig .tc := ⟨.vmem, 44, rfl⟩
abbrev cc4_stg8_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem5_1 : DmaSem sig := 39
abbrev cc4_sem6_0 : DmaSem sig := 40
abbrev cc4_sem6_1 : DmaSem sig := 41
abbrev cc4_sem7_0 : DmaSem sig := 42
abbrev cc4_sem7_1 : DmaSem sig := 43
abbrev cc4_sem8_0 : DmaSem sig := 44
abbrev cc4_sem8_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![44], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1x1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg0.toNat, v26.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1x1408x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![44], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S3x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S3x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2048x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2048x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2048x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S3x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S3x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨3, ![2, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_3 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg0.toNat, v26.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1x1024x1408 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ReferenceIdeal.lean ====
abbrev S2048x2048 : Shape := ⟨2, ![2048, 2048]⟩
abbrev S2048x11264 : Shape := ⟨2, ![2048, 11264]⟩
abbrev S3x11264 : Shape := ⟨2, ![3, 11264]⟩
abbrev S5632x2048 : Shape := ⟨2, ![5632, 2048]⟩
abbrev S_ : Shape := ⟨0, ![]⟩
abbrev S2x11264 : Shape := ⟨2, ![2, 11264]⟩
abbrev S2050x11264 : Shape := ⟨2, ![2050, 11264]⟩
abbrev S1x11264 : Shape := ⟨2, ![1, 11264]⟩
abbrev S11264 : Shape := ⟨1, ![11264]⟩
abbrev S2048x5632 : Shape := ⟨2, ![2048, 5632]⟩
abbrev S11264x2048 : Shape := ⟨2, ![11264, 2048]⟩

abbrev nBuf : Space → Nat
  | .hbm => 110
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .f32⟩
  | .hbm, ⟨2, _⟩ => ⟨S3x11264, .f32⟩
  | .hbm, ⟨3, _⟩ => ⟨S5632x2048, .f32⟩
  | .hbm, ⟨4, _⟩ => ⟨S2048x2048, .bf16⟩
  | .hbm, ⟨5, _⟩ => ⟨S2048x2048, .f32⟩
  | .hbm, ⟨6, _⟩ => ⟨S2048x11264, .f32⟩
  | .hbm, ⟨7, _⟩ => ⟨S_, .f32⟩
  | .hbm, ⟨8, _⟩ => ⟨S2x11264, .f32⟩
  | .hbm, ⟨9, _⟩ => ⟨S2050x11264, .f32⟩
  | .hbm, ⟨10, _⟩ => ⟨S_, .f32⟩
  | .hbm, ⟨11, _⟩ => ⟨S2x11264, .f32⟩
  | .hbm, ⟨12, _⟩ => ⟨S1x11264, .f32⟩
  | .hbm, ⟨13, _⟩ => ⟨S11264, .f32⟩
  | .hbm, ⟨14, _⟩ => ⟨S2048x11264, .f32⟩
  | .hbm, ⟨15, _⟩ => ⟨S1x11264, .f32⟩
  | .hbm, ⟨16, _⟩ => ⟨S2048x11264, .f32⟩
  | .hbm, ⟨17, _⟩ => ⟨S2048x11264, .f32⟩
  | .hbm, ⟨18, _⟩ => ⟨S_, .f32⟩
  | .hbm, ⟨19, _⟩ => ⟨S2048x11264, .f32⟩
  | .hbm, ⟨20, _⟩ => ⟨S2048x11264, .f32⟩
  | .hbm, ⟨21, _⟩ => ⟨S1x11264, .f32⟩
  | .hbm, ⟨22, _⟩ => ⟨S11264, .f32⟩
  | .hbm, ⟨23, _⟩ => ⟨S2048x11264, .f32⟩
  | .hbm, ⟨24, _⟩ => ⟨S1x11264, .f32⟩
  | .hbm, ⟨25, _⟩ => ⟨S2048x11264, .f32⟩
  | .hbm, ⟨26, _⟩ => ⟨S2048x11264, .f32⟩
  | .hbm, ⟨27, _⟩ => ⟨S2048x11264, .f32⟩
  | .hbm, ⟨28, _⟩ => ⟨S1x11264, .f32⟩
  | .hbm, ⟨29, _⟩ => ⟨S11264, .f32⟩
  | .hbm, ⟨30, _⟩ => ⟨S2048x11264, .f32⟩
  | .hbm, ⟨31, _⟩ => ⟨S1x11264, .f32⟩
  | .hbm, ⟨32, _⟩ => ⟨S2048x11264, .f32⟩
  | .hbm, ⟨33, _⟩ => ⟨S2048x11264, .f32⟩
  | .hbm, ⟨34, _⟩ => ⟨S2048x11264, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S_, .f32⟩
  | .hbm, ⟨40, _⟩ => ⟨S2048x5632, .f32⟩
  | .hbm, ⟨41, _⟩ => ⟨S2048x5632, .f32⟩
  | .hbm, ⟨42, _⟩ => ⟨S_, .f32⟩
  | .hbm, ⟨43, _⟩ => ⟨S2048x5632, .f32⟩
  | .hbm, ⟨44, _⟩ => ⟨S2048x5632, .f32⟩
  | .hbm, ⟨45, _⟩ => ⟨S_, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x2048, .f32⟩
  | .hbm, ⟨52, _⟩ => ⟨S2048x2048, .f32⟩
  | .hbm, ⟨53, _⟩ => ⟨S2048x5632, .f32⟩
  | .hbm, ⟨54, _⟩ => ⟨S5632x2048, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S2048x5632, .f32⟩
  | .hbm, ⟨59, _⟩ => ⟨S2048x5632, .f32⟩
  | .hbm, ⟨60, _⟩ => ⟨S2048x5632, .f32⟩
  | .hbm, ⟨61, _⟩ => ⟨S2048x5632, .f32⟩
  | .hbm, ⟨62, _⟩ => ⟨S2048x11264, .f32⟩
  | .hbm, ⟨63, _⟩ => ⟨S2048x11264, .f32⟩
  | .hbm, ⟨64, _⟩ => ⟨S2048x11264, .f32⟩
  | .hbm, ⟨65, _⟩ => ⟨S2048x11264, .f32⟩
  | .hbm, ⟨66, _⟩ => ⟨S_, .f32⟩
  | .hbm, ⟨67, _⟩ => ⟨S11264, .f32⟩
  | .hbm, ⟨68, _⟩ => ⟨S1x11264, .f32⟩
  | .hbm, ⟨69, _⟩ => ⟨S_, .f32⟩
  | .hbm, ⟨70, _⟩ => ⟨S11264, .f32⟩
  | .hbm, ⟨71, _⟩ => ⟨S_, .f32⟩
  | .hbm, ⟨72, _⟩ => ⟨S2050x11264, .f32⟩
  | .hbm, ⟨73, _⟩ => ⟨S1x11264, .f32⟩
  | .hbm, ⟨74, _⟩ => ⟨S_, .f32⟩
  | .hbm, ⟨75, _⟩ => ⟨S3x11264, .f32⟩
  | .hbm, ⟨76, _⟩ => ⟨S2048x11264, .f32⟩
  | .hbm, ⟨77, _⟩ => ⟨S2048x11264, .f32⟩
  | .hbm, ⟨78, _⟩ => ⟨S2048x11264, .f32⟩
  | .hbm, ⟨79, _⟩ => ⟨S_, .f32⟩
  | .hbm, ⟨80, _⟩ => ⟨S11264, .f32⟩
  | .hbm, ⟨81, _⟩ => ⟨S1x11264, .f32⟩
  | .hbm, ⟨82, _⟩ => ⟨S_, .f32⟩
  | .hbm, ⟨83, _⟩ => ⟨S11264, .f32⟩
  | .hbm, ⟨84, _⟩ => ⟨S_, .f32⟩
  | .hbm, ⟨85, _⟩ => ⟨S2050x11264, .f32⟩
  | .hbm, ⟨86, _⟩ => ⟨S2050x11264, .f32⟩
  | .hbm, ⟨87, _⟩ => ⟨S1x11264, .f32⟩
  | .hbm, ⟨88, _⟩ => ⟨S_, .f32⟩
  | .hbm, ⟨89, _⟩ => ⟨S3x11264, .f32⟩
  | .hbm, ⟨90, _⟩ => ⟨S3x11264, .f32⟩
  | .hbm, ⟨91, _⟩ => ⟨S2048x11264, .f32⟩
  | .hbm, ⟨92, _⟩ => ⟨S2048x11264, .f32⟩
  | .hbm, ⟨93, _⟩ => ⟨S2048x11264, .f32⟩
  | .hbm, ⟨94, _⟩ => ⟨S_, .f32⟩
  | .hbm, ⟨95, _⟩ => ⟨S11264, .f32⟩
  | .hbm, ⟨96, _⟩ => ⟨S1x11264, .f32⟩
  | .hbm, ⟨97, _⟩ => ⟨S_, .f32⟩
  | .hbm, ⟨98, _⟩ => ⟨S11264, .f32⟩
  | .hbm, ⟨99, _⟩ => ⟨S_, .f32⟩
  | .hbm, ⟨100, _⟩ => ⟨S2050x11264, .f32⟩
  | .hbm, ⟨101, _⟩ => ⟨S2050x11264, .f32⟩
  | .hbm, ⟨102, _⟩ => ⟨S1x11264, .f32⟩
  | .hbm, ⟨103, _⟩ => ⟨S_, .f32⟩
  | .hbm, ⟨104, _⟩ => ⟨S3x11264, .f32⟩
  | .hbm, ⟨105, _⟩ => ⟨S3x11264, .f32⟩
  | .hbm, ⟨106, _⟩ => ⟨S2x11264, .f32⟩
  | .hbm, ⟨107, _⟩ => ⟨S2048x11264, .f32⟩
  | .hbm, ⟨108, _⟩ => ⟨S11264x2048, .f32⟩
  | .hbm, ⟨109, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]
-- ==== Kernel2.lean ====
abbrev S2048x11264 : Shape := ⟨2, ![2048, 11264]⟩
abbrev S2048x4x2816 : Shape := ⟨3, ![2048, 4, 2816]⟩
abbrev S4x2048x2816 : Shape := ⟨3, ![4, 2048, 2816]⟩
abbrev S1x4x2048x2816 : Shape := ⟨4, ![1, 4, 2048, 2816]⟩
abbrev S2048x2048 : Shape := ⟨2, ![2048, 2048]⟩
abbrev S512x2816 : Shape := ⟨2, ![512, 2816]⟩
abbrev S1x1x2048x2816 : Shape := ⟨4, ![1, 1, 2048, 2816]⟩
abbrev S512x2048 : Shape := ⟨2, ![512, 2048]⟩
abbrev S2048x2816 : Shape := ⟨2, ![2048, 2816]⟩

abbrev nBuf : Space → Nat
  | .hbm => 7
  | .vmem => 6
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S1x4x2048x2816, .bf16⟩
  | .hbm, ⟨6, _⟩ => ⟨S2048x2048, .f32⟩
  | .local _ .vmem, ⟨0, _⟩ => ⟨S512x2816, .bf16⟩
  | .local _ .vmem, ⟨1, _⟩ => ⟨S512x2816, .bf16⟩
  | .local _ .vmem, ⟨2, _⟩ => ⟨S1x1x2048x2816, .bf16⟩
  | .local _ .vmem, ⟨3, _⟩ => ⟨S1x1x2048x2816, .bf16⟩
  | .local _ .vmem, ⟨4, _⟩ => ⟨S512x2048, .f32⟩
  | .local _ .vmem, ⟨5, _⟩ => ⟨S512x2048, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2048x12800 : Shape := ⟨2, ![2048, 12800]⟩
abbrev S2048x4x3200 : Shape := ⟨3, ![2048, 4, 3200]⟩
abbrev S4x2048x3200 : Shape := ⟨3, ![4, 2048, 3200]⟩
abbrev S1x4x2048x3200 : Shape := ⟨4, ![1, 4, 2048, 3200]⟩
abbrev S2048x2048 : Shape := ⟨2, ![2048, 2048]⟩
abbrev S256x3200 : Shape := ⟨2, ![256, 3200]⟩
abbrev S1x1x2048x3200 : Shape := ⟨4, ![1, 1, 2048, 3200]⟩
abbrev S256x2048 : Shape := ⟨2, ![256, 2048]⟩
abbrev S2048x3200 : Shape := ⟨2, ![2048, 3200]⟩

abbrev nBuf : Space → Nat
  | .hbm => 7
  | .vmem => 6
  | .smem => 0
  | _ => 0

abbrev bufTy : (tb : Table) → Fin (tcTables nBuf tb) → BufTy
  | .hbm, ⟨0, _⟩ => ⟨S2048x12800, .bf16⟩
  | .hbm, ⟨1, _⟩ => ⟨S2048x12800, .f32⟩
  | .hbm, ⟨2, _⟩ => ⟨S2048x12800, .bf16⟩
  | .hbm, ⟨3, _⟩ => ⟨S2048x4x3200, .bf16⟩
  | .hbm, ⟨4, _⟩ => ⟨S4x2048x3200, .bf16⟩
  | .hbm, ⟨5, _⟩ => ⟨S1x4x2048x3200, .bf16⟩
  | .hbm, ⟨6, _⟩ => ⟨S2048x2048, .f32⟩
  | .local _ .vmem, ⟨0, _⟩ => ⟨S256x3200, .bf16⟩
  | .local _ .vmem, ⟨1, _⟩ => ⟨S256x3200, .bf16⟩
  | .local _ .vmem, ⟨2, _⟩ => ⟨S1x1x2048x3200, .bf16⟩
  | .local _ .vmem, ⟨3, _⟩ => ⟨S1x1x2048x3200, .bf16⟩
  | .local _ .vmem, ⟨4, _⟩ => ⟨S256x2048, .f32⟩
  | .local _ .vmem, ⟨5, _⟩ => ⟨S256x2048, .f32⟩
  | _, _ => ⟨S2048x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x12800 : Shape := ⟨2, ![2048, 12800]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x12800, .bf16⟩
  | .hbm, ⟨1, _⟩ => ⟨S2048x12800, .f32⟩
  | .hbm, ⟨2, _⟩ => ⟨S_, .f32⟩
  | .hbm, ⟨3, _⟩ => ⟨S2048x2048, .f32⟩
  | .hbm, ⟨4, _⟩ => ⟨S2048x12800, .f32⟩
  | .hbm, ⟨5, _⟩ => ⟨S2048x12800, .f32⟩
  | .hbm, ⟨6, _⟩ => ⟨S2048x2048, .f32⟩
  | _, _ => ⟨S2048x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2048x5632 : Shape := ⟨2, ![2048, 5632]⟩
abbrev S5632x2048 : Shape := ⟨2, ![5632, 2048]⟩
abbrev S1x1x5632x2048 : Shape := ⟨4, ![1, 1, 5632, 2048]⟩
abbrev S2048x2048 : Shape := ⟨2, ![2048, 2048]⟩
abbrev S2048x1408 : Shape := ⟨2, ![2048, 1408]⟩
abbrev S1x1x1408x512 : Shape := ⟨4, ![1, 1, 1408, 512]⟩
abbrev S2048x512 : Shape := ⟨2, ![2048, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S5632x2048, .bf16⟩
  | .hbm, ⟨3, _⟩ => ⟨S1x1x5632x2048, .bf16⟩
  | .hbm, ⟨4, _⟩ => ⟨S2048x2048, .f32⟩
  | .local _ .vmem, ⟨0, _⟩ => ⟨S2048x1408, .bf16⟩
  | .local _ .vmem, ⟨1, _⟩ => ⟨S2048x1408, .bf16⟩
  | .local _ .vmem, ⟨2, _⟩ => ⟨S1x1x1408x512, .bf16⟩
  | .local _ .vmem, ⟨3, _⟩ => ⟨S1x1x1408x512, .bf16⟩
  | .local _ .vmem, ⟨4, _⟩ => ⟨S2048x512, .f32⟩
  | .local _ .vmem, ⟨5, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x5632, .f32⟩
  | .hbm, ⟨3, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S2048x2048 : Shape := ⟨2, ![2048, 2048]⟩
abbrev S2048x12800 : Shape := ⟨2, ![2048, 12800]⟩
abbrev S2048x4x3200 : Shape := ⟨3, ![2048, 4, 3200]⟩
abbrev S4x2048x3200 : Shape := ⟨3, ![4, 2048, 3200]⟩
abbrev S1x4x2048x3200 : Shape := ⟨4, ![1, 4, 2048, 3200]⟩
abbrev S1x1x2048x640 : Shape := ⟨4, ![1, 1, 2048, 640]⟩
abbrev S2048x640 : Shape := ⟨2, ![2048, 640]⟩
abbrev S_ : Shape := ⟨0, ![]⟩
abbrev S2048x256 : Shape := ⟨2, ![2048, 256]⟩
abbrev S2048x3200 : Shape := ⟨2, ![2048, 3200]⟩
abbrev S1x1x256x3200 : Shape := ⟨4, ![1, 1, 256, 3200]⟩
abbrev S256x3200 : Shape := ⟨2, ![256, 3200]⟩

abbrev nBuf : Space → Nat
  | .hbm => 14
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S2048x12800, .f32⟩
  | .hbm, ⟨2, _⟩ => ⟨S2048x12800, .bf16⟩
  | .hbm, ⟨3, _⟩ => ⟨S2048x12800, .bf16⟩
  | .hbm, ⟨4, _⟩ => ⟨S2048x4x3200, .bf16⟩
  | .hbm, ⟨5, _⟩ => ⟨S4x2048x3200, .bf16⟩
  | .hbm, ⟨6, _⟩ => ⟨S1x4x2048x3200, .bf16⟩
  | .hbm, ⟨7, _⟩ => ⟨S2048x12800, .f32⟩
  | .hbm, ⟨8, _⟩ => ⟨S_, .f32⟩
  | .hbm, ⟨9, _⟩ => ⟨S1x4x2048x3200, .f32⟩
  | .hbm, ⟨10, _⟩ => ⟨S1x4x2048x3200, .f32⟩
  | .hbm, ⟨11, _⟩ => ⟨S4x2048x3200, .f32⟩
  | .hbm, ⟨12, _⟩ => ⟨S2048x4x3200, .f32⟩
  | .hbm, ⟨13, _⟩ => ⟨S2048x12800, .f32⟩
  | .local _ .vmem, ⟨0, _⟩ => ⟨S2048x2048, .bf16⟩
  | .local _ .vmem, ⟨1, _⟩ => ⟨S1x1x2048x640, .bf16⟩
  | .local _ .vmem, ⟨2, _⟩ => ⟨S1x1x2048x640, .bf16⟩
  | .local _ .vmem, ⟨3, _⟩ => ⟨S2048x640, .f32⟩
  | .local _ .vmem, ⟨4, _⟩ => ⟨S2048x640, .f32⟩
  | .local _ .vmem, ⟨5, _⟩ => ⟨S2048x256, .bf16⟩
  | .local _ .vmem, ⟨6, _⟩ => ⟨S2048x256, .bf16⟩
  | .local _ .vmem, ⟨7, _⟩ => ⟨S2048x3200, .bf16⟩
  | .local _ .vmem, ⟨8, _⟩ => ⟨S2048x3200, .bf16⟩
  | .local _ .vmem, ⟨9, _⟩ => ⟨S1x1x256x3200, .f32⟩
  | .local _ .vmem, ⟨10, _⟩ => ⟨S1x1x256x3200, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![1, 20, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x256x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S2048x2048 : Shape := ⟨2, ![2048, 2048]⟩
abbrev S2048x12800 : Shape := ⟨2, ![2048, 12800]⟩
abbrev S12800x2048 : Shape := ⟨2, ![12800, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x12800, .f32⟩
  | .hbm, ⟨2, _⟩ => ⟨S2048x12800, .bf16⟩
  | .hbm, ⟨3, _⟩ => ⟨S2048x2048, .f32⟩
  | .hbm, ⟨4, _⟩ => ⟨S2048x12800, .f32⟩
  | .hbm, ⟨5, _⟩ => ⟨S2048x12800, .f32⟩
  | .hbm, ⟨6, _⟩ => ⟨S12800x2048, .f32⟩
  | .hbm, ⟨7, _⟩ => ⟨S2048x12800, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x12800 : Shape := ⟨2, ![2048, 12800]⟩
abbrev S3x512 : Shape := ⟨2, ![3, 512]⟩
abbrev S512x2048 : Shape := ⟨2, ![512, 2048]⟩
abbrev S2048x2048 : Shape := ⟨2, ![2048, 2048]⟩
abbrev S6144 : Shape := ⟨1, ![6144]⟩
abbrev S2048x512 : Shape := ⟨2, ![2048, 512]⟩
abbrev S2048x128 : Shape := ⟨2, ![2048, 128]⟩
abbrev S3x128 : Shape := ⟨2, ![3, 128]⟩
abbrev S1x128 : Shape := ⟨2, ![1, 128]⟩
abbrev S512x4x512 : Shape := ⟨3, ![512, 4, 512]⟩
abbrev S4x512x512 : Shape := ⟨3, ![4, 512, 512]⟩
abbrev S1x4x512x512 : Shape := ⟨4, ![1, 4, 512, 512]⟩
abbrev S1x1x512x512 : Shape := ⟨4, ![1, 1, 512, 512]⟩
abbrev S512x512 : Shape := ⟨2, ![512, 512]⟩
abbrev S3x1x2048 : Shape := ⟨3, ![3, 1, 2048]⟩
abbrev S1x1x2048 : Shape := ⟨3, ![1, 1, 2048]⟩
abbrev S1x2048 : Shape := ⟨2, ![1, 2048]⟩
abbrev S256x512 : Shape := ⟨2, ![256, 512]⟩
abbrev S1x512 : Shape := ⟨2, ![1, 512]⟩
abbrev S1x1x2048x2048 : Shape := ⟨4, ![1, 1, 2048, 2048]⟩
abbrev S1x1x2048x512 : Shape := ⟨4, ![1, 1, 2048, 512]⟩
abbrev S_ : Shape := ⟨0, ![]⟩

abbrev nBuf : Space → Nat
  | .hbm => 29
  | .vmem => 45
  | .smem => 0
  | _ => 0

abbrev bufTy : (tb : Table) → Fin (tcTables nBuf tb) → BufTy
  | .hbm, ⟨0, _⟩ => ⟨S2048x12800, .f32⟩
  | .hbm, ⟨1, _⟩ => ⟨S3x512, .f32⟩
  | .hbm, ⟨2, _⟩ => ⟨S512x2048, .f32⟩
  | .hbm, ⟨3, _⟩ => ⟨S2048x2048, .f32⟩
  | .hbm, ⟨4, _⟩ => ⟨S2048x2048, .f32⟩
  | .hbm, ⟨5, _⟩ => ⟨S6144, .f32⟩
  | .hbm, ⟨6, _⟩ => ⟨S2048x2048, .f32⟩
  | .hbm, ⟨7, _⟩ => ⟨S2048x2048, .bf16⟩
  | .hbm, ⟨8, _⟩ => ⟨S2048x512, .bf16⟩
  | .hbm, ⟨9, _⟩ => ⟨S512x2048, .bf16⟩
  | .hbm, ⟨10, _⟩ => ⟨S512x4x512, .bf16⟩
  | .hbm, ⟨11, _⟩ => ⟨S4x512x512, .bf16⟩
  | .hbm, ⟨12, _⟩ => ⟨S1x4x512x512, .bf16⟩
  | .hbm, ⟨13, _⟩ => ⟨S2048x2048, .f32⟩
  | .hbm, ⟨14, _⟩ => ⟨S3x1x2048, .f32⟩
  | .hbm, ⟨15, _⟩ => ⟨S1x1x2048, .f32⟩
  | .hbm, ⟨16, _⟩ => ⟨S1x2048, .f32⟩
  | .hbm, ⟨17, _⟩ => ⟨S1x1x2048, .f32⟩
  | .hbm, ⟨18, _⟩ => ⟨S1x2048, .f32⟩
  | .hbm, ⟨19, _⟩ => ⟨S1x1x2048, .f32⟩
  | .hbm, ⟨20, _⟩ => ⟨S1x2048, .f32⟩
  | .hbm, ⟨21, _⟩ => ⟨S2048x2048, .bf16⟩
  | .hbm, ⟨22, _⟩ => ⟨S2048x2048, .bf16⟩
  | .hbm, ⟨23, _⟩ => ⟨S1x1x2048x2048, .bf16⟩
  | .hbm, ⟨24, _⟩ => ⟨S2048x2048, .f32⟩
  | .hbm, ⟨25, _⟩ => ⟨S_, .f32⟩
  | .hbm, ⟨26, _⟩ => ⟨S1x1x2048x2048, .f32⟩
  | .hbm, ⟨27, _⟩ => ⟨S1x1x2048x2048, .f32⟩
  | .hbm, ⟨28, _⟩ => ⟨S2048x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | .local _ .vmem, ⟨10, _⟩ => ⟨S2048x512, .bf16⟩
  | .local _ .vmem, ⟨11, _⟩ => ⟨S1x1x512x512, .bf16⟩
  | .local _ .vmem, ⟨12, _⟩ => ⟨S1x1x512x512, .bf16⟩
  | .local _ .vmem, ⟨13, _⟩ => ⟨S2048x512, .f32⟩
  | .local _ .vmem, ⟨14, _⟩ => ⟨S2048x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S256x512, .bf16⟩
  | .local _ .vmem, ⟨34, _⟩ => ⟨S256x512, .bf16⟩
  | .local _ .vmem, ⟨35, _⟩ => ⟨S2048x2048, .bf16⟩
  | .local _ .vmem, ⟨36, _⟩ => ⟨S1x1x2048x512, .bf16⟩
  | .local _ .vmem, ⟨37, _⟩ => ⟨S1x1x2048x512, .bf16⟩
  | .local _ .vmem, ⟨38, _⟩ => ⟨S2048x512, .f32⟩
  | .local _ .vmem, ⟨39, _⟩ => ⟨S2048x512, .f32⟩
  | .local _ .vmem, ⟨40, _⟩ => ⟨S2048x2048, .bf16⟩
  | .local _ .vmem, ⟨41, _⟩ => ⟨S2048x512, .bf16⟩
  | .local _ .vmem, ⟨42, _⟩ => ⟨S2048x512, .bf16⟩
  | .local _ .vmem, ⟨43, _⟩ => ⟨S1x1x2048x512, .f32⟩
  | .local _ .vmem, ⟨44, _⟩ => ⟨S1x1x2048x512, .f32⟩
  | _, _ => ⟨S2048x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem8_1 : DmaSem sig := 32
abbrev cc2_sem9_0 : DmaSem sig := 33
abbrev cc2_sem9_1 : DmaSem sig := 34
abbrev cc3_sem0_0 : DmaSem sig := 35
abbrev cc3_sem1_0 : DmaSem sig := 36
abbrev cc3_sem1_1 : DmaSem sig := 37
abbrev cc3_sem2_0 : DmaSem sig := 38
abbrev cc3_sem2_1 : DmaSem sig := 39
abbrev cc4_sem0_0 : DmaSem sig := 40
abbrev cc4_sem1_0 : DmaSem sig := 41
abbrev cc4_sem1_1 : DmaSem sig := 42
abbrev cc4_sem2_0 : DmaSem sig := 43
abbrev cc4_sem2_1 : DmaSem sig := 44

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc2_transform_1 (i : grid2.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc2_transform_2 (i : grid2.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S1x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![false, true]

abbrev stage2_9 : Fin 2 → Memref sig .tc .vmem S256x512 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg2.toNat, v26.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1x1x2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_3 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg0.toNat, v26.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1x2048x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference6Ideal.lean ====
abbrev S2048x12800 : Shape := ⟨2, ![2048, 12800]⟩
abbrev S3x512 : Shape := ⟨2, ![3, 512]⟩
abbrev S512x2048 : Shape := ⟨2, ![512, 2048]⟩
abbrev S2048x2048 : Shape := ⟨2, ![2048, 2048]⟩
abbrev S6144 : Shape := ⟨1, ![6144]⟩
abbrev S2048x1536 : Shape := ⟨2, ![2048, 1536]⟩
abbrev S2048x512 : Shape := ⟨2, ![2048, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S2048x6144 : Shape := ⟨2, ![2048, 6144]⟩
abbrev S1x6144 : Shape := ⟨2, ![1, 6144]⟩
abbrev S2048x3x2048 : Shape := ⟨3, ![2048, 3, 2048]⟩
abbrev S2048x1x2048 : Shape := ⟨3, ![2048, 1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S2048x12800, .f32⟩
  | .hbm, ⟨1, _⟩ => ⟨S3x512, .f32⟩
  | .hbm, ⟨2, _⟩ => ⟨S512x2048, .f32⟩
  | .hbm, ⟨3, _⟩ => ⟨S2048x2048, .f32⟩
  | .hbm, ⟨4, _⟩ => ⟨S2048x2048, .f32⟩
  | .hbm, ⟨5, _⟩ => ⟨S6144, .f32⟩
  | .hbm, ⟨6, _⟩ => ⟨S2048x2048, .f32⟩
  | .hbm, ⟨7, _⟩ => ⟨S2048x2048, .bf16⟩
  | .hbm, ⟨8, _⟩ => ⟨S2048x1536, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2x512, .f32⟩
  | .hbm, ⟨15, _⟩ => ⟨S2050x512, .f32⟩
  | .hbm, ⟨16, _⟩ => ⟨S1x512, .f32⟩
  | .hbm, ⟨17, _⟩ => ⟨S512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S1x512, .f32⟩
  | .hbm, ⟨26, _⟩ => ⟨S512, .f32⟩
  | .hbm, ⟨27, _⟩ => ⟨S2048x512, .f32⟩
  | .hbm, ⟨28, _⟩ => ⟨S1x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S1x512, .f32⟩
  | .hbm, ⟨33, _⟩ => ⟨S512, .f32⟩
  | .hbm, ⟨34, _⟩ => ⟨S2048x512, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x2048, .f32⟩
  | .hbm, ⟨41, _⟩ => ⟨S2048x6144, .f32⟩
  | .hbm, ⟨42, _⟩ => ⟨S1x6144, .f32⟩
  | .hbm, ⟨43, _⟩ => ⟨S2048x6144, .f32⟩
  | .hbm, ⟨44, _⟩ => ⟨S2048x6144, .f32⟩
  | .hbm, ⟨45, _⟩ => ⟨S2048x6144, .f32⟩
  | .hbm, ⟨46, _⟩ => ⟨S2048x6144, .f32⟩
  | .hbm, ⟨47, _⟩ => ⟨S_, .f32⟩
  | .hbm, ⟨48, _⟩ => ⟨S2048x6144, .f32⟩
  | .hbm, ⟨49, _⟩ => ⟨S2048x6144, .f32⟩
  | .hbm, ⟨50, _⟩ => ⟨S_, .f32⟩
  | .hbm, ⟨51, _⟩ => ⟨S2048x6144, .f32⟩
  | .hbm, ⟨52, _⟩ => ⟨S2048x6144, .f32⟩
  | .hbm, ⟨53, _⟩ => ⟨S2048x3x2048, .f32⟩
  | .hbm, ⟨54, _⟩ => ⟨S2048x1x2048, .f32⟩
  | .hbm, ⟨55, _⟩ => ⟨S2048x2048, .f32⟩
  | .hbm, ⟨56, _⟩ => ⟨S2048x2048, .f32⟩
  | .hbm, ⟨57, _⟩ => ⟨S2048x1x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x1x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | _, _ => ⟨S2048x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Kernel8.lean ====
abbrev S2048x12800 : Shape := ⟨2, ![2048, 12800]⟩
abbrev S3x512 : Shape := ⟨2, ![3, 512]⟩
abbrev S2048x2048 : Shape := ⟨2, ![2048, 2048]⟩
abbrev S2048x512 : Shape := ⟨2, ![2048, 512]⟩
abbrev S2048x128 : Shape := ⟨2, ![2048, 128]⟩
abbrev S3x128 : Shape := ⟨2, ![3, 128]⟩
abbrev S1x128 : Shape := ⟨2, ![1, 128]⟩
abbrev S_ : Shape := ⟨0, ![]⟩
abbrev S1x4x512x512 : Shape := ⟨4, ![1, 4, 512, 512]⟩
abbrev S1x1x512x512 : Shape := ⟨4, ![1, 1, 512, 512]⟩
abbrev S512x512 : Shape := ⟨2, ![512, 512]⟩
abbrev S128 : Shape := ⟨1, ![128]⟩
abbrev S2048x1536 : Shape := ⟨2, ![2048, 1536]⟩
abbrev S4x512x512 : Shape := ⟨3, ![4, 512, 512]⟩
abbrev S512x4x512 : Shape := ⟨3, ![512, 4, 512]⟩
abbrev S512x2048 : Shape := ⟨2, ![512, 2048]⟩

abbrev nBuf : Space → Nat
  | .hbm => 16
  | .vmem => 33
  | .smem => 0
  | _ => 0

abbrev bufTy : (tb : Table) → Fin (tcTables nBuf tb) → BufTy
  | .hbm, ⟨0, _⟩ => ⟨S2048x12800, .f32⟩
  | .hbm, ⟨1, _⟩ => ⟨S3x512, .f32⟩
  | .hbm, ⟨2, _⟩ => ⟨S2048x2048, .bf16⟩
  | .hbm, ⟨3, _⟩ => ⟨S2048x512, .bf16⟩
  | .hbm, ⟨4, _⟩ => ⟨S2048x512, .bf16⟩
  | .hbm, ⟨5, _⟩ => ⟨S_, .f32⟩
  | .hbm, ⟨6, _⟩ => ⟨S1x4x512x512, .f32⟩
  | .hbm, ⟨7, _⟩ => ⟨S1x4x512x512, .f32⟩
  | .hbm, ⟨8, _⟩ => ⟨S2048x512, .bf16⟩
  | .hbm, ⟨9, _⟩ => ⟨S2048x512, .bf16⟩
  | .hbm, ⟨10, _⟩ => ⟨S2048x512, .bf16⟩
  | .hbm, ⟨11, _⟩ => ⟨S3x512, .f32⟩
  | .hbm, ⟨12, _⟩ => ⟨S2048x1536, .bf16⟩
  | .hbm, ⟨13, _⟩ => ⟨S4x512x512, .f32⟩
  | .hbm, ⟨14, _⟩ => ⟨S512x4x512, .f32⟩
  | .hbm, ⟨15, _⟩ => ⟨S512x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .bf16⟩
  | .local _ .vmem, ⟨9, _⟩ => ⟨S2048x128, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S1x1x512x512, .f32⟩
  | .local _ .vmem, ⟨14, _⟩ => ⟨S1x1x512x512, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S3x128, .f32⟩
  | .local _ .vmem, ⟨22, _⟩ => ⟨S3x128, .f32⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S3x128, .f32⟩
  | .local _ .vmem, ⟨32, _⟩ => ⟨S3x128, .f32⟩
  | _, _ => ⟨S2048x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg8_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem8_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![4], ![false]⟩

def cc2_transform_0 (i : grid2.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c44_i32 : BitVec 32 := 44#32
  let v0 : BitVec 32 := Scalar.addi c44_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2048x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2048x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2048x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S3x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== Reference8Ideal.lean ====
abbrev S2048x12800 : Shape := ⟨2, ![2048, 12800]⟩
abbrev S3x512 : Shape := ⟨2, ![3, 512]⟩
abbrev S2048x2048 : Shape := ⟨2, ![2048, 2048]⟩
abbrev S2048x512 : Shape := ⟨2, ![2048, 512]⟩
abbrev S2048x1536 : Shape := ⟨2, ![2048, 1536]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S512x2048 : Shape := ⟨2, ![512, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2048x12800, .f32⟩
  | .hbm, ⟨1, _⟩ => ⟨S3x512, .f32⟩
  | .hbm, ⟨2, _⟩ => ⟨S2048x2048, .bf16⟩
  | .hbm, ⟨3, _⟩ => ⟨S2048x512, .bf16⟩
  | .hbm, ⟨4, _⟩ => ⟨S2048x1536, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2x512, .f32⟩
  | .hbm, ⟨11, _⟩ => ⟨S2050x512, .f32⟩
  | .hbm, ⟨12, _⟩ => ⟨S_, .f32⟩
  | .hbm, ⟨13, _⟩ => ⟨S2x512, .f32⟩
  | .hbm, ⟨14, _⟩ => ⟨S1x512, .f32⟩
  | .hbm, ⟨15, _⟩ => ⟨S512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S1x512, .f32⟩
  | .hbm, ⟨24, _⟩ => ⟨S512, .f32⟩
  | .hbm, ⟨25, _⟩ => ⟨S2048x512, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S1x512, .f32⟩
  | .hbm, ⟨31, _⟩ => ⟨S512, .f32⟩
  | .hbm, ⟨32, _⟩ => ⟨S2048x512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S512, .f32⟩
  | .hbm, ⟨49, _⟩ => ⟨S_, .f32⟩
  | .hbm, ⟨50, _⟩ => ⟨S2050x512, .f32⟩
  | .hbm, ⟨51, _⟩ => ⟨S1x512, .f32⟩
  | .hbm, ⟨52, _⟩ => ⟨S_, .f32⟩
  | .hbm, ⟨53, _⟩ => ⟨S3x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S512, .f32⟩
  | .hbm, ⟨62, _⟩ => ⟨S_, .f32⟩
  | .hbm, ⟨63, _⟩ => ⟨S2050x512, .f32⟩
  | .hbm, ⟨64, _⟩ => ⟨S2050x512, .f32⟩
  | .hbm, ⟨65, _⟩ => ⟨S1x512, .f32⟩
  | .hbm, ⟨66, _⟩ => ⟨S_, .f32⟩
  | .hbm, ⟨67, _⟩ => ⟨S3x512, .f32⟩
  | .hbm, ⟨68, _⟩ => ⟨S3x512, .f32⟩
  | .hbm, ⟨69, _⟩ => ⟨S2048x512, .f32⟩
  | .hbm, ⟨70, _⟩ => ⟨S2048x512, .f32⟩
  | .hbm, ⟨71, _⟩ => ⟨S2048x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S_, .f32⟩
  | .hbm, ⟨76, _⟩ => ⟨S512, .f32⟩
  | .hbm, ⟨77, _⟩ => ⟨S_, .f32⟩
  | .hbm, ⟨78, _⟩ => ⟨S2050x512, .f32⟩
  | .hbm, ⟨79, _⟩ => ⟨S2050x512, .f32⟩
  | .hbm, ⟨80, _⟩ => ⟨S1x512, .f32⟩
  | .hbm, ⟨81, _⟩ => ⟨S_, .f32⟩
  | .hbm, ⟨82, _⟩ => ⟨S3x512, .f32⟩
  | .hbm, ⟨83, _⟩ => ⟨S3x512, .f32⟩
  | .hbm, ⟨84, _⟩ => ⟨S2x512, .f32⟩
  | .hbm, ⟨85, _⟩ => ⟨S2048x512, .f32⟩
  | .hbm, ⟨86, _⟩ => ⟨S2048x512, .f32⟩
  | .hbm, ⟨87, _⟩ => ⟨S2048x512, .f32⟩
  | .hbm, ⟨88, _⟩ => ⟨S2048x1536, .f32⟩
  | .hbm, ⟨89, _⟩ => ⟨S_, .f32⟩
  | .hbm, ⟨90, _⟩ => ⟨S512x2048, .f32⟩
  | .hbm, ⟨91, _⟩ => ⟨S2048x1536, .bf16⟩
  | .hbm, ⟨92, _⟩ => ⟨S2048x2048, .f32⟩
  | .hbm, ⟨93, _⟩ => ⟨S2048x2048, .f32⟩
  | .hbm, ⟨94, _⟩ => ⟨S2048x512, .f32⟩
  | .hbm, ⟨95, _⟩ => ⟨S512x2048, .f32⟩
  | _, _ => ⟨S2048x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel9.lean ====
abbrev S2048x2048 : Shape := ⟨2, ![2048, 2048]⟩
abbrev S512x2048 : Shape := ⟨2, ![512, 2048]⟩
abbrev S512x4x512 : Shape := ⟨3, ![512, 4, 512]⟩
abbrev S4x512x512 : Shape := ⟨3, ![4, 512, 512]⟩
abbrev S1x4x512x512 : Shape := ⟨4, ![1, 4, 512, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S512x2048, .f32⟩
  | .hbm, ⟨2, _⟩ => ⟨S512x2048, .bf16⟩
  | .hbm, ⟨3, _⟩ => ⟨S512x4x512, .bf16⟩
  | .hbm, ⟨4, _⟩ => ⟨S4x512x512, .bf16⟩
  | .hbm, ⟨5, _⟩ => ⟨S1x4x512x512, .bf16⟩
  | .hbm, ⟨6, _⟩ => ⟨S2048x512, .f32⟩
  | .local _ .vmem, ⟨0, _⟩ => ⟨S2048x512, .bf16⟩
  | .local _ .vmem, ⟨1, _⟩ => ⟨S2048x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x2048, .f32⟩
  | .hbm, ⟨6, _⟩ => ⟨S2048x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S512x2048 : Shape := ⟨2, ![512, 2048]⟩
abbrev S512x4x512 : Shape := ⟨3, ![512, 4, 512]⟩
abbrev S4x512x512 : Shape := ⟨3, ![4, 512, 512]⟩
abbrev S1x4x512x512 : Shape := ⟨4, ![1, 4, 512, 512]⟩
abbrev S2048x512 : Shape := ⟨2, ![2048, 512]⟩
abbrev S1x1x512x512 : Shape := ⟨4, ![1, 1, 512, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S512x2048, .f32⟩
  | .hbm, ⟨2, _⟩ => ⟨S512x2048, .bf16⟩
  | .hbm, ⟨3, _⟩ => ⟨S512x4x512, .bf16⟩
  | .hbm, ⟨4, _⟩ => ⟨S4x512x512, .bf16⟩
  | .hbm, ⟨5, _⟩ => ⟨S1x4x512x512, .bf16⟩
  | .hbm, ⟨6, _⟩ => ⟨S2048x512, .bf16⟩
  | .local _ .vmem, ⟨0, _⟩ => ⟨S2048x512, .bf16⟩
  | .local _ .vmem, ⟨1, _⟩ => ⟨S2048x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S2048x512, .bf16⟩
  | .local _ .vmem, ⟨5, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S512x2048 : Shape := ⟨2, ![512, 2048]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S512x2048, .f32⟩
  | .hbm, ⟨2, _⟩ => ⟨S_, .f32⟩
  | .hbm, ⟨3, _⟩ => ⟨S2048x512, .f32⟩
  | .hbm, ⟨4, _⟩ => ⟨S2048x2048, .f32⟩
  | .hbm, ⟨5, _⟩ => ⟨S2048x2048, .f32⟩
  | .hbm, ⟨6, _⟩ => ⟨S2048x512, .f32⟩
  | .hbm, ⟨7, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S2048x512 : Shape := ⟨2, ![2048, 512]⟩
abbrev S512x2048 : Shape := ⟨2, ![512, 2048]⟩
abbrev S2048x2048 : Shape := ⟨2, ![2048, 2048]⟩
abbrev S512x4x512 : Shape := ⟨3, ![512, 4, 512]⟩
abbrev S4x512x512 : Shape := ⟨3, ![4, 512, 512]⟩
abbrev S1x4x512x512 : Shape := ⟨4, ![1, 4, 512, 512]⟩
abbrev S1x1x512x512 : Shape := ⟨4, ![1, 1, 512, 512]⟩
abbrev S512x512 : Shape := ⟨2, ![512, 512]⟩
abbrev S_ : Shape := ⟨0, ![]⟩

abbrev nBuf : Space → Nat
  | .hbm => 14
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S512x2048, .f32⟩
  | .hbm, ⟨2, _⟩ => ⟨S2048x2048, .bf16⟩
  | .hbm, ⟨3, _⟩ => ⟨S512x2048, .bf16⟩
  | .hbm, ⟨4, _⟩ => ⟨S512x4x512, .bf16⟩
  | .hbm, ⟨5, _⟩ => ⟨S4x512x512, .bf16⟩
  | .hbm, ⟨6, _⟩ => ⟨S1x4x512x512, .bf16⟩
  | .hbm, ⟨7, _⟩ => ⟨S2048x2048, .f32⟩
  | .hbm, ⟨8, _⟩ => ⟨S_, .f32⟩
  | .hbm, ⟨9, _⟩ => ⟨S1x4x512x512, .f32⟩
  | .hbm, ⟨10, _⟩ => ⟨S1x4x512x512, .f32⟩
  | .hbm, ⟨11, _⟩ => ⟨S4x512x512, .f32⟩
  | .hbm, ⟨12, _⟩ => ⟨S512x4x512, .f32⟩
  | .hbm, ⟨13, _⟩ => ⟨S512x2048, .f32⟩
  | .local _ .vmem, ⟨0, _⟩ => ⟨S2048x512, .bf16⟩
  | .local _ .vmem, ⟨1, _⟩ => ⟨S1x1x512x512, .bf16⟩
  | .local _ .vmem, ⟨2, _⟩ => ⟨S1x1x512x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x1x512x512, .f32⟩
  | .local _ .vmem, ⟨9, _⟩ => ⟨S1x1x512x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![c0_i32_11.toNat, v16.toNat, arg0.toNat, v26.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference11Ideal.lean ====
abbrev S2048x512 : Shape := ⟨2, ![2048, 512]⟩
abbrev S512x2048 : Shape := ⟨2, ![512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x2048, .f32⟩
  | .hbm, ⟨2, _⟩ => ⟨S2048x2048, .bf16⟩
  | .hbm, ⟨3, _⟩ => ⟨S2048x512, .f32⟩
  | .hbm, ⟨4, _⟩ => ⟨S2048x2048, .f32⟩
  | .hbm, ⟨5, _⟩ => ⟨S2048x2048, .f32⟩
  | .hbm, ⟨6, _⟩ => ⟨S2048x512, .f32⟩
  | .hbm, ⟨7, _⟩ => ⟨S512x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S2048x2048 : Shape := ⟨2, ![2048, 2048]⟩
abbrev S1x1x2048x2048 : Shape := ⟨4, ![1, 1, 2048, 2048]⟩
abbrev S1024x1024 : Shape := ⟨2, ![1024, 1024]⟩
abbrev S1x1x2048x1024 : Shape := ⟨4, ![1, 1, 2048, 1024]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S1x1x2048x2048, .bf16⟩
  | .hbm, ⟨4, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x2048, .f32⟩
  | .local _ .vmem, ⟨5, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_5 : BitVec 32 := 0#32
  let v6 : BitVec 1 := Scalar.cmpi .ne v5 c0_i32_5
  v6

def k0_cond2 (i : grid0.Coords) : BitVec 1 :=
  let arg2 : BitVec 32 := BitVec.ofNat 32 (i 2).val
  let c0_i32_6 : BitVec 32 := 0#32
  let v7 : BitVec 1 := Scalar.cmpi .sgt arg2 c0_i32_6
  let v8 : BitVec 32 := Scalar.extui v7
  let c0_i32_7 : BitVec 32 := 0#32
  let v9 : BitVec 1 := Scalar.cmpi .ne v8 c0_i32_7
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4x2048x3200 : Shape := ⟨3, ![4, 2048, 3200]⟩
abbrev S4x128x512 : Shape := ⟨3, ![4, 128, 512]⟩
abbrev S4x512x512 : Shape := ⟨3, ![4, 512, 512]⟩
abbrev S4x512x2048 : Shape := ⟨3, ![4, 512, 2048]⟩
abbrev S4x2048x2816 : Shape := ⟨3, ![4, 2048, 2816]⟩
abbrev S4x1408x2048 : Shape := ⟨3, ![4, 1408, 2048]⟩
abbrev S8192x3200 : Shape := ⟨2, ![8192, 3200]⟩
abbrev S512x640 : Shape := ⟨2, ![512, 640]⟩
abbrev S512x512 : Shape := ⟨2, ![512, 512]⟩
abbrev S2048x512 : Shape := ⟨2, ![2048, 512]⟩
abbrev S2048x2048 : Shape := ⟨2, ![2048, 2048]⟩
abbrev S512x1024 : Shape := ⟨2, ![512, 1024]⟩
abbrev S8192x2816 : Shape := ⟨2, ![8192, 2816]⟩
abbrev S512x256 : Shape := ⟨2, ![512, 256]⟩
abbrev S5632x2048 : Shape := ⟨2, ![5632, 2048]⟩

abbrev nBuf : Space → Nat
  | .hbm => 84
  | .vmem => 77
  | .smem => 0
  | _ => 0

abbrev bufTy : (tb : Table) → Fin (tcTables nBuf tb) → BufTy
  | .hbm, ⟨0, _⟩ => ⟨S4x2048x3200, .f32⟩
  | .hbm, ⟨1, _⟩ => ⟨S4x2048x3200, .f32⟩
  | .hbm, ⟨2, _⟩ => ⟨S4x2048x3200, .f32⟩
  | .hbm, ⟨3, _⟩ => ⟨S4x2048x3200, .f32⟩
  | .hbm, ⟨4, _⟩ => ⟨S4x128x512, .f32⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S4x512x512, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S4x512x2048, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S4x2048x2816, .f32⟩
  | .hbm, ⟨20, _⟩ => ⟨S4x1408x2048, .f32⟩
  | .hbm, ⟨21, _⟩ => ⟨S4x1408x2048, .f32⟩
  | .hbm, ⟨22, _⟩ => ⟨S4x1408x2048, .f32⟩
  | .hbm, ⟨23, _⟩ => ⟨S4x1408x2048, .f32⟩
  | .hbm, ⟨24, _⟩ => ⟨S8192x3200, .f32⟩
  | .hbm, ⟨25, _⟩ => ⟨S8192x3200, .f32⟩
  | .hbm, ⟨26, _⟩ => ⟨S8192x3200, .f32⟩
  | .hbm, ⟨27, _⟩ => ⟨S8192x3200, .f32⟩
  | .hbm, ⟨28, _⟩ => ⟨S8192x3200, .f32⟩
  | .hbm, ⟨29, _⟩ => ⟨S8192x3200, .f32⟩
  | .hbm, ⟨30, _⟩ => ⟨S8192x3200, .f32⟩
  | .hbm, ⟨31, _⟩ => ⟨S4x2048x3200, .f32⟩
  | .hbm, ⟨32, _⟩ => ⟨S4x2048x3200, .f32⟩
  | .hbm, ⟨33, _⟩ => ⟨S4x2048x3200, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S4x128x512, .f32⟩
  | .hbm, ⟨42, _⟩ => ⟨S4x128x512, .f32⟩
  | .hbm, ⟨43, _⟩ => ⟨S4x128x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S4x512x512, .f32⟩
  | .hbm, ⟨52, _⟩ => ⟨S4x512x512, .f32⟩
  | .hbm, ⟨53, _⟩ => ⟨S4x512x512, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S4x512x2048, .f32⟩
  | .hbm, ⟨62, _⟩ => ⟨S4x512x2048, .f32⟩
  | .hbm, ⟨63, _⟩ => ⟨S4x512x2048, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S4x2048x2816, .f32⟩
  | .hbm, ⟨72, _⟩ => ⟨S4x2048x2816, .f32⟩
  | .hbm, ⟨73, _⟩ => ⟨S4x2048x2816, .f32⟩
  | .hbm, ⟨74, _⟩ => ⟨S5632x2048, .f32⟩
  | .hbm, ⟨75, _⟩ => ⟨S5632x2048, .f32⟩
  | .hbm, ⟨76, _⟩ => ⟨S5632x2048, .f32⟩
  | .hbm, ⟨77, _⟩ => ⟨S5632x2048, .f32⟩
  | .hbm, ⟨78, _⟩ => ⟨S5632x2048, .f32⟩
  | .hbm, ⟨79, _⟩ => ⟨S5632x2048, .f32⟩
  | .hbm, ⟨80, _⟩ => ⟨S5632x2048, .f32⟩
  | .hbm, ⟨81, _⟩ => ⟨S4x1408x2048, .f32⟩
  | .hbm, ⟨82, _⟩ => ⟨S4x1408x2048, .f32⟩
  | .hbm, ⟨83, _⟩ => ⟨S4x1408x2048, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x256, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | .local _ .vmem, ⟨53, _⟩ => ⟨S512x256, .f32⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S512x256, .f32⟩
  | .local _ .vmem, ⟨60, _⟩ => ⟨S512x256, .f32⟩
  | .local _ .vmem, ⟨61, _⟩ => ⟨S512x256, .f32⟩
  | .local _ .vmem, ⟨62, _⟩ => ⟨S512x256, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S512x1024, .f32⟩
  | .local _ .vmem, ⟨76, _⟩ => ⟨S512x1024, .f32⟩
  | _, _ => ⟨S4x2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v12_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v28_2 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36_0 : Ref sig .tc := ⟨.hbm, 68, rfl⟩
abbrev main_v36_1 : Ref sig .tc := ⟨.hbm, 69, rfl⟩
abbrev main_v36_2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44_0 : Ref sig .tc := ⟨.hbm, 78, rfl⟩
abbrev main_v44_1 : Ref sig .tc := ⟨.hbm, 79, rfl⟩
abbrev main_v44_2 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg1_1 : Ref sig .tc := ⟨.vmem, 52, rfl⟩
abbrev cc4_stg2_0 : Ref sig .tc := ⟨.vmem, 53, rfl⟩
abbrev cc4_stg2_1 : Ref sig .tc := ⟨.vmem, 54, rfl⟩
abbrev cc4_stg3_0 : Ref sig .tc := ⟨.vmem, 55, rfl⟩
abbrev cc4_stg3_1 : Ref sig .tc := ⟨.vmem, 56, rfl⟩
abbrev cc4_stg4_0 : Ref sig .tc := ⟨.vmem, 57, rfl⟩
abbrev cc4_stg4_1 : Ref sig .tc := ⟨.vmem, 58, rfl⟩
abbrev cc4_stg5_0 : Ref sig .tc := ⟨.vmem, 59, rfl⟩
abbrev cc4_stg5_1 : Ref sig .tc := ⟨.vmem, 60, rfl⟩
abbrev cc4_stg6_0 : Ref sig .tc := ⟨.vmem, 61, rfl⟩
abbrev cc4_stg6_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc5_stg3_0 : Ref sig .tc := ⟨.vmem, 69, rfl⟩
abbrev cc5_stg3_1 : Ref sig .tc := ⟨.vmem, 70, rfl⟩
abbrev cc5_stg4_0 : Ref sig .tc := ⟨.vmem, 71, rfl⟩
abbrev cc5_stg4_1 : Ref sig .tc := ⟨.vmem, 72, rfl⟩
abbrev cc5_stg5_0 : Ref sig .tc := ⟨.vmem, 73, rfl⟩
abbrev cc5_stg5_1 : Ref sig .tc := ⟨.vmem, 74, rfl⟩
abbrev cc5_stg6_0 : Ref sig .tc := ⟨.vmem, 75, rfl⟩
abbrev cc5_stg6_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48
abbrev cc4_sem0_0 : DmaSem sig := 49
abbrev cc4_sem0_1 : DmaSem sig := 50
abbrev cc4_sem1_0 : DmaSem sig := 51
abbrev cc4_sem1_1 : DmaSem sig := 52
abbrev cc4_sem2_0 : DmaSem sig := 53
abbrev cc4_sem2_1 : DmaSem sig := 54
abbrev cc4_sem3_0 : DmaSem sig := 55
abbrev cc4_sem3_1 : DmaSem sig := 56
abbrev cc4_sem4_0 : DmaSem sig := 57
abbrev cc4_sem4_1 : DmaSem sig := 58
abbrev cc4_sem5_0 : DmaSem sig := 59
abbrev cc4_sem5_1 : DmaSem sig := 60
abbrev cc4_sem6_0 : DmaSem sig := 61
abbrev cc4_sem6_1 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem2_1 : DmaSem sig := 68
abbrev cc5_sem3_0 : DmaSem sig := 69
abbrev cc5_sem3_1 : DmaSem sig := 70
abbrev cc5_sem4_0 : DmaSem sig := 71
abbrev cc5_sem4_1 : DmaSem sig := 72
abbrev cc5_sem5_0 : DmaSem sig := 73
abbrev cc5_sem5_1 : DmaSem sig := 74
abbrev cc5_sem6_0 : DmaSem sig := 75
abbrev cc5_sem6_1 : DmaSem sig := 76

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![16, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S512x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![11, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S512x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]
-- ==== Kernel13Ideal.lean ====
abbrev S4x2048x3200 : Shape := ⟨3, ![4, 2048, 3200]⟩
abbrev S4x128x512 : Shape := ⟨3, ![4, 128, 512]⟩
abbrev S4x512x512 : Shape := ⟨3, ![4, 512, 512]⟩
abbrev S4x512x2048 : Shape := ⟨3, ![4, 512, 2048]⟩
abbrev S4x2048x2816 : Shape := ⟨3, ![4, 2048, 2816]⟩
abbrev S4x1408x2048 : Shape := ⟨3, ![4, 1408, 2048]⟩
abbrev S8192x3200 : Shape := ⟨2, ![8192, 3200]⟩
abbrev S512x640 : Shape := ⟨2, ![512, 640]⟩
abbrev S512x512 : Shape := ⟨2, ![512, 512]⟩
abbrev S2048x512 : Shape := ⟨2, ![2048, 512]⟩
abbrev S2048x2048 : Shape := ⟨2, ![2048, 2048]⟩
abbrev S512x1024 : Shape := ⟨2, ![512, 1024]⟩
abbrev S8192x2816 : Shape := ⟨2, ![8192, 2816]⟩
abbrev S512x256 : Shape := ⟨2, ![512, 256]⟩
abbrev S5632x2048 : Shape := ⟨2, ![5632, 2048]⟩

abbrev nBuf : Space → Nat
  | .hbm => 84
  | .vmem => 77
  | .smem => 0
  | _ => 0

abbrev bufTy : (tb : Table) → Fin (tcTables nBuf tb) → BufTy
  | .hbm, ⟨0, _⟩ => ⟨S4x2048x3200, .f32⟩
  | .hbm, ⟨1, _⟩ => ⟨S4x2048x3200, .f32⟩
  | .hbm, ⟨2, _⟩ => ⟨S4x2048x3200, .f32⟩
  | .hbm, ⟨3, _⟩ => ⟨S4x2048x3200, .f32⟩
  | .hbm, ⟨4, _⟩ => ⟨S4x128x512, .f32⟩
  | .hbm, ⟨5, _⟩ => ⟨S4x128x512, .f32⟩
  | .hbm, ⟨6, _⟩ => ⟨S4x128x512, .f32⟩
  | .hbm, ⟨7, _⟩ => ⟨S4x128x512, .f32⟩
  | .hbm, ⟨8, _⟩ => ⟨S4x512x512, .f32⟩
  | .hbm, ⟨9, _⟩ => ⟨S4x512x512, .f32⟩
  | .hbm, ⟨10, _⟩ => ⟨S4x512x512, .f32⟩
  | .hbm, ⟨11, _⟩ => ⟨S4x512x512, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S4x512x2048, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S4x2048x2816, .f32⟩
  | .hbm, ⟨20, _⟩ => ⟨S4x1408x2048, .f32⟩
  | .hbm, ⟨21, _⟩ => ⟨S4x1408x2048, .f32⟩
  | .hbm, ⟨22, _⟩ => ⟨S4x1408x2048, .f32⟩
  | .hbm, ⟨23, _⟩ => ⟨S4x1408x2048, .f32⟩
  | .hbm, ⟨24, _⟩ => ⟨S8192x3200, .f32⟩
  | .hbm, ⟨25, _⟩ => ⟨S8192x3200, .f32⟩
  | .hbm, ⟨26, _⟩ => ⟨S8192x3200, .f32⟩
  | .hbm, ⟨27, _⟩ => ⟨S8192x3200, .f32⟩
  | .hbm, ⟨28, _⟩ => ⟨S8192x3200, .f32⟩
  | .hbm, ⟨29, _⟩ => ⟨S8192x3200, .f32⟩
  | .hbm, ⟨30, _⟩ => ⟨S8192x3200, .f32⟩
  | .hbm, ⟨31, _⟩ => ⟨S4x2048x3200, .f32⟩
  | .hbm, ⟨32, _⟩ => ⟨S4x2048x3200, .f32⟩
  | .hbm, ⟨33, _⟩ => ⟨S4x2048x3200, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S4x128x512, .f32⟩
  | .hbm, ⟨42, _⟩ => ⟨S4x128x512, .f32⟩
  | .hbm, ⟨43, _⟩ => ⟨S4x128x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S4x512x512, .f32⟩
  | .hbm, ⟨52, _⟩ => ⟨S4x512x512, .f32⟩
  | .hbm, ⟨53, _⟩ => ⟨S4x512x512, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S4x512x2048, .f32⟩
  | .hbm, ⟨62, _⟩ => ⟨S4x512x2048, .f32⟩
  | .hbm, ⟨63, _⟩ => ⟨S4x512x2048, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S4x2048x2816, .f32⟩
  | .hbm, ⟨72, _⟩ => ⟨S4x2048x2816, .f32⟩
  | .hbm, ⟨73, _⟩ => ⟨S4x2048x2816, .f32⟩
  | .hbm, ⟨74, _⟩ => ⟨S5632x2048, .f32⟩
  | .hbm, ⟨75, _⟩ => ⟨S5632x2048, .f32⟩
  | .hbm, ⟨76, _⟩ => ⟨S5632x2048, .f32⟩
  | .hbm, ⟨77, _⟩ => ⟨S5632x2048, .f32⟩
  | .hbm, ⟨78, _⟩ => ⟨S5632x2048, .f32⟩
  | .hbm, ⟨79, _⟩ => ⟨S5632x2048, .f32⟩
  | .hbm, ⟨80, _⟩ => ⟨S5632x2048, .f32⟩
  | .hbm, ⟨81, _⟩ => ⟨S4x1408x2048, .f32⟩
  | .hbm, ⟨82, _⟩ => ⟨S4x1408x2048, .f32⟩
  | .hbm, ⟨83, _⟩ => ⟨S4x1408x2048, .f32⟩
  | .local _ .vmem, ⟨0, _⟩ => ⟨S512x640, .f32⟩
  | .local _ .vmem, ⟨1, _⟩ => ⟨S512x640, .f32⟩
  | .local _ .vmem, ⟨2, _⟩ => ⟨S512x640, .f32⟩
  | .local _ .vmem, ⟨3, _⟩ => ⟨S512x640, .f32⟩
  | .local _ .vmem, ⟨4, _⟩ => ⟨S512x640, .f32⟩
  | .local _ .vmem, ⟨5, _⟩ => ⟨S512x640, .f32⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S512x640, .f32⟩
  | .local _ .vmem, ⟨11, _⟩ => ⟨S512x640, .f32⟩
  | .local _ .vmem, ⟨12, _⟩ => ⟨S512x640, .f32⟩
  | .local _ .vmem, ⟨13, _⟩ => ⟨S512x640, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .f32⟩
  | .local _ .vmem, ⟨42, _⟩ => ⟨S512x1024, .f32⟩
  | .local _ .vmem, ⟨43, _⟩ => ⟨S512x1024, .f32⟩
  | .local _ .vmem, ⟨44, _⟩ => ⟨S512x1024, .f32⟩
  | .local _ .vmem, ⟨45, _⟩ => ⟨S512x1024, .f32⟩
  | .local _ .vmem, ⟨46, _⟩ => ⟨S512x1024, .f32⟩
  | .local _ .vmem, ⟨47, _⟩ => ⟨S512x1024, .f32⟩
  | .local _ .vmem, ⟨48, _⟩ => ⟨S512x1024, .f32⟩
  | .local _ .vmem, ⟨49, _⟩ => ⟨S512x256, .f32⟩
  | .local _ .vmem, ⟨50, _⟩ => ⟨S512x256, .f32⟩
  | .local _ .vmem, ⟨51, _⟩ => ⟨S512x256, .f32⟩
  | .local _ .vmem, ⟨52, _⟩ => ⟨S512x256, .f32⟩
  | .local _ .vmem, ⟨53, _⟩ => ⟨S512x256, .f32⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S512x256, .f32⟩
  | .local _ .vmem, ⟨60, _⟩ => ⟨S512x256, .f32⟩
  | .local _ .vmem, ⟨61, _⟩ => ⟨S512x256, .f32⟩
  | .local _ .vmem, ⟨62, _⟩ => ⟨S512x256, .f32⟩
  | .local _ .vmem, ⟨63, _⟩ => ⟨S512x1024, .f32⟩
  | .local _ .vmem, ⟨64, _⟩ => ⟨S512x1024, .f32⟩
  | .local _ .vmem, ⟨65, _⟩ => ⟨S512x1024, .f32⟩
  | .local _ .vmem, ⟨66, _⟩ => ⟨S512x1024, .f32⟩
  | .local _ .vmem, ⟨67, _⟩ => ⟨S512x1024, .f32⟩
  | .local _ .vmem, ⟨68, _⟩ => ⟨S512x1024, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S512x1024, .f32⟩
  | .local _ .vmem, ⟨76, _⟩ => ⟨S512x1024, .f32⟩
  | _, _ => ⟨S4x2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4_0 : Ref sig .tc := ⟨.hbm, 28, rfl⟩
abbrev main_v4_1 : Ref sig .tc := ⟨.hbm, 29, rfl⟩
abbrev main_v4_2 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v12_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28_0 : Ref sig .tc := ⟨.hbm, 58, rfl⟩
abbrev main_v28_1 : Ref sig .tc := ⟨.hbm, 59, rfl⟩
abbrev main_v28_2 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36_0 : Ref sig .tc := ⟨.hbm, 68, rfl⟩
abbrev main_v36_1 : Ref sig .tc := ⟨.hbm, 69, rfl⟩
abbrev main_v36_2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44_0 : Ref sig .tc := ⟨.hbm, 78, rfl⟩
abbrev main_v44_1 : Ref sig .tc := ⟨.hbm, 79, rfl⟩
abbrev main_v44_2 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg1_1 : Ref sig .tc := ⟨.vmem, 52, rfl⟩
abbrev cc4_stg2_0 : Ref sig .tc := ⟨.vmem, 53, rfl⟩
abbrev cc4_stg2_1 : Ref sig .tc := ⟨.vmem, 54, rfl⟩
abbrev cc4_stg3_0 : Ref sig .tc := ⟨.vmem, 55, rfl⟩
abbrev cc4_stg3_1 : Ref sig .tc := ⟨.vmem, 56, rfl⟩
abbrev cc4_stg4_0 : Ref sig .tc := ⟨.vmem, 57, rfl⟩
abbrev cc4_stg4_1 : Ref sig .tc := ⟨.vmem, 58, rfl⟩
abbrev cc4_stg5_0 : Ref sig .tc := ⟨.vmem, 59, rfl⟩
abbrev cc4_stg5_1 : Ref sig .tc := ⟨.vmem, 60, rfl⟩
abbrev cc4_stg6_0 : Ref sig .tc := ⟨.vmem, 61, rfl⟩
abbrev cc4_stg6_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg1_1 : Ref sig .tc := ⟨.vmem, 66, rfl⟩
abbrev cc5_stg2_0 : Ref sig .tc := ⟨.vmem, 67, rfl⟩
abbrev cc5_stg2_1 : Ref sig .tc := ⟨.vmem, 68, rfl⟩
abbrev cc5_stg3_0 : Ref sig .tc := ⟨.vmem, 69, rfl⟩
abbrev cc5_stg3_1 : Ref sig .tc := ⟨.vmem, 70, rfl⟩
abbrev cc5_stg4_0 : Ref sig .tc := ⟨.vmem, 71, rfl⟩
abbrev cc5_stg4_1 : Ref sig .tc := ⟨.vmem, 72, rfl⟩
abbrev cc5_stg5_0 : Ref sig .tc := ⟨.vmem, 73, rfl⟩
abbrev cc5_stg5_1 : Ref sig .tc := ⟨.vmem, 74, rfl⟩
abbrev cc5_stg6_0 : Ref sig .tc := ⟨.vmem, 75, rfl⟩
abbrev cc5_stg6_1 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48
abbrev cc4_sem0_0 : DmaSem sig := 49
abbrev cc4_sem0_1 : DmaSem sig := 50
abbrev cc4_sem1_0 : DmaSem sig := 51
abbrev cc4_sem1_1 : DmaSem sig := 52
abbrev cc4_sem2_0 : DmaSem sig := 53
abbrev cc4_sem2_1 : DmaSem sig := 54
abbrev cc4_sem3_0 : DmaSem sig := 55
abbrev cc4_sem3_1 : DmaSem sig := 56
abbrev cc4_sem4_0 : DmaSem sig := 57
abbrev cc4_sem4_1 : DmaSem sig := 58
abbrev cc4_sem5_0 : DmaSem sig := 59
abbrev cc4_sem5_1 : DmaSem sig := 60
abbrev cc4_sem6_0 : DmaSem sig := 61
abbrev cc4_sem6_1 : DmaSem sig := 62
abbrev cc5_sem0_0 : DmaSem sig := 63
abbrev cc5_sem0_1 : DmaSem sig := 64
abbrev cc5_sem1_0 : DmaSem sig := 65
abbrev cc5_sem1_1 : DmaSem sig := 66
abbrev cc5_sem2_0 : DmaSem sig := 67
abbrev cc5_sem2_1 : DmaSem sig := 68
abbrev cc5_sem3_0 : DmaSem sig := 69
abbrev cc5_sem3_1 : DmaSem sig := 70
abbrev cc5_sem4_0 : DmaSem sig := 71
abbrev cc5_sem4_1 : DmaSem sig := 72
abbrev cc5_sem5_0 : DmaSem sig := 73
abbrev cc5_sem5_1 : DmaSem sig := 74
abbrev cc5_sem6_0 : DmaSem sig := 75
abbrev cc5_sem6_1 : DmaSem sig := 76

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨2, ![16, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S512x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![11, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S512x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]
-- ==== Reference13Ideal.lean ====
abbrev S4x2048x3200 : Shape := ⟨3, ![4, 2048, 3200]⟩
abbrev S4x128x512 : Shape := ⟨3, ![4, 128, 512]⟩
abbrev S4x512x512 : Shape := ⟨3, ![4, 512, 512]⟩
abbrev S4x512x2048 : Shape := ⟨3, ![4, 512, 2048]⟩
abbrev S4x2048x2816 : Shape := ⟨3, ![4, 2048, 2816]⟩
abbrev S4x1408x2048 : Shape := ⟨3, ![4, 1408, 2048]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S4x2048x3200, .f32⟩
  | 1 => ⟨S4x2048x3200, .f32⟩
  | 2 => ⟨S4x2048x3200, .f32⟩
  | 3 => ⟨S4x2048x3200, .f32⟩
  | 4 => ⟨S4x128x512, .f32⟩
  | 5 => ⟨S4x128x512, .f32⟩
  | 6 => ⟨S4x128x512, .f32⟩
  | 7 => ⟨S4x128x512, .f32⟩
  | 8 => ⟨S4x512x512, .f32⟩
  | 9 => ⟨S4x512x512, .f32⟩
  | 10 => ⟨S4x512x512, .f32⟩
  | 11 => ⟨S4x512x512, .f32⟩
  | 12 => ⟨S4x512x2048, .f32⟩
  | 13 => ⟨S4x512x2048, .f32⟩
  | 14 => ⟨S4x512x2048, .f32⟩
  | 15 => ⟨S4x512x2048, .f32⟩
  | 16 => ⟨S4x2048x2816, .f32⟩
  | 17 => ⟨S4x2048x2816, .f32⟩
  | 18 => ⟨S4x2048x2816, .f32⟩
  | 19 => ⟨S4x2048x2816, .f32⟩
  | 20 => ⟨S4x1408x2048, .f32⟩
  | 21 => ⟨S4x1408x2048, .f32⟩
  | 22 => ⟨S4x1408x2048, .f32⟩
  | 23 => ⟨S4x1408x2048, .f32⟩
  | 24 => ⟨S_, .f32⟩
  | 25 => ⟨S4x2048x3200, .f32⟩
  | 26 => ⟨S4x2048x3200, .f32⟩
  | 27 => ⟨S_, .f32⟩
  | 28 => ⟨S4x2048x3200, .f32⟩
  | 29 => ⟨S4x2048x3200, .f32⟩
  | 30 => ⟨S4x2048x3200, .f32⟩
  | 31 => ⟨S_, .f32⟩
  | 32 => ⟨S4x2048x3200, .f32⟩
  | 33 => ⟨S4x2048x3200, .f32⟩
  | 34 => ⟨S4x2048x3200, .f32⟩
  | 35 => ⟨S_, .f32⟩
  | 36 => ⟨S4x2048x3200, .f32⟩
  | 37 => ⟨S4x2048x3200, .f32⟩
  | 38 => ⟨S4x2048x3200, .f32⟩
  | 39 => ⟨S_, .f32⟩
  | 40 => ⟨S4x2048x3200, .f32⟩
  | 41 => ⟨S4x2048x3200, .f32⟩
  | 42 => ⟨S_, .f32⟩
  | 43 => ⟨S4x2048x3200, .f32⟩
  | 44 => ⟨S4x2048x3200, .f32⟩
  | 45 => ⟨S4x2048x3200, .f32⟩
  | 46 => ⟨S_, .f32⟩
  | 47 => ⟨S4x2048x3200, .f32⟩
  | 48 => ⟨S4x2048x3200, .f32⟩
  | 49 => ⟨S4x2048x3200, .f32⟩
  | 50 => ⟨S_, .f32⟩
  | 51 => ⟨S4x2048x3200, .f32⟩
  | 52 => ⟨S4x2048x3200, .f32⟩
  | 53 => ⟨S4x2048x3200, .f32⟩
  | 54 => ⟨S_, .f32⟩
  | 55 => ⟨S4x2048x3200, .f32⟩
  | 56 => ⟨S4x2048x3200, .f32⟩
  | 57 => ⟨S_, .f32⟩
  | 58 => ⟨S4x128x512, .f32⟩
  | 59 => ⟨S4x128x512, .f32⟩
  | 60 => ⟨S_, .f32⟩
  | 61 => ⟨S4x128x512, .f32⟩
  | 62 => ⟨S4x128x512, .f32⟩
  | 63 => ⟨S4x128x512, .f32⟩
  | 64 => ⟨S_, .f32⟩
  | 65 => ⟨S4x128x512, .f32⟩
  | 66 => ⟨S4x128x512, .f32⟩
  | 67 => ⟨S4x128x512, .f32⟩
  | 68 => ⟨S_, .f32⟩
  | 69 => ⟨S4x128x512, .f32⟩
  | 70 => ⟨S4x128x512, .f32⟩
  | 71 => ⟨S4x128x512, .f32⟩
  | 72 => ⟨S_, .f32⟩
  | 73 => ⟨S4x128x512, .f32⟩
  | 74 => ⟨S4x128x512, .f32⟩
  | 75 => ⟨S_, .f32⟩
  | 76 => ⟨S4x128x512, .f32⟩
  | 77 => ⟨S4x128x512, .f32⟩
  | 78 => ⟨S4x128x512, .f32⟩
  | 79 => ⟨S_, .f32⟩
  | 80 => ⟨S4x128x512, .f32⟩
  | 81 => ⟨S4x128x512, .f32⟩
  | 82 => ⟨S4x128x512, .f32⟩
  | 83 => ⟨S_, .f32⟩
  | 84 => ⟨S4x128x512, .f32⟩
  | 85 => ⟨S4x128x512, .f32⟩
  | 86 => ⟨S4x128x512, .f32⟩
  | 87 => ⟨S_, .f32⟩
  | 88 => ⟨S4x128x512, .f32⟩
  | 89 => ⟨S4x128x512, .f32⟩
  | 90 => ⟨S_, .f32⟩
  | 91 => ⟨S4x512x512, .f32⟩
  | 92 => ⟨S4x512x512, .f32⟩
  | 93 => ⟨S_, .f32⟩
  | 94 => ⟨S4x512x512, .f32⟩
  | 95 => ⟨S4x512x512, .f32⟩
  | 96 => ⟨S4x512x512, .f32⟩
  | 97 => ⟨S_, .f32⟩
  | 98 => ⟨S4x512x512, .f32⟩
  | 99 => ⟨S4x512x512, .f32⟩
  | 100 => ⟨S4x512x512, .f32⟩
  | 101 => ⟨S_, .f32⟩
  | 102 => ⟨S4x512x512, .f32⟩
  | 103 => ⟨S4x512x512, .f32⟩
  | 104 => ⟨S4x512x512, .f32⟩
  | 105 => ⟨S_, .f32⟩
  | 106 => ⟨S4x512x512, .f32⟩
  | 107 => ⟨S4x512x512, .f32⟩
  | 108 => ⟨S_, .f32⟩
  | 109 => ⟨S4x512x512, .f32⟩
  | 110 => ⟨S4x512x512, .f32⟩
  | 111 => ⟨S4x512x512, .f32⟩
  | 112 => ⟨S_, .f32⟩
  | 113 => ⟨S4x512x512, .f32⟩
  | 114 => ⟨S4x512x512, .f32⟩
  | 115 => ⟨S4x512x512, .f32⟩
  | 116 => ⟨S_, .f32⟩
  | 117 => ⟨S4x512x512, .f32⟩
  | 118 => ⟨S4x512x512, .f32⟩
  | 119 => ⟨S4x512x512, .f32⟩
  | 120 => ⟨S_, .f32⟩
  | 121 => ⟨S4x512x512, .f32⟩
  | 122 => ⟨S4x512x512, .f32⟩
  | 123 => ⟨S_, .f32⟩
  | 124 => ⟨S4x512x2048, .f32⟩
  | 125 => ⟨S4x512x2048, .f32⟩
  | 126 => ⟨S_, .f32⟩
  | 127 => ⟨S4x512x2048, .f32⟩
  | _ => ⟨S4x2048x3200, .f32⟩

abbrev hbmTy0_1 (i : Nat) : BufTy := match i % 128 with
  | 0 => ⟨S4x512x2048, .f32⟩
  | 1 => ⟨S4x512x2048, .f32⟩
  | 2 => ⟨S_, .f32⟩
  | 3 => ⟨S4x512x2048, .f32⟩
  | 4 => ⟨S4x512x2048, .f32⟩
  | 5 => ⟨S4x512x2048, .f32⟩
  | 6 => ⟨S_, .f32⟩
  | 7 => ⟨S4x512x2048, .f32⟩
  | 8 => ⟨S4x512x2048, .f32⟩
  | 9 => ⟨S4x512x2048, .f32⟩
  | 10 => ⟨S_, .f32⟩
  | 11 => ⟨S4x512x2048, .f32⟩
  | 12 => ⟨S4x512x2048, .f32⟩
  | 13 => ⟨S_, .f32⟩
  | 14 => ⟨S4x512x2048, .f32⟩
  | 15 => ⟨S4x512x2048, .f32⟩
  | 16 => ⟨S4x512x2048, .f32⟩
  | 17 => ⟨S_, .f32⟩
  | 18 => ⟨S4x512x2048, .f32⟩
  | 19 => ⟨S4x512x2048, .f32⟩
  | 20 => ⟨S4x512x2048, .f32⟩
  | 21 => ⟨S_, .f32⟩
  | 22 => ⟨S4x512x2048, .f32⟩
  | 23 => ⟨S4x512x2048, .f32⟩
  | 24 => ⟨S4x512x2048, .f32⟩
  | 25 => ⟨S_, .f32⟩
  | 26 => ⟨S4x512x2048, .f32⟩
  | 27 => ⟨S4x512x2048, .f32⟩
  | 28 => ⟨S_, .f32⟩
  | 29 => ⟨S4x2048x2816, .f32⟩
  | 30 => ⟨S4x2048x2816, .f32⟩
  | 31 => ⟨S_, .f32⟩
  | 32 => ⟨S4x2048x2816, .f32⟩
  | 33 => ⟨S4x2048x2816, .f32⟩
  | 34 => ⟨S4x2048x2816, .f32⟩
  | 35 => ⟨S_, .f32⟩
  | 36 => ⟨S4x2048x2816, .f32⟩
  | 37 => ⟨S4x2048x2816, .f32⟩
  | 38 => ⟨S4x2048x2816, .f32⟩
  | 39 => ⟨S_, .f32⟩
  | 40 => ⟨S4x2048x2816, .f32⟩
  | 41 => ⟨S4x2048x2816, .f32⟩
  | 42 => ⟨S4x2048x2816, .f32⟩
  | 43 => ⟨S_, .f32⟩
  | 44 => ⟨S4x2048x2816, .f32⟩
  | 45 => ⟨S4x2048x2816, .f32⟩
  | 46 => ⟨S_, .f32⟩
  | 47 => ⟨S4x2048x2816, .f32⟩
  | 48 => ⟨S4x2048x2816, .f32⟩
  | 49 => ⟨S4x2048x2816, .f32⟩
  | 50 => ⟨S_, .f32⟩
  | 51 => ⟨S4x2048x2816, .f32⟩
  | 52 => ⟨S4x2048x2816, .f32⟩
  | 53 => ⟨S4x2048x2816, .f32⟩
  | 54 => ⟨S_, .f32⟩
  | 55 => ⟨S4x2048x2816, .f32⟩
  | 56 => ⟨S4x2048x2816, .f32⟩
  | 57 => ⟨S4x2048x2816, .f32⟩
  | 58 => ⟨S_, .f32⟩
  | 59 => ⟨S4x2048x2816, .f32⟩
  | 60 => ⟨S4x2048x2816, .f32⟩
  | 61 => ⟨S_, .f32⟩
  | 62 => ⟨S4x1408x2048, .f32⟩
  | 63 => ⟨S4x1408x2048, .f32⟩
  | 64 => ⟨S_, .f32⟩
  | 65 => ⟨S4x1408x2048, .f32⟩
  | 66 => ⟨S4x1408x2048, .f32⟩
  | 67 => ⟨S4x1408x2048, .f32⟩
  | 68 => ⟨S_, .f32⟩
  | 69 => ⟨S4x1408x2048, .f32⟩
  | 70 => ⟨S4x1408x2048, .f32⟩
  | 71 => ⟨S4x1408x2048, .f32⟩
  | 72 => ⟨S_, .f32⟩
  | 73 => ⟨S4x1408x2048, .f32⟩
  | 74 => ⟨S4x1408x2048, .f32⟩
  | 75 => ⟨S4x1408x2048, .f32⟩
  | 76 => ⟨S_, .f32⟩
  | 77 => ⟨S4x1408x2048, .f32⟩
  | 78 => ⟨S4x1408x2048, .f32⟩
  | 79 => ⟨S_, .f32⟩
  | 80 => ⟨S4x1408x2048, .f32⟩
  | 81 => ⟨S4x1408x2048, .f32⟩
  | 82 => ⟨S4x1408x2048, .f32⟩
  | 83 => ⟨S_, .f32⟩
  | 84 => ⟨S4x1408x2048, .f32⟩
  | 85 => ⟨S4x1408x2048, .f32⟩
  | 86 => ⟨S4x1408x2048, .f32⟩
  | 87 => ⟨S_, .f32⟩
  | 88 => ⟨S4x1408x2048, .f32⟩
  | 89 => ⟨S4x1408x2048, .f32⟩
  | 90 => ⟨S4x1408x2048, .f32⟩
  | 91 => ⟨S_, .f32⟩
  | 92 => ⟨S4x1408x2048, .f32⟩
  | 93 => ⟨S4x1408x2048, .f32⟩
  | _ => ⟨S4x2048x3200, .f32⟩

abbrev hbmTy (i : Nat) : BufTy := match i / 128 with
  | 0 => hbmTy0_0 i
  | 1 => hbmTy0_1 i
  | _ => ⟨S4x2048x3200, .f32⟩

abbrev bufTy : (tb : Table) → Fin (tcTables nBuf tb) → BufTy
  | .hbm, ⟨i, _⟩ => hbmTy i
  | _, _ => ⟨S4x2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel14.lean ====
abbrev S4x12288 : Shape := ⟨2, ![4, 12288]⟩
abbrev S4x2048 : Shape := ⟨2, ![4, 2048]⟩
abbrev S4x32 : Shape := ⟨2, ![4, 32]⟩
abbrev S4x32x64 : Shape := ⟨3, ![4, 32, 64]⟩
abbrev S4x32x64x16 : Shape := ⟨4, ![4, 32, 64, 16]⟩
abbrev S4x32x16x64 : Shape := ⟨4, ![4, 32, 16, 64]⟩
abbrev S4x512 : Shape := ⟨2, ![4, 512]⟩
abbrev S4x3x128 : Shape := ⟨3, ![4, 3, 128]⟩
abbrev S4x6144 : Shape := ⟨2, ![4, 6144]⟩
abbrev S4x3x2816 : Shape := ⟨3, ![4, 3, 2816]⟩
abbrev S4x1024 : Shape := ⟨2, ![4, 1024]⟩
abbrev S128x64 : Shape := ⟨2, ![128, 64]⟩
abbrev S8192x16 : Shape := ⟨2, ![8192, 16]⟩
abbrev S512x16 : Shape := ⟨2, ![512, 16]⟩
abbrev S2048x64 : Shape := ⟨2, ![2048, 64]⟩
abbrev S512x64 : Shape := ⟨2, ![512, 64]⟩
abbrev S12x128 : Shape := ⟨2, ![12, 128]⟩
abbrev S12x2816 : Shape := ⟨2, ![12, 2816]⟩
abbrev S12x256 : Shape := ⟨2, ![12, 256]⟩

abbrev nBuf : Space → Nat
  | .hbm => 105
  | .vmem => 112
  | .smem => 0
  | _ => 0

abbrev bufTy : (tb : Table) → Fin (tcTables nBuf tb) → BufTy
  | .hbm, ⟨0, _⟩ => ⟨S4x12288, .f32⟩
  | .hbm, ⟨1, _⟩ => ⟨S4x12288, .f32⟩
  | .hbm, ⟨2, _⟩ => ⟨S4x12288, .f32⟩
  | .hbm, ⟨3, _⟩ => ⟨S4x12288, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .hbm, ⟨8, _⟩ => ⟨S4x32, .f32⟩
  | .hbm, ⟨9, _⟩ => ⟨S4x32, .f32⟩
  | .hbm, ⟨10, _⟩ => ⟨S4x32, .f32⟩
  | .hbm, ⟨11, _⟩ => ⟨S4x32, .f32⟩
  | .hbm, ⟨12, _⟩ => ⟨S4x32x64, .f32⟩
  | .hbm, ⟨13, _⟩ => ⟨S4x32x64, .f32⟩
  | .hbm, ⟨14, _⟩ => ⟨S4x32x64, .f32⟩
  | .hbm, ⟨15, _⟩ => ⟨S4x32x64, .f32⟩
  | .hbm, ⟨16, _⟩ => ⟨S4x32x64x16, .f32⟩
  | .hbm, ⟨17, _⟩ => ⟨S4x32x64x16, .f32⟩
  | .hbm, ⟨18, _⟩ => ⟨S4x32x64x16, .f32⟩
  | .hbm, ⟨19, _⟩ => ⟨S4x32x64x16, .f32⟩
  | .hbm, ⟨20, _⟩ => ⟨S4x32x16x64, .f32⟩
  | .hbm, ⟨21, _⟩ => ⟨S4x32x16x64, .f32⟩
  | .hbm, ⟨22, _⟩ => ⟨S4x32x16x64, .f32⟩
  | .hbm, ⟨23, _⟩ => ⟨S4x32x16x64, .f32⟩
  | .hbm, ⟨24, _⟩ => ⟨S4x512, .f32⟩
  | .hbm, ⟨25, _⟩ => ⟨S4x512, .f32⟩
  | .hbm, ⟨26, _⟩ => ⟨S4x512, .f32⟩
  | .hbm, ⟨27, _⟩ => ⟨S4x512, .f32⟩
  | .hbm, ⟨28, _⟩ => ⟨S4x3x128, .f32⟩
  | .hbm, ⟨29, _⟩ => ⟨S4x3x128, .f32⟩
  | .hbm, ⟨30, _⟩ => ⟨S4x3x128, .f32⟩
  | .hbm, ⟨31, _⟩ => ⟨S4x3x128, .f32⟩
  | .hbm, ⟨32, _⟩ => ⟨S4x6144, .f32⟩
  | .hbm, ⟨33, _⟩ => ⟨S4x6144, .f32⟩
  | .hbm, ⟨34, _⟩ => ⟨S4x6144, .f32⟩
  | .hbm, ⟨35, _⟩ => ⟨S4x6144, .f32⟩
  | .hbm, ⟨36, _⟩ => ⟨S4x3x2816, .f32⟩
  | .hbm, ⟨37, _⟩ => ⟨S4x3x2816, .f32⟩
  | .hbm, ⟨38, _⟩ => ⟨S4x3x2816, .f32⟩
  | .hbm, ⟨39, _⟩ => ⟨S4x3x2816, .f32⟩
  | .hbm, ⟨40, _⟩ => ⟨S4x12288, .f32⟩
  | .hbm, ⟨41, _⟩ => ⟨S4x12288, .f32⟩
  | .hbm, ⟨42, _⟩ => ⟨S4x12288, .f32⟩
  | .hbm, ⟨43, _⟩ => ⟨S4x2048, .f32⟩
  | .hbm, ⟨44, _⟩ => ⟨S4x2048, .f32⟩
  | .hbm, ⟨45, _⟩ => ⟨S4x2048, .f32⟩
  | .hbm, ⟨46, _⟩ => ⟨S4x32, .f32⟩
  | .hbm, ⟨47, _⟩ => ⟨S4x32, .f32⟩
  | .hbm, ⟨48, _⟩ => ⟨S4x32, .f32⟩
  | .hbm, ⟨49, _⟩ => ⟨S128x64, .f32⟩
  | .hbm, ⟨50, _⟩ => ⟨S128x64, .f32⟩
  | .hbm, ⟨51, _⟩ => ⟨S128x64, .f32⟩
  | .hbm, ⟨52, _⟩ => ⟨S128x64, .f32⟩
  | .hbm, ⟨53, _⟩ => ⟨S128x64, .f32⟩
  | .hbm, ⟨54, _⟩ => ⟨S128x64, .f32⟩
  | .hbm, ⟨55, _⟩ => ⟨S128x64, .f32⟩
  | .hbm, ⟨56, _⟩ => ⟨S4x32x64, .f32⟩
  | .hbm, ⟨57, _⟩ => ⟨S4x32x64, .f32⟩
  | .hbm, ⟨58, _⟩ => ⟨S4x32x64, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S4x32x64x16, .f32⟩
  | .hbm, ⟨67, _⟩ => ⟨S4x32x64x16, .f32⟩
  | .hbm, ⟨68, _⟩ => ⟨S4x32x64x16, .f32⟩
  | .hbm, ⟨69, _⟩ => ⟨S2048x64, .f32⟩
  | .hbm, ⟨70, _⟩ => ⟨S2048x64, .f32⟩
  | .hbm, ⟨71, _⟩ => ⟨S2048x64, .f32⟩
  | .hbm, ⟨72, _⟩ => ⟨S2048x64, .f32⟩
  | .hbm, ⟨73, _⟩ => ⟨S2048x64, .f32⟩
  | .hbm, ⟨74, _⟩ => ⟨S2048x64, .f32⟩
  | .hbm, ⟨75, _⟩ => ⟨S2048x64, .f32⟩
  | .hbm, ⟨76, _⟩ => ⟨S4x32x16x64, .f32⟩
  | .hbm, ⟨77, _⟩ => ⟨S4x32x16x64, .f32⟩
  | .hbm, ⟨78, _⟩ => ⟨S4x32x16x64, .f32⟩
  | .hbm, ⟨79, _⟩ => ⟨S4x512, .f32⟩
  | .hbm, ⟨80, _⟩ => ⟨S4x512, .f32⟩
  | .hbm, ⟨81, _⟩ => ⟨S4x512, .f32⟩
  | .hbm, ⟨82, _⟩ => ⟨S12x128, .f32⟩
  | .hbm, ⟨83, _⟩ => ⟨S12x128, .f32⟩
  | .hbm, ⟨84, _⟩ => ⟨S12x128, .f32⟩
  | .hbm, ⟨85, _⟩ => ⟨S12x128, .f32⟩
  | .hbm, ⟨86, _⟩ => ⟨S12x128, .f32⟩
  | .hbm, ⟨87, _⟩ => ⟨S12x128, .f32⟩
  | .hbm, ⟨88, _⟩ => ⟨S12x128, .f32⟩
  | .hbm, ⟨89, _⟩ => ⟨S4x3x128, .f32⟩
  | .hbm, ⟨90, _⟩ => ⟨S4x3x128, .f32⟩
  | .hbm, ⟨91, _⟩ => ⟨S4x3x128, .f32⟩
  | .hbm, ⟨92, _⟩ => ⟨S4x6144, .f32⟩
  | .hbm, ⟨93, _⟩ => ⟨S4x6144, .f32⟩
  | .hbm, ⟨94, _⟩ => ⟨S4x6144, .f32⟩
  | .hbm, ⟨95, _⟩ => ⟨S12x2816, .f32⟩
  | .hbm, ⟨96, _⟩ => ⟨S12x2816, .f32⟩
  | .hbm, ⟨97, _⟩ => ⟨S12x2816, .f32⟩
  | .hbm, ⟨98, _⟩ => ⟨S12x2816, .f32⟩
  | .hbm, ⟨99, _⟩ => ⟨S12x2816, .f32⟩
  | .hbm, ⟨100, _⟩ => ⟨S12x2816, .f32⟩
  | .hbm, ⟨101, _⟩ => ⟨S12x2816, .f32⟩
  | .hbm, ⟨102, _⟩ => ⟨S4x3x2816, .f32⟩
  | .hbm, ⟨103, _⟩ => ⟨S4x3x2816, .f32⟩
  | .hbm, ⟨104, _⟩ => ⟨S4x3x2816, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | .local _ .vmem, ⟨14, _⟩ => ⟨S4x1024, .f32⟩
  | .local _ .vmem, ⟨15, _⟩ => ⟨S4x1024, .f32⟩
  | .local _ .vmem, ⟨16, _⟩ => ⟨S4x1024, .f32⟩
  | .local _ .vmem, ⟨17, _⟩ => ⟨S4x1024, .f32⟩
  | .local _ .vmem, ⟨18, _⟩ => ⟨S4x1024, .f32⟩
  | .local _ .vmem, ⟨19, _⟩ => ⟨S4x1024, .f32⟩
  | .local _ .vmem, ⟨20, _⟩ => ⟨S4x1024, .f32⟩
  | .local _ .vmem, ⟨21, _⟩ => ⟨S4x1024, .f32⟩
  | .local _ .vmem, ⟨22, _⟩ => ⟨S4x1024, .f32⟩
  | .local _ .vmem, ⟨23, _⟩ => ⟨S4x1024, .f32⟩
  | .local _ .vmem, ⟨24, _⟩ => ⟨S4x1024, .f32⟩
  | .local _ .vmem, ⟨25, _⟩ => ⟨S4x1024, .f32⟩
  | .local _ .vmem, ⟨26, _⟩ => ⟨S4x1024, .f32⟩
  | .local _ .vmem, ⟨27, _⟩ => ⟨S4x1024, .f32⟩
  | .local _ .vmem, ⟨28, _⟩ => ⟨S4x32, .f32⟩
  | .local _ .vmem, ⟨29, _⟩ => ⟨S4x32, .f32⟩
  | .local _ .vmem, ⟨30, _⟩ => ⟨S4x32, .f32⟩
  | .local _ .vmem, ⟨31, _⟩ => ⟨S4x32, .f32⟩
  | .local _ .vmem, ⟨32, _⟩ => ⟨S4x32, .f32⟩
  | .local _ .vmem, ⟨33, _⟩ => ⟨S4x32, .f32⟩
  | .local _ .vmem, ⟨34, _⟩ => ⟨S4x32, .f32⟩
  | .local _ .vmem, ⟨35, _⟩ => ⟨S128x64, .f32⟩
  | .local _ .vmem, ⟨36, _⟩ => ⟨S128x64, .f32⟩
  | .local _ .vmem, ⟨37, _⟩ => ⟨S128x64, .f32⟩
  | .local _ .vmem, ⟨38, _⟩ => ⟨S128x64, .f32⟩
  | .local _ .vmem, ⟨39, _⟩ => ⟨S128x64, .f32⟩
  | .local _ .vmem, ⟨40, _⟩ => ⟨S128x64, .f32⟩
  | .local _ .vmem, ⟨41, _⟩ => ⟨S128x64, .f32⟩
  | .local _ .vmem, ⟨42, _⟩ => ⟨S512x16, .f32⟩
  | .local _ .vmem, ⟨43, _⟩ => ⟨S512x16, .f32⟩
  | .local _ .vmem, ⟨44, _⟩ => ⟨S512x16, .f32⟩
  | .local _ .vmem, ⟨45, _⟩ => ⟨S512x16, .f32⟩
  | .local _ .vmem, ⟨46, _⟩ => ⟨S512x16, .f32⟩
  | .local _ .vmem, ⟨47, _⟩ => ⟨S512x16, .f32⟩
  | .local _ .vmem, ⟨48, _⟩ => ⟨S512x16, .f32⟩
  | .local _ .vmem, ⟨49, _⟩ => ⟨S512x16, .f32⟩
  | .local _ .vmem, ⟨50, _⟩ => ⟨S512x16, .f32⟩
  | .local _ .vmem, ⟨51, _⟩ => ⟨S512x16, .f32⟩
  | .local _ .vmem, ⟨52, _⟩ => ⟨S512x16, .f32⟩
  | .local _ .vmem, ⟨53, _⟩ => ⟨S512x16, .f32⟩
  | .local _ .vmem, ⟨54, _⟩ => ⟨S512x16, .f32⟩
  | .local _ .vmem, ⟨55, _⟩ => ⟨S512x16, .f32⟩
  | .local _ .vmem, ⟨56, _⟩ => ⟨S512x64, .f32⟩
  | .local _ .vmem, ⟨57, _⟩ => ⟨S512x64, .f32⟩
  | .local _ .vmem, ⟨58, _⟩ => ⟨S512x64, .f32⟩
  | .local _ .vmem, ⟨59, _⟩ => ⟨S512x64, .f32⟩
  | .local _ .vmem, ⟨60, _⟩ => ⟨S512x64, .f32⟩
  | .local _ .vmem, ⟨61, _⟩ => ⟨S512x64, .f32⟩
  | .local _ .vmem, ⟨62, _⟩ => ⟨S512x64, .f32⟩
  | .local _ .vmem, ⟨63, _⟩ => ⟨S512x64, .f32⟩
  | .local _ .vmem, ⟨64, _⟩ => ⟨S512x64, .f32⟩
  | .local _ .vmem, ⟨65, _⟩ => ⟨S512x64, .f32⟩
  | .local _ .vmem, ⟨66, _⟩ => ⟨S512x64, .f32⟩
  | .local _ .vmem, ⟨67, _⟩ => ⟨S512x64, .f32⟩
  | .local _ .vmem, ⟨68, _⟩ => ⟨S512x64, .f32⟩
  | .local _ .vmem, ⟨69, _⟩ => ⟨S512x64, .f32⟩
  | .local _ .vmem, ⟨70, _⟩ => ⟨S4x512, .f32⟩
  | .local _ .vmem, ⟨71, _⟩ => ⟨S4x512, .f32⟩
  | .local _ .vmem, ⟨72, _⟩ => ⟨S4x512, .f32⟩
  | .local _ .vmem, ⟨73, _⟩ => ⟨S4x512, .f32⟩
  | .local _ .vmem, ⟨74, _⟩ => ⟨S4x512, .f32⟩
  | .local _ .vmem, ⟨75, _⟩ => ⟨S4x512, .f32⟩
  | .local _ .vmem, ⟨76, _⟩ => ⟨S4x512, .f32⟩
  | .local _ .vmem, ⟨77, _⟩ => ⟨S12x128, .f32⟩
  | .local _ .vmem, ⟨78, _⟩ => ⟨S12x128, .f32⟩
  | .local _ .vmem, ⟨79, _⟩ => ⟨S12x128, .f32⟩
  | .local _ .vmem, ⟨80, _⟩ => ⟨S12x128, .f32⟩
  | .local _ .vmem, ⟨81, _⟩ => ⟨S12x128, .f32⟩
  | .local _ .vmem, ⟨82, _⟩ => ⟨S12x128, .f32⟩
  | .local _ .vmem, ⟨83, _⟩ => ⟨S12x128, .f32⟩
  | .local _ .vmem, ⟨84, _⟩ => ⟨S4x1024, .f32⟩
  | .local _ .vmem, ⟨85, _⟩ => ⟨S4x1024, .f32⟩
  | .local _ .vmem, ⟨86, _⟩ => ⟨S4x1024, .f32⟩
  | .local _ .vmem, ⟨87, _⟩ => ⟨S4x1024, .f32⟩
  | .local _ .vmem, ⟨88, _⟩ => ⟨S4x1024, .f32⟩
  | .local _ .vmem, ⟨89, _⟩ => ⟨S4x1024, .f32⟩
  | .local _ .vmem, ⟨90, _⟩ => ⟨S4x1024, .f32⟩
  | .local _ .vmem, ⟨91, _⟩ => ⟨S4x1024, .f32⟩
  | .local _ .vmem, ⟨92, _⟩ => ⟨S4x1024, .f32⟩
  | .local _ .vmem, ⟨93, _⟩ => ⟨S4x1024, .f32⟩
  | .local _ .vmem, ⟨94, _⟩ => ⟨S4x1024, .f32⟩
  | .local _ .vmem, ⟨95, _⟩ => ⟨S4x1024, .f32⟩
  | .local _ .vmem, ⟨96, _⟩ => ⟨S4x1024, .f32⟩
  | .local _ .vmem, ⟨97, _⟩ => ⟨S4x1024, .f32⟩
  | .local _ .vmem, ⟨98, _⟩ => ⟨S12x256, .f32⟩
  | .local _ .vmem, ⟨99, _⟩ => ⟨S12x256, .f32⟩
  | .local _ .vmem, ⟨100, _⟩ => ⟨S12x256, .f32⟩
  | .local _ .vmem, ⟨101, _⟩ => ⟨S12x256, .f32⟩
  | .local _ .vmem, ⟨102, _⟩ => ⟨S12x256, .f32⟩
  | .local _ .vmem, ⟨103, _⟩ => ⟨S12x256, .f32⟩
  | .local _ .vmem, ⟨104, _⟩ => ⟨S12x256, .f32⟩
  | .local _ .vmem, ⟨105, _⟩ => ⟨S12x256, .f32⟩
  | .local _ .vmem, ⟨106, _⟩ => ⟨S12x256, .f32⟩
  | .local _ .vmem, ⟨107, _⟩ => ⟨S12x256, .f32⟩
  | .local _ .vmem, ⟨108, _⟩ => ⟨S12x256, .f32⟩
  | .local _ .vmem, ⟨109, _⟩ => ⟨S12x256, .f32⟩
  | .local _ .vmem, ⟨110, _⟩ => ⟨S12x256, .f32⟩
  | .local _ .vmem, ⟨111, _⟩ => ⟨S12x256, .f32⟩
  | _, _ => ⟨S4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v1_0 : Ref sig .tc := ⟨.hbm, 43, rfl⟩
abbrev main_v1_1 : Ref sig .tc := ⟨.hbm, 44, rfl⟩
abbrev main_v1_2 : Ref sig .tc := ⟨.hbm, 45, rfl⟩
abbrev main_v2_0 : Ref sig .tc := ⟨.hbm, 46, rfl⟩
abbrev main_v2_1 : Ref sig .tc := ⟨.hbm, 47, rfl⟩
abbrev main_v2_2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7_0 : Ref sig .tc := ⟨.hbm, 53, rfl⟩
abbrev main_v7_1 : Ref sig .tc := ⟨.hbm, 54, rfl⟩
abbrev main_v7_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15_0 : Ref sig .tc := ⟨.hbm, 63, rfl⟩
abbrev main_v15_1 : Ref sig .tc := ⟨.hbm, 64, rfl⟩
abbrev main_v15_2 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23_0 : Ref sig .tc := ⟨.hbm, 73, rfl⟩
abbrev main_v23_1 : Ref sig .tc := ⟨.hbm, 74, rfl⟩
abbrev main_v23_2 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27_0 : Ref sig .tc := ⟨.hbm, 79, rfl⟩
abbrev main_v27_1 : Ref sig .tc := ⟨.hbm, 80, rfl⟩
abbrev main_v27_2 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32_0 : Ref sig .tc := ⟨.hbm, 86, rfl⟩
abbrev main_v32_1 : Ref sig .tc := ⟨.hbm, 87, rfl⟩
abbrev main_v32_2 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36_0 : Ref sig .tc := ⟨.hbm, 92, rfl⟩
abbrev main_v36_1 : Ref sig .tc := ⟨.hbm, 93, rfl⟩
abbrev main_v36_2 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41_0 : Ref sig .tc := ⟨.hbm, 99, rfl⟩
abbrev main_v41_1 : Ref sig .tc := ⟨.hbm, 100, rfl⟩
abbrev main_v41_2 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc3_stg0_0 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc6_stg0_0 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc7_stg0_0 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg5_0 : Ref sig .tc := ⟨.vmem, 82, rfl⟩
abbrev cc7_stg6_0 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg2_1 : Ref sig .tc := ⟨.vmem, 89, rfl⟩
abbrev cc8_stg3_0 : Ref sig .tc := ⟨.vmem, 90, rfl⟩
abbrev cc8_stg3_1 : Ref sig .tc := ⟨.vmem, 91, rfl⟩
abbrev cc8_stg4_0 : Ref sig .tc := ⟨.vmem, 92, rfl⟩
abbrev cc8_stg4_1 : Ref sig .tc := ⟨.vmem, 93, rfl⟩
abbrev cc8_stg5_0 : Ref sig .tc := ⟨.vmem, 94, rfl⟩
abbrev cc8_stg5_1 : Ref sig .tc := ⟨.vmem, 95, rfl⟩
abbrev cc8_stg6_0 : Ref sig .tc := ⟨.vmem, 96, rfl⟩
abbrev cc8_stg6_1 : Ref sig .tc := ⟨.vmem, 97, rfl⟩
abbrev cc9_stg0_0 : Ref sig .tc := ⟨.vmem, 98, rfl⟩
abbrev cc9_stg0_1 : Ref sig .tc := ⟨.vmem, 99, rfl⟩
abbrev cc9_stg1_0 : Ref sig .tc := ⟨.vmem, 100, rfl⟩
abbrev cc9_stg1_1 : Ref sig .tc := ⟨.vmem, 101, rfl⟩
abbrev cc9_stg2_0 : Ref sig .tc := ⟨.vmem, 102, rfl⟩
abbrev cc9_stg2_1 : Ref sig .tc := ⟨.vmem, 103, rfl⟩
abbrev cc9_stg3_0 : Ref sig .tc := ⟨.vmem, 104, rfl⟩
abbrev cc9_stg3_1 : Ref sig .tc := ⟨.vmem, 105, rfl⟩
abbrev cc9_stg4_0 : Ref sig .tc := ⟨.vmem, 106, rfl⟩
abbrev cc9_stg4_1 : Ref sig .tc := ⟨.vmem, 107, rfl⟩
abbrev cc9_stg5_0 : Ref sig .tc := ⟨.vmem, 108, rfl⟩
abbrev cc9_stg5_1 : Ref sig .tc := ⟨.vmem, 109, rfl⟩
abbrev cc9_stg6_0 : Ref sig .tc := ⟨.vmem, 110, rfl⟩
abbrev cc9_stg6_1 : Ref sig .tc := ⟨.vmem, 111, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc3_sem0_0 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc5_sem6_0 : DmaSem sig := 68
abbrev cc5_sem6_1 : DmaSem sig := 69
abbrev cc6_sem0_0 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem6_0 : DmaSem sig := 76
abbrev cc7_sem0_0 : DmaSem sig := 77
abbrev cc7_sem1_0 : DmaSem sig := 78
abbrev cc7_sem2_0 : DmaSem sig := 79
abbrev cc7_sem3_0 : DmaSem sig := 80
abbrev cc7_sem4_0 : DmaSem sig := 81
abbrev cc7_sem5_0 : DmaSem sig := 82
abbrev cc7_sem6_0 : DmaSem sig := 83
abbrev cc8_sem0_0 : DmaSem sig := 84
abbrev cc8_sem0_1 : DmaSem sig := 85
abbrev cc8_sem1_0 : DmaSem sig := 86
abbrev cc8_sem1_1 : DmaSem sig := 87
abbrev cc8_sem2_0 : DmaSem sig := 88
abbrev cc8_sem2_1 : DmaSem sig := 89
abbrev cc8_sem3_0 : DmaSem sig := 90
abbrev cc8_sem3_1 : DmaSem sig := 91
abbrev cc8_sem4_0 : DmaSem sig := 92
abbrev cc8_sem4_1 : DmaSem sig := 93
abbrev cc8_sem5_0 : DmaSem sig := 94
abbrev cc8_sem5_1 : DmaSem sig := 95
abbrev cc8_sem6_0 : DmaSem sig := 96
abbrev cc8_sem6_1 : DmaSem sig := 97
abbrev cc9_sem0_0 : DmaSem sig := 98
abbrev cc9_sem0_1 : DmaSem sig := 99
abbrev cc9_sem1_0 : DmaSem sig := 100
abbrev cc9_sem1_1 : DmaSem sig := 101
abbrev cc9_sem2_0 : DmaSem sig := 102
abbrev cc9_sem2_1 : DmaSem sig := 103
abbrev cc9_sem3_0 : DmaSem sig := 104
abbrev cc9_sem3_1 : DmaSem sig := 105
abbrev cc9_sem4_0 : DmaSem sig := 106
abbrev cc9_sem4_1 : DmaSem sig := 107
abbrev cc9_sem5_0 : DmaSem sig := 108
abbrev cc9_sem5_1 : DmaSem sig := 109
abbrev cc9_sem6_0 : DmaSem sig := 110
abbrev cc9_sem6_1 : DmaSem sig := 111

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S4x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S4x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S4x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S4x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S4x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev stage2_5 : Fin 1 → Memref sig .tc .vmem S4x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true, true]

abbrev stage2_6 : Fin 1 → Memref sig .tc .vmem S4x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S128x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev grid4 : Pipeline.Grid := ⟨2, ![16, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S512x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S512x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x16 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![4, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S512x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S512x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S512x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S512x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S512x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4x512 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, true]

abbrev stage6_1 : Fin 1 → Memref sig .tc .vmem S4x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, true]

abbrev stage6_2 : Fin 1 → Memref sig .tc .vmem S4x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]

abbrev stage6_3 : Fin 1 → Memref sig .tc .vmem S4x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true, true]

abbrev stage6_4 : Fin 1 → Memref sig .tc .vmem S4x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true, true]

abbrev stage6_5 : Fin 1 → Memref sig .tc .vmem S4x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true, true]

abbrev stage6_6 : Fin 1 → Memref sig .tc .vmem S4x512 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true, true]

abbrev grid7 : Pipeline.Grid := ⟨2, ![1, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S12x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, true]

abbrev stage7_1 : Fin 1 → Memref sig .tc .vmem S12x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, true]

abbrev stage7_2 : Fin 1 → Memref sig .tc .vmem S12x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, true]

abbrev stage7_3 : Fin 1 → Memref sig .tc .vmem S12x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true, true]

abbrev stage7_4 : Fin 1 → Memref sig .tc .vmem S12x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true, true]

abbrev stage7_5 : Fin 1 → Memref sig .tc .vmem S12x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![true, true]

abbrev stage7_6 : Fin 1 → Memref sig .tc .vmem S12x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![true, true]

abbrev grid8 : Pipeline.Grid := ⟨2, ![1, 6], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S4x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S4x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S4x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S4x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev stage8_4 : Fin 2 → Memref sig .tc .vmem S4x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true]

abbrev stage8_5 : Fin 2 → Memref sig .tc .vmem S4x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev stage8_6 : Fin 2 → Memref sig .tc .vmem S4x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, true]

abbrev grid9 : Pipeline.Grid := ⟨2, ![1, 11], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_5 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_6 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S12x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 2 → Memref sig .tc .vmem S12x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S12x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S12x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev stage9_4 : Fin 2 → Memref sig .tc .vmem S12x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev stage9_5 : Fin 2 → Memref sig .tc .vmem S12x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]

abbrev stage9_6 : Fin 2 → Memref sig .tc .vmem S12x256 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true, true]
-- ==== Reference14Ideal.lean ====
abbrev S4x12288 : Shape := ⟨2, ![4, 12288]⟩
abbrev S4x2048 : Shape := ⟨2, ![4, 2048]⟩
abbrev S4x32 : Shape := ⟨2, ![4, 32]⟩
abbrev S4x32x64 : Shape := ⟨3, ![4, 32, 64]⟩
abbrev S4x32x64x16 : Shape := ⟨4, ![4, 32, 64, 16]⟩
abbrev S4x32x16x64 : Shape := ⟨4, ![4, 32, 16, 64]⟩
abbrev S4x512 : Shape := ⟨2, ![4, 512]⟩
abbrev S4x3x128 : Shape := ⟨3, ![4, 3, 128]⟩
abbrev S4x6144 : Shape := ⟨2, ![4, 6144]⟩
abbrev S4x3x2816 : Shape := ⟨3, ![4, 3, 2816]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S4x12288, .f32⟩
  | 1 => ⟨S4x12288, .f32⟩
  | 2 => ⟨S4x12288, .f32⟩
  | 3 => ⟨S4x12288, .f32⟩
  | 4 => ⟨S4x2048, .f32⟩
  | 5 => ⟨S4x2048, .f32⟩
  | 6 => ⟨S4x2048, .f32⟩
  | 7 => ⟨S4x2048, .f32⟩
  | 8 => ⟨S4x32, .f32⟩
  | 9 => ⟨S4x32, .f32⟩
  | 10 => ⟨S4x32, .f32⟩
  | 11 => ⟨S4x32, .f32⟩
  | 12 => ⟨S4x32x64, .f32⟩
  | 13 => ⟨S4x32x64, .f32⟩
  | 14 => ⟨S4x32x64, .f32⟩
  | 15 => ⟨S4x32x64, .f32⟩
  | 16 => ⟨S4x32x64x16, .f32⟩
  | 17 => ⟨S4x32x64x16, .f32⟩
  | 18 => ⟨S4x32x64x16, .f32⟩
  | 19 => ⟨S4x32x64x16, .f32⟩
  | 20 => ⟨S4x32x16x64, .f32⟩
  | 21 => ⟨S4x32x16x64, .f32⟩
  | 22 => ⟨S4x32x16x64, .f32⟩
  | 23 => ⟨S4x32x16x64, .f32⟩
  | 24 => ⟨S4x512, .f32⟩
  | 25 => ⟨S4x512, .f32⟩
  | 26 => ⟨S4x512, .f32⟩
  | 27 => ⟨S4x512, .f32⟩
  | 28 => ⟨S4x3x128, .f32⟩
  | 29 => ⟨S4x3x128, .f32⟩
  | 30 => ⟨S4x3x128, .f32⟩
  | 31 => ⟨S4x3x128, .f32⟩
  | 32 => ⟨S4x6144, .f32⟩
  | 33 => ⟨S4x6144, .f32⟩
  | 34 => ⟨S4x6144, .f32⟩
  | 35 => ⟨S4x6144, .f32⟩
  | 36 => ⟨S4x3x2816, .f32⟩
  | 37 => ⟨S4x3x2816, .f32⟩
  | 38 => ⟨S4x3x2816, .f32⟩
  | 39 => ⟨S4x3x2816, .f32⟩
  | 40 => ⟨S_, .f32⟩
  | 41 => ⟨S4x12288, .f32⟩
  | 42 => ⟨S4x12288, .f32⟩
  | 43 => ⟨S_, .f32⟩
  | 44 => ⟨S4x12288, .f32⟩
  | 45 => ⟨S4x12288, .f32⟩
  | 46 => ⟨S4x12288, .f32⟩
  | 47 => ⟨S_, .f32⟩
  | 48 => ⟨S4x12288, .f32⟩
  | 49 => ⟨S4x12288, .f32⟩
  | 50 => ⟨S4x12288, .f32⟩
  | 51 => ⟨S_, .f32⟩
  | 52 => ⟨S4x12288, .f32⟩
  | 53 => ⟨S4x12288, .f32⟩
  | 54 => ⟨S4x12288, .f32⟩
  | 55 => ⟨S_, .f32⟩
  | 56 => ⟨S4x12288, .f32⟩
  | 57 => ⟨S4x12288, .f32⟩
  | 58 => ⟨S_, .f32⟩
  | 59 => ⟨S4x12288, .f32⟩
  | 60 => ⟨S4x12288, .f32⟩
  | 61 => ⟨S4x12288, .f32⟩
  | 62 => ⟨S_, .f32⟩
  | 63 => ⟨S4x12288, .f32⟩
  | 64 => ⟨S4x12288, .f32⟩
  | 65 => ⟨S4x12288, .f32⟩
  | 66 => ⟨S_, .f32⟩
  | 67 => ⟨S4x12288, .f32⟩
  | 68 => ⟨S4x12288, .f32⟩
  | 69 => ⟨S4x12288, .f32⟩
  | 70 => ⟨S_, .f32⟩
  | 71 => ⟨S4x12288, .f32⟩
  | 72 => ⟨S4x12288, .f32⟩
  | 73 => ⟨S_, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S4x2048, .f32⟩
  | 84 => ⟨S_, .f32⟩
  | 85 => ⟨S4x2048, .f32⟩
  | 86 => ⟨S4x2048, .f32⟩
  | 87 => ⟨S4x2048, .f32⟩
  | 88 => ⟨S_, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S4x2048, .f32⟩
  | 99 => ⟨S_, .f32⟩
  | 100 => ⟨S4x2048, .f32⟩
  | 101 => ⟨S4x2048, .f32⟩
  | 102 => ⟨S4x2048, .f32⟩
  | 103 => ⟨S_, .f32⟩
  | 104 => ⟨S4x2048, .f32⟩
  | 105 => ⟨S4x2048, .f32⟩
  | 106 => ⟨S_, .f32⟩
  | 107 => ⟨S4x32, .f32⟩
  | 108 => ⟨S4x32, .f32⟩
  | 109 => ⟨S_, .f32⟩
  | 110 => ⟨S4x32, .f32⟩
  | 111 => ⟨S4x32, .f32⟩
  | 112 => ⟨S4x32, .f32⟩
  | 113 => ⟨S_, .f32⟩
  | 114 => ⟨S4x32, .f32⟩
  | 115 => ⟨S4x32, .f32⟩
  | 116 => ⟨S4x32, .f32⟩
  | 117 => ⟨S_, .f32⟩
  | 118 => ⟨S4x32, .f32⟩
  | 119 => ⟨S4x32, .f32⟩
  | 120 => ⟨S4x32, .f32⟩
  | 121 => ⟨S_, .f32⟩
  | 122 => ⟨S4x32, .f32⟩
  | 123 => ⟨S4x32, .f32⟩
  | 124 => ⟨S_, .f32⟩
  | 125 => ⟨S4x32, .f32⟩
  | 126 => ⟨S4x32, .f32⟩
  | 127 => ⟨S4x32, .f32⟩
  | _ => ⟨S4x12288, .f32⟩

abbrev hbmTy0_1 (i : Nat) : BufTy := match i % 128 with
  | 0 => ⟨S_, .f32⟩
  | 1 => ⟨S4x32, .f32⟩
  | 2 => ⟨S4x32, .f32⟩
  | 3 => ⟨S4x32, .f32⟩
  | 4 => ⟨S_, .f32⟩
  | 5 => ⟨S4x32, .f32⟩
  | 6 => ⟨S4x32, .f32⟩
  | 7 => ⟨S4x32, .f32⟩
  | 8 => ⟨S_, .f32⟩
  | 9 => ⟨S4x32, .f32⟩
  | 10 => ⟨S4x32, .f32⟩
  | 11 => ⟨S_, .f32⟩
  | 12 => ⟨S4x32x64, .f32⟩
  | 13 => ⟨S4x32x64, .f32⟩
  | 14 => ⟨S_, .f32⟩
  | 15 => ⟨S4x32x64, .f32⟩
  | 16 => ⟨S4x32x64, .f32⟩
  | 17 => ⟨S4x32x64, .f32⟩
  | 18 => ⟨S_, .f32⟩
  | 19 => ⟨S4x32x64, .f32⟩
  | 20 => ⟨S4x32x64, .f32⟩
  | 21 => ⟨S4x32x64, .f32⟩
  | 22 => ⟨S_, .f32⟩
  | 23 => ⟨S4x32x64, .f32⟩
  | 24 => ⟨S4x32x64, .f32⟩
  | 25 => ⟨S4x32x64, .f32⟩
  | 26 => ⟨S_, .f32⟩
  | 27 => ⟨S4x32x64, .f32⟩
  | 28 => ⟨S4x32x64, .f32⟩
  | 29 => ⟨S_, .f32⟩
  | 30 => ⟨S4x32x64, .f32⟩
  | 31 => ⟨S4x32x64, .f32⟩
  | 32 => ⟨S4x32x64, .f32⟩
  | 33 => ⟨S_, .f32⟩
  | 34 => ⟨S4x32x64, .f32⟩
  | 35 => ⟨S4x32x64, .f32⟩
  | 36 => ⟨S4x32x64, .f32⟩
  | 37 => ⟨S_, .f32⟩
  | 38 => ⟨S4x32x64, .f32⟩
  | 39 => ⟨S4x32x64, .f32⟩
  | 40 => ⟨S4x32x64, .f32⟩
  | 41 => ⟨S_, .f32⟩
  | 42 => ⟨S4x32x64, .f32⟩
  | 43 => ⟨S4x32x64, .f32⟩
  | 44 => ⟨S_, .f32⟩
  | 45 => ⟨S4x32x64x16, .f32⟩
  | 46 => ⟨S4x32x64x16, .f32⟩
  | 47 => ⟨S_, .f32⟩
  | 48 => ⟨S4x32x64x16, .f32⟩
  | 49 => ⟨S4x32x64x16, .f32⟩
  | 50 => ⟨S4x32x64x16, .f32⟩
  | 51 => ⟨S_, .f32⟩
  | 52 => ⟨S4x32x64x16, .f32⟩
  | 53 => ⟨S4x32x64x16, .f32⟩
  | 54 => ⟨S4x32x64x16, .f32⟩
  | 55 => ⟨S_, .f32⟩
  | 56 => ⟨S4x32x64x16, .f32⟩
  | 57 => ⟨S4x32x64x16, .f32⟩
  | 58 => ⟨S4x32x64x16, .f32⟩
  | 59 => ⟨S_, .f32⟩
  | 60 => ⟨S4x32x64x16, .f32⟩
  | 61 => ⟨S4x32x64x16, .f32⟩
  | 62 => ⟨S_, .f32⟩
  | 63 => ⟨S4x32x64x16, .f32⟩
  | 64 => ⟨S4x32x64x16, .f32⟩
  | 65 => ⟨S4x32x64x16, .f32⟩
  | 66 => ⟨S_, .f32⟩
  | 67 => ⟨S4x32x64x16, .f32⟩
  | 68 => ⟨S4x32x64x16, .f32⟩
  | 69 => ⟨S4x32x64x16, .f32⟩
  | 70 => ⟨S_, .f32⟩
  | 71 => ⟨S4x32x64x16, .f32⟩
  | 72 => ⟨S4x32x64x16, .f32⟩
  | 73 => ⟨S4x32x64x16, .f32⟩
  | 74 => ⟨S_, .f32⟩
  | 75 => ⟨S4x32x64x16, .f32⟩
  | 76 => ⟨S4x32x64x16, .f32⟩
  | 77 => ⟨S_, .f32⟩
  | 78 => ⟨S4x32x16x64, .f32⟩
  | 79 => ⟨S4x32x16x64, .f32⟩
  | 80 => ⟨S_, .f32⟩
  | 81 => ⟨S4x32x16x64, .f32⟩
  | 82 => ⟨S4x32x16x64, .f32⟩
  | 83 => ⟨S4x32x16x64, .f32⟩
  | 84 => ⟨S_, .f32⟩
  | 85 => ⟨S4x32x16x64, .f32⟩
  | 86 => ⟨S4x32x16x64, .f32⟩
  | 87 => ⟨S4x32x16x64, .f32⟩
  | 88 => ⟨S_, .f32⟩
  | 89 => ⟨S4x32x16x64, .f32⟩
  | 90 => ⟨S4x32x16x64, .f32⟩
  | 91 => ⟨S4x32x16x64, .f32⟩
  | 92 => ⟨S_, .f32⟩
  | 93 => ⟨S4x32x16x64, .f32⟩
  | 94 => ⟨S4x32x16x64, .f32⟩
  | 95 => ⟨S_, .f32⟩
  | 96 => ⟨S4x32x16x64, .f32⟩
  | 97 => ⟨S4x32x16x64, .f32⟩
  | 98 => ⟨S4x32x16x64, .f32⟩
  | 99 => ⟨S_, .f32⟩
  | 100 => ⟨S4x32x16x64, .f32⟩
  | 101 => ⟨S4x32x16x64, .f32⟩
  | 102 => ⟨S4x32x16x64, .f32⟩
  | 103 => ⟨S_, .f32⟩
  | 104 => ⟨S4x32x16x64, .f32⟩
  | 105 => ⟨S4x32x16x64, .f32⟩
  | 106 => ⟨S4x32x16x64, .f32⟩
  | 107 => ⟨S_, .f32⟩
  | 108 => ⟨S4x32x16x64, .f32⟩
  | 109 => ⟨S4x32x16x64, .f32⟩
  | 110 => ⟨S_, .f32⟩
  | 111 => ⟨S4x512, .f32⟩
  | 112 => ⟨S4x512, .f32⟩
  | 113 => ⟨S_, .f32⟩
  | 114 => ⟨S4x512, .f32⟩
  | 115 => ⟨S4x512, .f32⟩
  | 116 => ⟨S4x512, .f32⟩
  | 117 => ⟨S_, .f32⟩
  | 118 => ⟨S4x512, .f32⟩
  | 119 => ⟨S4x512, .f32⟩
  | 120 => ⟨S4x512, .f32⟩
  | 121 => ⟨S_, .f32⟩
  | 122 => ⟨S4x512, .f32⟩
  | 123 => ⟨S4x512, .f32⟩
  | 124 => ⟨S4x512, .f32⟩
  | 125 => ⟨S_, .f32⟩
  | 126 => ⟨S4x512, .f32⟩
  | 127 => ⟨S4x512, .f32⟩
  | _ => ⟨S4x12288, .f32⟩

abbrev hbmTy0_2 (i : Nat) : BufTy := match i % 128 with
  | 0 => ⟨S_, .f32⟩
  | 1 => ⟨S4x512, .f32⟩
  | 2 => ⟨S4x512, .f32⟩
  | 3 => ⟨S4x512, .f32⟩
  | 4 => ⟨S_, .f32⟩
  | 5 => ⟨S4x512, .f32⟩
  | 6 => ⟨S4x512, .f32⟩
  | 7 => ⟨S4x512, .f32⟩
  | 8 => ⟨S_, .f32⟩
  | 9 => ⟨S4x512, .f32⟩
  | 10 => ⟨S4x512, .f32⟩
  | 11 => ⟨S4x512, .f32⟩
  | 12 => ⟨S_, .f32⟩
  | 13 => ⟨S4x512, .f32⟩
  | 14 => ⟨S4x512, .f32⟩
  | 15 => ⟨S_, .f32⟩
  | 16 => ⟨S4x3x128, .f32⟩
  | 17 => ⟨S4x3x128, .f32⟩
  | 18 => ⟨S_, .f32⟩
  | 19 => ⟨S4x3x128, .f32⟩
  | 20 => ⟨S4x3x128, .f32⟩
  | 21 => ⟨S4x3x128, .f32⟩
  | 22 => ⟨S_, .f32⟩
  | 23 => ⟨S4x3x128, .f32⟩
  | 24 => ⟨S4x3x128, .f32⟩
  | 25 => ⟨S4x3x128, .f32⟩
  | 26 => ⟨S_, .f32⟩
  | 27 => ⟨S4x3x128, .f32⟩
  | 28 => ⟨S4x3x128, .f32⟩
  | 29 => ⟨S4x3x128, .f32⟩
  | 30 => ⟨S_, .f32⟩
  | 31 => ⟨S4x3x128, .f32⟩
  | 32 => ⟨S4x3x128, .f32⟩
  | 33 => ⟨S_, .f32⟩
  | 34 => ⟨S4x3x128, .f32⟩
  | 35 => ⟨S4x3x128, .f32⟩
  | 36 => ⟨S4x3x128, .f32⟩
  | 37 => ⟨S_, .f32⟩
  | 38 => ⟨S4x3x128, .f32⟩
  | 39 => ⟨S4x3x128, .f32⟩
  | 40 => ⟨S4x3x128, .f32⟩
  | 41 => ⟨S_, .f32⟩
  | 42 => ⟨S4x3x128, .f32⟩
  | 43 => ⟨S4x3x128, .f32⟩
  | 44 => ⟨S4x3x128, .f32⟩
  | 45 => ⟨S_, .f32⟩
  | 46 => ⟨S4x3x128, .f32⟩
  | 47 => ⟨S4x3x128, .f32⟩
  | 48 => ⟨S_, .f32⟩
  | 49 => ⟨S4x6144, .f32⟩
  | 50 => ⟨S4x6144, .f32⟩
  | 51 => ⟨S_, .f32⟩
  | 52 => ⟨S4x6144, .f32⟩
  | 53 => ⟨S4x6144, .f32⟩
  | 54 => ⟨S4x6144, .f32⟩
  | 55 => ⟨S_, .f32⟩
  | 56 => ⟨S4x6144, .f32⟩
  | 57 => ⟨S4x6144, .f32⟩
  | 58 => ⟨S4x6144, .f32⟩
  | 59 => ⟨S_, .f32⟩
  | 60 => ⟨S4x6144, .f32⟩
  | 61 => ⟨S4x6144, .f32⟩
  | 62 => ⟨S4x6144, .f32⟩
  | 63 => ⟨S_, .f32⟩
  | 64 => ⟨S4x6144, .f32⟩
  | 65 => ⟨S4x6144, .f32⟩
  | 66 => ⟨S_, .f32⟩
  | 67 => ⟨S4x6144, .f32⟩
  | 68 => ⟨S4x6144, .f32⟩
  | 69 => ⟨S4x6144, .f32⟩
  | 70 => ⟨S_, .f32⟩
  | 71 => ⟨S4x6144, .f32⟩
  | 72 => ⟨S4x6144, .f32⟩
  | 73 => ⟨S4x6144, .f32⟩
  | 74 => ⟨S_, .f32⟩
  | 75 => ⟨S4x6144, .f32⟩
  | 76 => ⟨S4x6144, .f32⟩
  | 77 => ⟨S4x6144, .f32⟩
  | 78 => ⟨S_, .f32⟩
  | 79 => ⟨S4x6144, .f32⟩
  | 80 => ⟨S4x6144, .f32⟩
  | 81 => ⟨S_, .f32⟩
  | 82 => ⟨S4x3x2816, .f32⟩
  | 83 => ⟨S4x3x2816, .f32⟩
  | 84 => ⟨S_, .f32⟩
  | 85 => ⟨S4x3x2816, .f32⟩
  | 86 => ⟨S4x3x2816, .f32⟩
  | 87 => ⟨S4x3x2816, .f32⟩
  | 88 => ⟨S_, .f32⟩
  | 89 => ⟨S4x3x2816, .f32⟩
  | 90 => ⟨S4x3x2816, .f32⟩
  | 91 => ⟨S4x3x2816, .f32⟩
  | 92 => ⟨S_, .f32⟩
  | 93 => ⟨S4x3x2816, .f32⟩
  | 94 => ⟨S4x3x2816, .f32⟩
  | 95 => ⟨S4x3x2816, .f32⟩
  | 96 => ⟨S_, .f32⟩
  | 97 => ⟨S4x3x2816, .f32⟩
  | 98 => ⟨S4x3x2816, .f32⟩
  | 99 => ⟨S_, .f32⟩
  | 100 => ⟨S4x3x2816, .f32⟩
  | 101 => ⟨S4x3x2816, .f32⟩
  | 102 => ⟨S4x3x2816, .f32⟩
  | 103 => ⟨S_, .f32⟩
  | 104 => ⟨S4x3x2816, .f32⟩
  | 105 => ⟨S4x3x2816, .f32⟩
  | 106 => ⟨S4x3x2816, .f32⟩
  | 107 => ⟨S_, .f32⟩
  | 108 => ⟨S4x3x2816, .f32⟩
  | 109 => ⟨S4x3x2816, .f32⟩
  | 110 => ⟨S4x3x2816, .f32⟩
  | 111 => ⟨S_, .f32⟩
  | 112 => ⟨S4x3x2816, .f32⟩
  | 113 => ⟨S4x3x2816, .f32⟩
  | _ => ⟨S4x12288, .f32⟩

abbrev hbmTy (i : Nat) : BufTy := match i / 128 with
  | 0 => hbmTy0_0 i
  | 1 => hbmTy0_1 i
  | 2 => hbmTy0_2 i
  | _ => ⟨S4x12288, .f32⟩

abbrev bufTy : (tb : Table) → Fin (tcTables nBuf tb) → BufTy
  | .hbm, ⟨i, _⟩ => hbmTy i
  | _, _ => ⟨S4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Kernel15.lean ====
abbrev S8x2048 : Shape := ⟨2, ![8, 2048]⟩
abbrev S4x8x3072 : Shape := ⟨3, ![4, 8, 3072]⟩
abbrev S4x2048x3072 : Shape := ⟨3, ![4, 2048, 3072]⟩
abbrev S2048x8 : Shape := ⟨2, ![2048, 8]⟩
abbrev S_ : Shape := ⟨0, ![]⟩
abbrev S2048x128 : Shape := ⟨2, ![2048, 128]⟩
abbrev S4x128x3072 : Shape := ⟨3, ![4, 128, 3072]⟩
abbrev S256x128 : Shape := ⟨2, ![256, 128]⟩
abbrev S1x128x1024 : Shape := ⟨3, ![1, 128, 1024]⟩
abbrev S1x256x1024 : Shape := ⟨3, ![1, 256, 1024]⟩
abbrev S128x1024 : Shape := ⟨2, ![128, 1024]⟩
abbrev S256x1024 : Shape := ⟨2, ![256, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S4x8x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S_, .i32⟩
  | .hbm, ⟨10, _⟩ => ⟨S_, .f32⟩
  | .hbm, ⟨11, _⟩ => ⟨S4x128x3072, .f32⟩
  | .hbm, ⟨12, _⟩ => ⟨S4x2048x3072, .f32⟩
  | .hbm, ⟨13, _⟩ => ⟨S4x2048x3072, .f32⟩
  | .hbm, ⟨14, _⟩ => ⟨S4x2048x3072, .f32⟩
  | .hbm, ⟨15, _⟩ => ⟨S4x2048x3072, .f32⟩
  | .local _ .vmem, ⟨0, _⟩ => ⟨S256x128, .f32⟩
  | .local _ .vmem, ⟨1, _⟩ => ⟨S256x128, .f32⟩
  | .local _ .vmem, ⟨2, _⟩ => ⟨S1x128x1024, .f32⟩
  | .local _ .vmem, ⟨3, _⟩ => ⟨S1x128x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference15Ideal.lean ====
abbrev S8x2048 : Shape := ⟨2, ![8, 2048]⟩
abbrev S4x8x3072 : Shape := ⟨3, ![4, 8, 3072]⟩
abbrev S4x2048x3072 : Shape := ⟨3, ![4, 2048, 3072]⟩
abbrev S_ : Shape := ⟨0, ![]⟩
abbrev S1x2048x3072 : Shape := ⟨3, ![1, 2048, 3072]⟩
abbrev S2048x3072 : Shape := ⟨2, ![2048, 3072]⟩
abbrev S8x3072 : Shape := ⟨2, ![8, 3072]⟩
abbrev S1x8x3072 : Shape := ⟨3, ![1, 8, 3072]⟩
abbrev S3072x2048 : Shape := ⟨2, ![3072, 2048]⟩

abbrev nBuf : Space → Nat
  | .hbm => 95
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x8x3072, .f32⟩
  | .hbm, ⟨2, _⟩ => ⟨S4x2048x3072, .f32⟩
  | .hbm, ⟨3, _⟩ => ⟨S4x2048x3072, .f32⟩
  | .hbm, ⟨4, _⟩ => ⟨S4x2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S1x2048x3072, .f32⟩
  | .hbm, ⟨15, _⟩ => ⟨S2048x3072, .f32⟩
  | .hbm, ⟨16, _⟩ => ⟨S8x3072, .f32⟩
  | .hbm, ⟨17, _⟩ => ⟨S1x2048x3072, .f32⟩
  | .hbm, ⟨18, _⟩ => ⟨S2048x3072, .f32⟩
  | .hbm, ⟨19, _⟩ => ⟨S8x3072, .f32⟩
  | .hbm, ⟨20, _⟩ => ⟨S1x2048x3072, .f32⟩
  | .hbm, ⟨21, _⟩ => ⟨S2048x3072, .f32⟩
  | .hbm, ⟨22, _⟩ => ⟨S8x3072, .f32⟩
  | .hbm, ⟨23, _⟩ => ⟨S1x2048x3072, .f32⟩
  | .hbm, ⟨24, _⟩ => ⟨S2048x3072, .f32⟩
  | .hbm, ⟨25, _⟩ => ⟨S8x3072, .f32⟩
  | .hbm, ⟨26, _⟩ => ⟨S1x8x3072, .f32⟩
  | .hbm, ⟨27, _⟩ => ⟨S1x8x3072, .f32⟩
  | .hbm, ⟨28, _⟩ => ⟨S1x8x3072, .f32⟩
  | .hbm, ⟨29, _⟩ => ⟨S1x8x3072, .f32⟩
  | .hbm, ⟨30, _⟩ => ⟨S4x8x3072, .f32⟩
  | .hbm, ⟨31, _⟩ => ⟨S1x8x3072, .f32⟩
  | .hbm, ⟨32, _⟩ => ⟨S8x3072, .f32⟩
  | .hbm, ⟨33, _⟩ => ⟨S1x8x3072, .f32⟩
  | .hbm, ⟨34, _⟩ => ⟨S8x3072, .f32⟩
  | .hbm, ⟨35, _⟩ => ⟨S1x8x3072, .f32⟩
  | .hbm, ⟨36, _⟩ => ⟨S8x3072, .f32⟩
  | .hbm, ⟨37, _⟩ => ⟨S1x8x3072, .f32⟩
  | .hbm, ⟨38, _⟩ => ⟨S8x3072, .f32⟩
  | .hbm, ⟨39, _⟩ => ⟨S3072x2048, .f32⟩
  | .hbm, ⟨40, _⟩ => ⟨S2048x3072, .f32⟩
  | .hbm, ⟨41, _⟩ => ⟨S1x2048x3072, .f32⟩
  | .hbm, ⟨42, _⟩ => ⟨S_, .f32⟩
  | .hbm, ⟨43, _⟩ => ⟨S4x2048x3072, .f32⟩
  | .hbm, ⟨44, _⟩ => ⟨S3072x2048, .f32⟩
  | .hbm, ⟨45, _⟩ => ⟨S2048x3072, .f32⟩
  | .hbm, ⟨46, _⟩ => ⟨S1x2048x3072, .f32⟩
  | .hbm, ⟨47, _⟩ => ⟨S_, .f32⟩
  | .hbm, ⟨48, _⟩ => ⟨S4x2048x3072, .f32⟩
  | .hbm, ⟨49, _⟩ => ⟨S4x2048x3072, .f32⟩
  | .hbm, ⟨50, _⟩ => ⟨S3072x2048, .f32⟩
  | .hbm, ⟨51, _⟩ => ⟨S2048x3072, .f32⟩
  | .hbm, ⟨52, _⟩ => ⟨S1x2048x3072, .f32⟩
  | .hbm, ⟨53, _⟩ => ⟨S_, .f32⟩
  | .hbm, ⟨54, _⟩ => ⟨S4x2048x3072, .f32⟩
  | .hbm, ⟨55, _⟩ => ⟨S4x2048x3072, .f32⟩
  | .hbm, ⟨56, _⟩ => ⟨S3072x2048, .f32⟩
  | .hbm, ⟨57, _⟩ => ⟨S2048x3072, .f32⟩
  | .hbm, ⟨58, _⟩ => ⟨S1x2048x3072, .f32⟩
  | .hbm, ⟨59, _⟩ => ⟨S_, .f32⟩
  | .hbm, ⟨60, _⟩ => ⟨S4x2048x3072, .f32⟩
  | .hbm, ⟨61, _⟩ => ⟨S4x2048x3072, .f32⟩
  | .hbm, ⟨62, _⟩ => ⟨S_, .f32⟩
  | .hbm, ⟨63, _⟩ => ⟨S4x2048x3072, .f32⟩
  | .hbm, ⟨64, _⟩ => ⟨S4x2048x3072, .f32⟩
  | .hbm, ⟨65, _⟩ => ⟨S_, .f32⟩
  | .hbm, ⟨66, _⟩ => ⟨S4x2048x3072, .f32⟩
  | .hbm, ⟨67, _⟩ => ⟨S4x2048x3072, .f32⟩
  | .hbm, ⟨68, _⟩ => ⟨S4x2048x3072, .f32⟩
  | .hbm, ⟨69, _⟩ => ⟨S_, .f32⟩
  | .hbm, ⟨70, _⟩ => ⟨S4x2048x3072, .f32⟩
  | .hbm, ⟨71, _⟩ => ⟨S4x2048x3072, .f32⟩
  | .hbm, ⟨72, _⟩ => ⟨S4x2048x3072, .f32⟩
  | .hbm, ⟨73, _⟩ => ⟨S_, .f32⟩
  | .hbm, ⟨74, _⟩ => ⟨S4x2048x3072, .f32⟩
  | .hbm, ⟨75, _⟩ => ⟨S4x2048x3072, .f32⟩
  | .hbm, ⟨76, _⟩ => ⟨S4x2048x3072, .f32⟩
  | .hbm, ⟨77, _⟩ => ⟨S_, .f32⟩
  | .hbm, ⟨78, _⟩ => ⟨S4x2048x3072, .f32⟩
  | .hbm, ⟨79, _⟩ => ⟨S4x2048x3072, .f32⟩
  | .hbm, ⟨80, _⟩ => ⟨S_, .f32⟩
  | .hbm, ⟨81, _⟩ => ⟨S4x2048x3072, .f32⟩
  | .hbm, ⟨82, _⟩ => ⟨S4x2048x3072, .f32⟩
  | .hbm, ⟨83, _⟩ => ⟨S4x2048x3072, .f32⟩
  | .hbm, ⟨84, _⟩ => ⟨S_, .f32⟩
  | .hbm, ⟨85, _⟩ => ⟨S4x2048x3072, .f32⟩
  | .hbm, ⟨86, _⟩ => ⟨S4x2048x3072, .f32⟩
  | .hbm, ⟨87, _⟩ => ⟨S4x2048x3072, .f32⟩
  | .hbm, ⟨88, _⟩ => ⟨S_, .f32⟩
  | .hbm, ⟨89, _⟩ => ⟨S4x2048x3072, .f32⟩
  | .hbm, ⟨90, _⟩ => ⟨S4x2048x3072, .f32⟩
  | .hbm, ⟨91, _⟩ => ⟨S4x2048x3072, .f32⟩
  | .hbm, ⟨92, _⟩ => ⟨S_, .f32⟩
  | .hbm, ⟨93, _⟩ => ⟨S4x2048x3072, .f32⟩
  | .hbm, ⟨94, _⟩ => ⟨S4x2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_cst_3 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Proof.Adam.lean ====
/- The optimiser's update of an array of weights: elementwise, so it doesn't matter in which shape. -/
module

public import Idealize.ShloMosaic.Lib.Pointwise
public import Idealize.ShloMosaic.Lib.Pipeline.ValueKit
public import Idealize.ShloMosaic.Lib.Claim

@[expose] public section

noncomputable section

open Idealize.ShloMosaic Idealize.ShloMosaic.Tactic

namespace Cert.Adam

/-- The running mean of the gradients, from a gradient and the mean so far. -/
def mean1 (g m : Ideal .f32) : Ideal .f32 :=
  FloatOps.addf (FloatOps.mulf (FloatOps.ofBits .f32 0x3F666666#32) m) (FloatOps.mulf (FloatOps.ofBits .f32 0x3DCCCCCD#32) g)

/-- The running mean of the gradients' squares, from a gradient and the mean so far. -/
def square1 (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The step of one weight, from the weight, its gradient and the two means so far. -/
def step1 (w g m v : Ideal .f32) : Ideal .f32 :=
  FloatOps.mulf (FloatOps.ofBits .f32 0xBA83126F#32)
    (FloatOps.addf
      (FloatOps.divf (FloatOps.divf (mean1 g m) (FloatOps.ofBits .f32 0x3F26BD02#32))
        (FloatOps.addf (FloatOps.sqrt (FloatOps.divf (square1 g v) (FloatOps.ofBits .f32 0x3C231ACC#32)))
          (FloatOps.ofBits .f32 0x322BCC77#32)))
      (FloatOps.mulf (FloatOps.ofBits .f32 0x3C23D70A#32) w))

variable {S S' : Shape}

/-- The running means of an array's gradients. -/
def mean (g m : FVec Ideal S .f32) : FVec Ideal S .f32 := fun i => mean1 (g i) (m i)

/-- The running means of their squares. -/
def square (g v : FVec Ideal S .f32) : FVec Ideal S .f32 := fun i => square1 (g i) (v i)

/-- The steps of an array's weights. -/
def step (w g m v : FVec Ideal S .f32) : FVec Ideal S .f32 := fun i => step1 (w i) (g i) (m i) (v i)

variable (w g m v : FVec Ideal S .f32) (h : S.ShapeCasts S') (h' : S'.ShapeCasts S)

/-- The means of reshaped arrays are the arrays' means, reshaped. -/
theorem mean_reshape : shapeCast S (mean (shapeCast S' g h) (shapeCast S' m h)) h' = mean g m := by
  refine (rfl : _ = mean (shapeCast S (shapeCast S' g h) h') (shapeCast S (shapeCast S' m h) h')).trans ?_
  rw [shapeCast_shapeCast, shapeCast_shapeCast]

/-- So are the squares' means. -/
theorem square_reshape : shapeCast S (square (shapeCast S' g h) (shapeCast S' v h)) h' = square g v := by
  refine (rfl : _ = square (shapeCast S (shapeCast S' g h) h') (shapeCast S (shapeCast S' v h) h')).trans ?_
  rw [shapeCast_shapeCast, shapeCast_shapeCast]

/-- So are the steps. -/
theorem step_reshape :
    shapeCast S (step (shapeCast S' w h) (shapeCast S' g h) (shapeCast S' m h) (shapeCast S' v h)) h' = step w g m v := by
  refine (rfl : _ = step (shapeCast S (shapeCast S' w h) h') (shapeCast S (shapeCast S' g h) h') (shapeCast S (shapeCast S' m h) h')
    (shapeCast S (shapeCast S' v h) h')).trans ?_
  rw [shapeCast_shapeCast, shapeCast_shapeCast, shapeCast_shapeCast, shapeCast_shapeCast]

end Cert.Adam

end
-- ==== Proof.AdamLargeArray.lean ====
/- The optimiser's calls on the large weights: each leaves the steps, the means and the squares' means of its arrays. -/
module

public import proofs.«01_k».proof.Proof.Gen.Kernel13Ideal.Frame
public import proofs.«01_k».proof.Proof.Adam

@[expose] public section

set_option maxRecDepth 16384

noncomputable section

open Idealize.ShloMosaic Idealize.ShloMosaic.TcCoe Idealize.SL.Sem

namespace Cert.AdamLarge

open Cert.Kernel13Ideal Cert.Kernel13Ideal.Gen Cert.Adam

variable (V : (c : Dev nD) → (b : Ref sig .tc) → Buf (Elt Ideal) ((c : Thread nD τ).loc b)) (c : Dev nD)

/-- The input projection's weight. -/
theorem region0 : (dat0 V c).arrAt 4 cfg0.N = step (V c main_v0) (V c main_v1) (V c main_v2) (V c main_v3)
    ∧ (dat0 V c).arrAt 5 cfg0.N = mean (V c main_v1) (V c main_v2) ∧ (dat0 V c).arrAt 6 cfg0.N = square (V c main_v1) (V c main_v3) := by
  refine ⟨(dat0 V c).arrAt_eq_of_covers 4 _ (by decide +kernel) fun t _ y => ?_,
    (dat0 V c).arrAt_eq_of_covers 5 _ (by decide +kernel) fun t _ y => ?_,
    (dat0 V c).arrAt_eq_of_covers 6 _ (by decide +kernel) fun t _ y => ?_⟩ <;>
  · simp only [after0_4, after0_5, after0_6]
    first | unfold out0_4 | unfold out0_5 | unfold out0_6
    frame_out
    simp only [k0_pay1, k0_pay2, k0_pay3, k0_pay4, shapeCast_self]
    rfl

/-- The gated unit's weight. -/
theorem region1 : (dat1 V c).arrAt 4 cfg1.N = step (V c main_v8) (V c main_v9) (V c main_v10) (V c main_v11)
    ∧ (dat1 V c).arrAt 5 cfg1.N = mean (V c main_v9) (V c main_v10) ∧ (dat1 V c).arrAt 6 cfg1.N = square (V c main_v9) (V c main_v11) := by
  refine ⟨(dat1 V c).arrAt_eq_of_covers 4 _ (by decide +kernel) fun t _ y => ?_,
    (dat1 V c).arrAt_eq_of_covers 5 _ (by decide +kernel) fun t _ y => ?_,
    (dat1 V c).arrAt_eq_of_covers 6 _ (by decide +kernel) fun t _ y => ?_⟩ <;>
  · simp only [after1_4, after1_5, after1_6]
    first | unfold out1_4 | unfold out1_5 | unfold out1_6
    frame_out
    simp only [k1_pay1, k1_pay2, k1_pay3, k1_pay4, shapeCast_self]
    rfl

/-- The weight of a branch's output projection. -/
theorem region2 : (dat2 V c).arrAt 4 cfg2.N = step (V c main_v16) (V c main_v17) (V c main_v18) (V c main_v19)
    ∧ (dat2 V c).arrAt 5 cfg2.N = mean (V c main_v17) (V c main_v18) ∧ (dat2 V c).arrAt 6 cfg2.N = square (V c main_v17) (V c main_v19) := by
  refine ⟨(dat2 V c).arrAt_eq_of_covers 4 _ (by decide +kernel) fun t _ y => ?_,
    (dat2 V c).arrAt_eq_of_covers 5 _ (by decide +kernel) fun t _ y => ?_,
    (dat2 V c).arrAt_eq_of_covers 6 _ (by decide +kernel) fun t _ y => ?_⟩ <;>
  · simp only [after2_4, after2_5, after2_6]
    first | unfold out2_4 | unfold out2_5 | unfold out2_6
    frame_out
    simp only [k2_pay1, k2_pay2, k2_pay3, k2_pay4, shapeCast_self]
    rfl

/-- The output projection's weight. -/
theorem region3 : (dat3 V c).arrAt 4 cfg3.N = step (V c main_v24) (V c main_v25) (V c main_v26) (V c main_v27)
    ∧ (dat3 V c).arrAt 5 cfg3.N = mean (V c main_v25) (V c main_v26) ∧ (dat3 V c).arrAt 6 cfg3.N = square (V c main_v25) (V c main_v27) := by
  refine ⟨(dat3 V c).arrAt_eq_of_covers 4 _ (by decide +kernel) fun t _ y => ?_,
    (dat3 V c).arrAt_eq_of_covers 5 _ (by decide +kernel) fun t _ y => ?_,
    (dat3 V c).arrAt_eq_of_covers 6 _ (by decide +kernel) fun t _ y => ?_⟩ <;>
  · simp only [after3_4, after3_5, after3_6]
    first | unfold out3_4 | unfold out3_5 | unfold out3_6
    frame_out
    simp only [k3_pay1, k3_pay2, k3_pay3, k3_pay4, shapeCast_self]
    rfl

/-- The up-projection's weight. -/
theorem region4 : (dat4 V c).arrAt 4 cfg4.N = step (V c main_v32) (V c main_v33) (V c main_v34) (V c main_v35)
    ∧ (dat4 V c).arrAt 5 cfg4.N = mean (V c main_v33) (V c main_v34) ∧ (dat4 V c).arrAt 6 cfg4.N = square (V c main_v33) (V c main_v35) := by
  refine ⟨(dat4 V c).arrAt_eq_of_covers 4 _ (by decide +kernel) fun t _ y => ?_,
    (dat4 V c).arrAt_eq_of_covers 5 _ (by decide +kernel) fun t _ y => ?_,
    (dat4 V c).arrAt_eq_of_covers 6 _ (by decide +kernel) fun t _ y => ?_⟩ <;>
  · simp only [after4_4, after4_5, after4_6]
    first | unfold out4_4 | unfold out4_5 | unfold out4_6
    frame_out
    simp only [k4_pay1, k4_pay2, k4_pay3, k4_pay4, shapeCast_self]
    rfl

/-- The down-projection's weight. -/
theorem region5 : (dat5 V c).arrAt 4 cfg5.N = step (V c main_v40) (V c main_v41) (V c main_v42) (V c main_v43)
    ∧ (dat5 V c).arrAt 5 cfg5.N = mean (V c main_v41) (V c main_v42) ∧ (dat5 V c).arrAt 6 cfg5.N = square (V c main_v41) (V c main_v43) := by
  refine ⟨(dat5 V c).arrAt_eq_of_covers 4 _ (by decide +kernel) fun t _ y => ?_,
    (dat5 V c).arrAt_eq_of_covers 5 _ (by decide +kernel) fun t _ y => ?_,
    (dat5 V c).arrAt_eq_of_covers 6 _ (by decide +kernel) fun t _ y => ?_⟩ <;>
  · simp only [after5_4, after5_5, after5_6]
    first | unfold out5_4 | unfold out5_5 | unfold out5_6
    frame_out
    simp only [k5_pay1, k5_pay2, k5_pay3, k5_pay4, shapeCast_self]
    rfl

end Cert.AdamLarge

end
-- ==== Proof.AdamLarge.lean ====
/- The optimiser's updates of the large weights: one call for each, chained by the contents at the boundaries of
   their regions, leave the reference's steps, means and squares' means. -/
module

public import proofs.«01_k».proof.Proof.AdamLargeArray
public import proofs.«01_k».proof.Proof.Gen.Reference13Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamLarge

open Cert.Kernel13Ideal Cert.Kernel13Ideal.Gen Cert.Adam

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, the results at the last boundary's contents and the arguments as launched. -/
theorem run : θ_run defs (onTc (τ := τ) (main (F := F))) ⟨m, fun _ => 0, ρ⟩ (fun r => ∀ c : Dev nD,
      r.2.mem ((c.tc : Thread nD τ).loc main_v5) = W13 m ρ c (Proc.devRef .tc main_v5)
      ∧ r.2.mem ((c.tc : Thread nD τ).loc main_v6) = W13 m ρ c (Proc.devRef .tc main_v6)
      ∧ r.2.mem ((c.tc : Thread nD τ).loc main_v7) = W13 m ρ c (Proc.devRef .tc main_v7)
      ∧ r.2.mem ((c.tc : Thread nD τ).loc main_v13) = W13 m ρ c (Proc.devRef .tc main_v13)
      ∧ r.2.mem ((c.tc : Thread nD τ).loc main_v14) = W13 m ρ c (Proc.devRef .tc main_v14)
      ∧ r.2.mem ((c.tc : Thread nD τ).loc main_v15) = W13 m ρ c (Proc.devRef .tc main_v15)
      ∧ r.2.mem ((c.tc : Thread nD τ).loc main_v21) = W13 m ρ c (Proc.devRef .tc main_v21)
      ∧ r.2.mem ((c.tc : Thread nD τ).loc main_v22) = W13 m ρ c (Proc.devRef .tc main_v22)
      ∧ r.2.mem ((c.tc : Thread nD τ).loc main_v23) = W13 m ρ c (Proc.devRef .tc main_v23)
      ∧ r.2.mem ((c.tc : Thread nD τ).loc main_v29) = W13 m ρ c (Proc.devRef .tc main_v29)
      ∧ r.2.mem ((c.tc : Thread nD τ).loc main_v30) = W13 m ρ c (Proc.devRef .tc main_v30)
      ∧ r.2.mem ((c.tc : Thread nD τ).loc main_v31) = W13 m ρ c (Proc.devRef .tc main_v31)
      ∧ r.2.mem ((c.tc : Thread nD τ).loc main_v37) = W13 m ρ c (Proc.devRef .tc main_v37)
      ∧ r.2.mem ((c.tc : Thread nD τ).loc main_v38) = W13 m ρ c (Proc.devRef .tc main_v38)
      ∧ r.2.mem ((c.tc : Thread nD τ).loc main_v39) = W13 m ρ c (Proc.devRef .tc main_v39)
      ∧ r.2.mem ((c.tc : Thread nD τ).loc main_v45) = W13 m ρ c (Proc.devRef .tc main_v45)
      ∧ r.2.mem ((c.tc : Thread nD τ).loc main_v46) = W13 m ρ c (Proc.devRef .tc main_v46)
      ∧ r.2.mem ((c.tc : Thread nD τ).loc main_v47) = W13 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c =>
      ⟨h c _ (mem_uc main_v5 (by decide)), h c _ (mem_uc main_v6 (by decide)), h c _ (mem_uc main_v7 (by decide)), h c _ (mem_uc main_v13 (by decide)), h c _ (mem_uc main_v14 (by decide)), h c _ (mem_uc main_v15 (by decide)), h c _ (mem_uc main_v21 (by decide)), h c _ (mem_uc main_v22 (by decide)), h c _ (mem_uc main_v23 (by decide)), h c _ (mem_uc main_v29 (by decide)), h c _ (mem_uc main_v30 (by decide)), h c _ (mem_uc main_v31 (by decide)), h c _ (mem_uc main_v37 (by decide)), h c _ (mem_uc main_v38 (by decide)), h c _ (mem_uc main_v39 (by decide)), h c _ (mem_uc main_v45 (by decide)), h c _ (mem_uc main_v46 (by decide)), h c _ (mem_uc main_v47 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c)⟩)

end run

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The results, in the order in which they are written. -/
abbrev outs : List (Ref sig .tc) := [main_v5, main_v6, main_v7, main_v13, main_v14, main_v15, main_v21, main_v22, main_v23, main_v29, main_v30, main_v31, main_v37, main_v38, main_v39, main_v45, main_v46, main_v47]

/-- What is written before the last call is left alone. -/
theorem kept11 : ∀ r ∈ outs.take 15, W13 m ρ c (Proc.devRef .tc r) = W11 m ρ c (Proc.devRef .tc r) := fun r h =>
  (W13_of m ρ c r ((by decide : ∀ r ∈ outs.take 15, r ∉ hostOps6_W) r h)).trans
    (W12_of m ρ c r ((by decide : ∀ r ∈ outs.take 15, ∀ w : Fin cfg5.W, Pipeline.arrRef spec5 w = r → (cfg5.win w).isOut = false) r h))

/-- Nor is what is written before call 4 changed later. -/
theorem kept9 : ∀ r ∈ outs.take 12, W13 m ρ c (Proc.devRef .tc r) = W9 m ρ c (Proc.devRef .tc r) := fun r h =>
  (kept11 m ρ c r ((by decide : ∀ r ∈ outs.take 12, r ∈ outs.take 15) r h)).trans
    ((W11_of m ρ c r ((by decide : ∀ r ∈ outs.take 12, r ∉ hostOps5_W) r h)).trans
      (W10_of m ρ c r ((by decide : ∀ r ∈ outs.take 12, ∀ w : Fin cfg4.W, Pipeline.arrRef spec4 w = r → (cfg4.win w).isOut = false) r h)))

/-- Nor is what is written before call 3 changed later. -/
theorem kept7 : ∀ r ∈ outs.take 9, W13 m ρ c (Proc.devRef .tc r) = W7 m ρ c (Proc.devRef .tc r) := fun r h =>
  (kept9 m ρ c r ((by decide : ∀ r ∈ outs.take 9, r ∈ outs.take 12) r h)).trans
    ((W9_of m ρ c r ((by decide : ∀ r ∈ outs.take 9, r ∉ hostOps4_W) r h)).trans
      (W8_of m ρ c r ((by decide : ∀ r ∈ outs.take 9, ∀ w : Fin cfg3.W, Pipeline.arrRef spec3 w = r → (cfg3.win w).isOut = false) r h)))

/-- Nor is what is written before call 2 changed later. -/
theorem kept5 : ∀ r ∈ outs.take 6, W13 m ρ c (Proc.devRef .tc r) = W5 m ρ c (Proc.devRef .tc r) := fun r h =>
  (kept7 m ρ c r ((by decide : ∀ r ∈ outs.take 6, r ∈ outs.take 9) r h)).trans
    ((W7_of m ρ c r ((by decide : ∀ r ∈ outs.take 6, r ∉ hostOps3_W) r h)).trans
      (W6_of m ρ c r ((by decide : ∀ r ∈ outs.take 6, ∀ w : Fin cfg2.W, Pipeline.arrRef spec2 w = r → (cfg2.win w).isOut = false) r h)))

/-- Nor is what is written before call 1 changed later. -/
theorem kept3 : ∀ r ∈ outs.take 3, W13 m ρ c (Proc.devRef .tc r) = W3 m ρ c (Proc.devRef .tc r) := fun r h =>
  (kept5 m ρ c r ((by decide : ∀ r ∈ outs.take 3, r ∈ outs.take 6) r h)).trans
    ((W5_of m ρ c r ((by decide : ∀ r ∈ outs.take 3, r ∉ hostOps2_W) r h)).trans
      (W4_of m ρ c r ((by decide : ∀ r ∈ outs.take 3, ∀ w : Fin cfg1.W, Pipeline.arrRef spec1 w = r → (cfg1.win w).isOut = false) r h)))

/-- The input projection's weight. -/
theorem result0 : W13 m ρ c (Proc.devRef .tc main_v5) = step (arg m c main_arg0) (arg m c main_arg1) (arg m c main_arg2) (arg m c main_arg3)
    ∧ W13 m ρ c (Proc.devRef .tc main_v6) = mean (arg m c main_arg1) (arg m c main_arg2)
    ∧ W13 m ρ c (Proc.devRef .tc main_v7) = square (arg m c main_arg1) (arg m c main_arg3) := by
  obtain ⟨h4, h5, h6⟩ := region0 (V1 m ρ) c
  have e0 : W1 m ρ c (Proc.devRef .tc main_v0) = shapeCast S8192x3200 (W0 m ρ c (Proc.devRef .tc main_arg0)) shapeCasts_S4x2048x3200_S8192x3200 := by after_results; rfl
  have e1 : W1 m ρ c (Proc.devRef .tc main_v1) = shapeCast S8192x3200 (W0 m ρ c (Proc.devRef .tc main_arg1)) shapeCasts_S4x2048x3200_S8192x3200 := by after_results; rfl
  have e2 : W1 m ρ c (Proc.devRef .tc main_v2) = shapeCast S8192x3200 (W0 m ρ c (Proc.devRef .tc main_arg2)) shapeCasts_S4x2048x3200_S8192x3200 := by after_results; rfl
  have e3 : W1 m ρ c (Proc.devRef .tc main_v3) = shapeCast S8192x3200 (W0 m ρ c (Proc.devRef .tc main_arg3)) shapeCasts_S4x2048x3200_S8192x3200 := by after_results; rfl
  rw [W0_args m ρ c _ (by decide)] at e0 e1 e2 e3
  have r0 : W3 m ρ c (Proc.devRef .tc main_v5) = shapeCast S4x2048x3200 (W2 m ρ c (Proc.devRef .tc main_v4_0)) shapeCasts_S8192x3200_S4x2048x3200 := by after_results; rfl
  have r1 : W3 m ρ c (Proc.devRef .tc main_v6) = shapeCast S4x2048x3200 (W2 m ρ c (Proc.devRef .tc main_v4_1)) shapeCasts_S8192x3200_S4x2048x3200 := by after_results; rfl
  have r2 : W3 m ρ c (Proc.devRef .tc main_v7) = shapeCast S4x2048x3200 (W2 m ρ c (Proc.devRef .tc main_v4_2)) shapeCasts_S8192x3200_S4x2048x3200 := by after_results; rfl
  rw [show V1 m ρ c main_v0 = _ from e0, show V1 m ρ c main_v1 = _ from e1, show V1 m ρ c main_v2 = _ from e2, show V1 m ρ c main_v3 = _ from e3] at h4
  rw [show V1 m ρ c main_v1 = _ from e1, show V1 m ρ c main_v2 = _ from e2] at h5
  rw [show V1 m ρ c main_v1 = _ from e1, show V1 m ρ c main_v3 = _ from e3] at h6
  exact ⟨(kept3 m ρ c main_v5 (by decide)).trans (r0.trans ((congrArg (shapeCast S4x2048x3200 · _) ((W2_arr m ρ c 4).trans h4)).trans (step_reshape ..))),
    (kept3 m ρ c main_v6 (by decide)).trans (r1.trans ((congrArg (shapeCast S4x2048x3200 · _) ((W2_arr m ρ c 5).trans h5)).trans (mean_reshape ..))),
    (kept3 m ρ c main_v7 (by decide)).trans (r2.trans ((congrArg (shapeCast S4x2048x3200 · _) ((W2_arr m ρ c 6).trans h6)).trans (square_reshape ..)))⟩

/-- The gated unit's weight. -/
theorem result1 : W13 m ρ c (Proc.devRef .tc main_v13) = step (arg m c main_arg4) (arg m c main_arg5) (arg m c main_arg6) (arg m c main_arg7)
    ∧ W13 m ρ c (Proc.devRef .tc main_v14) = mean (arg m c main_arg5) (arg m c main_arg6)
    ∧ W13 m ρ c (Proc.devRef .tc main_v15) = square (arg m c main_arg5) (arg m c main_arg7) := by
  obtain ⟨h4, h5, h6⟩ := region1 (V3 m ρ) c
  have e0 : W3 m ρ c (Proc.devRef .tc main_v8) = shapeCast S512x512 (W2 m ρ c (Proc.devRef .tc main_arg4)) shapeCasts_S4x128x512_S512x512 := by after_results; rfl
  have e1 : W3 m ρ c (Proc.devRef .tc main_v9) = shapeCast S512x512 (W2 m ρ c (Proc.devRef .tc main_arg5)) shapeCasts_S4x128x512_S512x512 := by after_results; rfl
  have e2 : W3 m ρ c (Proc.devRef .tc main_v10) = shapeCast S512x512 (W2 m ρ c (Proc.devRef .tc main_arg6)) shapeCasts_S4x128x512_S512x512 := by after_results; rfl
  have e3 : W3 m ρ c (Proc.devRef .tc main_v11) = shapeCast S512x512 (W2 m ρ c (Proc.devRef .tc main_arg7)) shapeCasts_S4x128x512_S512x512 := by after_results; rfl
  rw [W2_args m ρ c _ (by decide)] at e0 e1 e2 e3
  have r0 : W5 m ρ c (Proc.devRef .tc main_v13) = shapeCast S4x128x512 (W4 m ρ c (Proc.devRef .tc main_v12_0)) shapeCasts_S512x512_S4x128x512 := by after_results; rfl
  have r1 : W5 m ρ c (Proc.devRef .tc main_v14) = shapeCast S4x128x512 (W4 m ρ c (Proc.devRef .tc main_v12_1)) shapeCasts_S512x512_S4x128x512 := by after_results; rfl
  have r2 : W5 m ρ c (Proc.devRef .tc main_v15) = shapeCast S4x128x512 (W4 m ρ c (Proc.devRef .tc main_v12_2)) shapeCasts_S512x512_S4x128x512 := by after_results; rfl
  rw [show V3 m ρ c main_v8 = _ from e0, show V3 m ρ c main_v9 = _ from e1, show V3 m ρ c main_v10 = _ from e2, show V3 m ρ c main_v11 = _ from e3] at h4
  rw [show V3 m ρ c main_v9 = _ from e1, show V3 m ρ c main_v10 = _ from e2] at h5
  rw [show V3 m ρ c main_v9 = _ from e1, show V3 m ρ c main_v11 = _ from e3] at h6
  exact ⟨(kept5 m ρ c main_v13 (by decide)).trans (r0.trans ((congrArg (shapeCast S4x128x512 · _) ((W4_arr m ρ c 4).trans h4)).trans (step_reshape ..))),
    (kept5 m ρ c main_v14 (by decide)).trans (r1.trans ((congrArg (shapeCast S4x128x512 · _) ((W4_arr m ρ c 5).trans h5)).trans (mean_reshape ..))),
    (kept5 m ρ c main_v15 (by decide)).trans (r2.trans ((congrArg (shapeCast S4x128x512 · _) ((W4_arr m ρ c 6).trans h6)).trans (square_reshape ..)))⟩

/-- The weight of a branch's output projection. -/
theorem result2 : W13 m ρ c (Proc.devRef .tc main_v21) = step (arg m c main_arg8) (arg m c main_arg9) (arg m c main_arg10) (arg m c main_arg11)
    ∧ W13 m ρ c (Proc.devRef .tc main_v22) = mean (arg m c main_arg9) (arg m c main_arg10)
    ∧ W13 m ρ c (Proc.devRef .tc main_v23) = square (arg m c main_arg9) (arg m c main_arg11) := by
  obtain ⟨h4, h5, h6⟩ := region2 (V5 m ρ) c
  have e0 : W5 m ρ c (Proc.devRef .tc main_v16) = shapeCast S2048x512 (W4 m ρ c (Proc.devRef .tc main_arg8)) shapeCasts_S4x512x512_S2048x512 := by after_results; rfl
  have e1 : W5 m ρ c (Proc.devRef .tc main_v17) = shapeCast S2048x512 (W4 m ρ c (Proc.devRef .tc main_arg9)) shapeCasts_S4x512x512_S2048x512 := by after_results; rfl
  have e2 : W5 m ρ c (Proc.devRef .tc main_v18) = shapeCast S2048x512 (W4 m ρ c (Proc.devRef .tc main_arg10)) shapeCasts_S4x512x512_S2048x512 := by after_results; rfl
  have e3 : W5 m ρ c (Proc.devRef .tc main_v19) = shapeCast S2048x512 (W4 m ρ c (Proc.devRef .tc main_arg11)) shapeCasts_S4x512x512_S2048x512 := by after_results; rfl
  rw [W4_args m ρ c _ (by decide)] at e0 e1 e2 e3
  have r0 : W7 m ρ c (Proc.devRef .tc main_v21) = shapeCast S4x512x512 (W6 m ρ c (Proc.devRef .tc main_v20_0)) shapeCasts_S2048x512_S4x512x512 := by after_results; rfl
  have r1 : W7 m ρ c (Proc.devRef .tc main_v22) = shapeCast S4x512x512 (W6 m ρ c (Proc.devRef .tc main_v20_1)) shapeCasts_S2048x512_S4x512x512 := by after_results; rfl
  have r2 : W7 m ρ c (Proc.devRef .tc main_v23) = shapeCast S4x512x512 (W6 m ρ c (Proc.devRef .tc main_v20_2)) shapeCasts_S2048x512_S4x512x512 := by after_results; rfl
  rw [show V5 m ρ c main_v16 = _ from e0, show V5 m ρ c main_v17 = _ from e1, show V5 m ρ c main_v18 = _ from e2, show V5 m ρ c main_v19 = _ from e3] at h4
  rw [show V5 m ρ c main_v17 = _ from e1, show V5 m ρ c main_v18 = _ from e2] at h5
  rw [show V5 m ρ c main_v17 = _ from e1, show V5 m ρ c main_v19 = _ from e3] at h6
  exact ⟨(kept7 m ρ c main_v21 (by decide)).trans (r0.trans ((congrArg (shapeCast S4x512x512 · _) ((W6_arr m ρ c 4).trans h4)).trans (step_reshape ..))),
    (kept7 m ρ c main_v22 (by decide)).trans (r1.trans ((congrArg (shapeCast S4x512x512 · _) ((W6_arr m ρ c 5).trans h5)).trans (mean_reshape ..))),
    (kept7 m ρ c main_v23 (by decide)).trans (r2.trans ((congrArg (shapeCast S4x512x512 · _) ((W6_arr m ρ c 6).trans h6)).trans (square_reshape ..)))⟩

/-- The output projection's weight. -/
theorem result3 : W13 m ρ c (Proc.devRef .tc main_v29) = step (arg m c main_arg12) (arg m c main_arg13) (arg m c main_arg14) (arg m c main_arg15)
    ∧ W13 m ρ c (Proc.devRef .tc main_v30) = mean (arg m c main_arg13) (arg m c main_arg14)
    ∧ W13 m ρ c (Proc.devRef .tc main_v31) = square (arg m c main_arg13) (arg m c main_arg15) := by
  obtain ⟨h4, h5, h6⟩ := region3 (V7 m ρ) c
  have e0 : W7 m ρ c (Proc.devRef .tc main_v24) = shapeCast S2048x2048 (W6 m ρ c (Proc.devRef .tc main_arg12)) shapeCasts_S4x512x2048_S2048x2048 := by after_results; rfl
  have e1 : W7 m ρ c (Proc.devRef .tc main_v25) = shapeCast S2048x2048 (W6 m ρ c (Proc.devRef .tc main_arg13)) shapeCasts_S4x512x2048_S2048x2048 := by after_results; rfl
  have e2 : W7 m ρ c (Proc.devRef .tc main_v26) = shapeCast S2048x2048 (W6 m ρ c (Proc.devRef .tc main_arg14)) shapeCasts_S4x512x2048_S2048x2048 := by after_results; rfl
  have e3 : W7 m ρ c (Proc.devRef .tc main_v27) = shapeCast S2048x2048 (W6 m ρ c (Proc.devRef .tc main_arg15)) shapeCasts_S4x512x2048_S2048x2048 := by after_results; rfl
  rw [W6_args m ρ c _ (by decide)] at e0 e1 e2 e3
  have r0 : W9 m ρ c (Proc.devRef .tc main_v29) = shapeCast S4x512x2048 (W8 m ρ c (Proc.devRef .tc main_v28_0)) shapeCasts_S2048x2048_S4x512x2048 := by after_results; rfl
  have r1 : W9 m ρ c (Proc.devRef .tc main_v30) = shapeCast S4x512x2048 (W8 m ρ c (Proc.devRef .tc main_v28_1)) shapeCasts_S2048x2048_S4x512x2048 := by after_results; rfl
  have r2 : W9 m ρ c (Proc.devRef .tc main_v31) = shapeCast S4x512x2048 (W8 m ρ c (Proc.devRef .tc main_v28_2)) shapeCasts_S2048x2048_S4x512x2048 := by after_results; rfl
  rw [show V7 m ρ c main_v24 = _ from e0, show V7 m ρ c main_v25 = _ from e1, show V7 m ρ c main_v26 = _ from e2, show V7 m ρ c main_v27 = _ from e3] at h4
  rw [show V7 m ρ c main_v25 = _ from e1, show V7 m ρ c main_v26 = _ from e2] at h5
  rw [show V7 m ρ c main_v25 = _ from e1, show V7 m ρ c main_v27 = _ from e3] at h6
  exact ⟨(kept9 m ρ c main_v29 (by decide)).trans (r0.trans ((congrArg (shapeCast S4x512x2048 · _) ((W8_arr m ρ c 4).trans h4)).trans (step_reshape ..))),
    (kept9 m ρ c main_v30 (by decide)).trans (r1.trans ((congrArg (shapeCast S4x512x2048 · _) ((W8_arr m ρ c 5).trans h5)).trans (mean_reshape ..))),
    (kept9 m ρ c main_v31 (by decide)).trans (r2.trans ((congrArg (shapeCast S4x512x2048 · _) ((W8_arr m ρ c 6).trans h6)).trans (square_reshape ..)))⟩

/-- The up-projection's weight. -/
theorem result4 : W13 m ρ c (Proc.devRef .tc main_v37) = step (arg m c main_arg16) (arg m c main_arg17) (arg m c main_arg18) (arg m c main_arg19)
    ∧ W13 m ρ c (Proc.devRef .tc main_v38) = mean (arg m c main_arg17) (arg m c main_arg18)
    ∧ W13 m ρ c (Proc.devRef .tc main_v39) = square (arg m c main_arg17) (arg m c main_arg19) := by
  obtain ⟨h4, h5, h6⟩ := region4 (V9 m ρ) c
  have e0 : W9 m ρ c (Proc.devRef .tc main_v32) = shapeCast S8192x2816 (W8 m ρ c (Proc.devRef .tc main_arg16)) shapeCasts_S4x2048x2816_S8192x2816 := by after_results; rfl
  have e1 : W9 m ρ c (Proc.devRef .tc main_v33) = shapeCast S8192x2816 (W8 m ρ c (Proc.devRef .tc main_arg17)) shapeCasts_S4x2048x2816_S8192x2816 := by after_results; rfl
  have e2 : W9 m ρ c (Proc.devRef .tc main_v34) = shapeCast S8192x2816 (W8 m ρ c (Proc.devRef .tc main_arg18)) shapeCasts_S4x2048x2816_S8192x2816 := by after_results; rfl
  have e3 : W9 m ρ c (Proc.devRef .tc main_v35) = shapeCast S8192x2816 (W8 m ρ c (Proc.devRef .tc main_arg19)) shapeCasts_S4x2048x2816_S8192x2816 := by after_results; rfl
  rw [W8_args m ρ c _ (by decide)] at e0 e1 e2 e3
  have r0 : W11 m ρ c (Proc.devRef .tc main_v37) = shapeCast S4x2048x2816 (W10 m ρ c (Proc.devRef .tc main_v36_0)) shapeCasts_S8192x2816_S4x2048x2816 := by after_results; rfl
  have r1 : W11 m ρ c (Proc.devRef .tc main_v38) = shapeCast S4x2048x2816 (W10 m ρ c (Proc.devRef .tc main_v36_1)) shapeCasts_S8192x2816_S4x2048x2816 := by after_results; rfl
  have r2 : W11 m ρ c (Proc.devRef .tc main_v39) = shapeCast S4x2048x2816 (W10 m ρ c (Proc.devRef .tc main_v36_2)) shapeCasts_S8192x2816_S4x2048x2816 := by after_results; rfl
  rw [show V9 m ρ c main_v32 = _ from e0, show V9 m ρ c main_v33 = _ from e1, show V9 m ρ c main_v34 = _ from e2, show V9 m ρ c main_v35 = _ from e3] at h4
  rw [show V9 m ρ c main_v33 = _ from e1, show V9 m ρ c main_v34 = _ from e2] at h5
  rw [show V9 m ρ c main_v33 = _ from e1, show V9 m ρ c main_v35 = _ from e3] at h6
  exact ⟨(kept11 m ρ c main_v37 (by decide)).trans (r0.trans ((congrArg (shapeCast S4x2048x2816 · _) ((W10_arr m ρ c 4).trans h4)).trans (step_reshape ..))),
    (kept11 m ρ c main_v38 (by decide)).trans (r1.trans ((congrArg (shapeCast S4x2048x2816 · _) ((W10_arr m ρ c 5).trans h5)).trans (mean_reshape ..))),
    (kept11 m ρ c main_v39 (by decide)).trans (r2.trans ((congrArg (shapeCast S4x2048x2816 · _) ((W10_arr m ρ c 6).trans h6)).trans (square_reshape ..)))⟩

/-- The down-projection's weight. -/
theorem result5 : W13 m ρ c (Proc.devRef .tc main_v45) = step (arg m c main_arg20) (arg m c main_arg21) (arg m c main_arg22) (arg m c main_arg23)
    ∧ W13 m ρ c (Proc.devRef .tc main_v46) = mean (arg m c main_arg21) (arg m c main_arg22)
    ∧ W13 m ρ c (Proc.devRef .tc main_v47) = square (arg m c main_arg21) (arg m c main_arg23) := by
  obtain ⟨h4, h5, h6⟩ := region5 (V11 m ρ) c
  have e0 : W11 m ρ c (Proc.devRef .tc main_v40) = shapeCast S5632x2048 (W10 m ρ c (Proc.devRef .tc main_arg20)) shapeCasts_S4x1408x2048_S5632x2048 := by after_results; rfl
  have e1 : W11 m ρ c (Proc.devRef .tc main_v41) = shapeCast S5632x2048 (W10 m ρ c (Proc.devRef .tc main_arg21)) shapeCasts_S4x1408x2048_S5632x2048 := by after_results; rfl
  have e2 : W11 m ρ c (Proc.devRef .tc main_v42) = shapeCast S5632x2048 (W10 m ρ c (Proc.devRef .tc main_arg22)) shapeCasts_S4x1408x2048_S5632x2048 := by after_results; rfl
  have e3 : W11 m ρ c (Proc.devRef .tc main_v43) = shapeCast S5632x2048 (W10 m ρ c (Proc.devRef .tc main_arg23)) shapeCasts_S4x1408x2048_S5632x2048 := by after_results; rfl
  rw [W10_args m ρ c _ (by decide)] at e0 e1 e2 e3
  have r0 : W13 m ρ c (Proc.devRef .tc main_v45) = shapeCast S4x1408x2048 (W12 m ρ c (Proc.devRef .tc main_v44_0)) shapeCasts_S5632x2048_S4x1408x2048 := by after_results; rfl
  have r1 : W13 m ρ c (Proc.devRef .tc main_v46) = shapeCast S4x1408x2048 (W12 m ρ c (Proc.devRef .tc main_v44_1)) shapeCasts_S5632x2048_S4x1408x2048 := by after_results; rfl
  have r2 : W13 m ρ c (Proc.devRef .tc main_v47) = shapeCast S4x1408x2048 (W12 m ρ c (Proc.devRef .tc main_v44_2)) shapeCasts_S5632x2048_S4x1408x2048 := by after_results; rfl
  rw [show V11 m ρ c main_v40 = _ from e0, show V11 m ρ c main_v41 = _ from e1, show V11 m ρ c main_v42 = _ from e2, show V11 m ρ c main_v43 = _ from e3] at h4
  rw [show V11 m ρ c main_v41 = _ from e1, show V11 m ρ c main_v42 = _ from e2] at h5
  rw [show V11 m ρ c main_v41 = _ from e1, show V11 m ρ c main_v43 = _ from e3] at h6
  exact ⟨(r0.trans ((congrArg (shapeCast S4x1408x2048 · _) ((W12_arr m ρ c 4).trans h4)).trans (step_reshape ..))),
    (r1.trans ((congrArg (shapeCast S4x1408x2048 · _) ((W12_arr m ρ c 5).trans h5)).trans (mean_reshape ..))),
    (r2.trans ((congrArg (shapeCast S4x1408x2048 · _) ((W12_arr m ρ c 6).trans h6)).trans (square_reshape ..)))⟩

end Cert.AdamLarge

end
-- ==== Proof.AdamSmallArray.lean ====
/- The optimiser's calls on the small weights: each leaves the steps, the means and the squares' means of its arrays. -/
module

public import proofs.«01_k».proof.Proof.Gen.Kernel14Ideal.Frame
public import proofs.«01_k».proof.Proof.Adam

@[expose] public section

set_option maxRecDepth 16384
set_option maxHeartbeats 1000000

noncomputable section

open Idealize.ShloMosaic Idealize.ShloMosaic.TcCoe Idealize.SL.Sem

namespace Cert.AdamSmall

open Cert.Kernel14Ideal Cert.Kernel14Ideal.Gen Cert.Adam

variable (V : (c : Dev nD) → (b : Ref sig .tc) → Buf (Elt Ideal) ((c : Thread nD τ).loc b)) (c : Dev nD)

/-- The modulation's bias. -/
theorem region0 : (dat0 V c).arrAt 4 cfg0.N = step (V c main_arg0) (V c main_arg1) (V c main_arg2) (V c main_arg3)
    ∧ (dat0 V c).arrAt 5 cfg0.N = mean (V c main_arg1) (V c main_arg2) ∧ (dat0 V c).arrAt 6 cfg0.N = square (V c main_arg1) (V c main_arg3) := by
  refine ⟨(dat0 V c).arrAt_eq_of_covers 4 _ (by decide +kernel) fun t _ y => ?_,
    (dat0 V c).arrAt_eq_of_covers 5 _ (by decide +kernel) fun t _ y => ?_,
    (dat0 V c).arrAt_eq_of_covers 6 _ (by decide +kernel) fun t _ y => ?_⟩ <;>
  · simp only [after0_4, after0_5, after0_6]
    first | unfold out0_4 | unfold out0_5 | unfold out0_6
    frame_out
    simp only [k0_pay1, k0_pay2, k0_pay3, shapeCast_self]
    rfl

/-- The gain of a norm. -/
theorem region1 : (dat1 V c).arrAt 4 cfg1.N = step (V c main_arg4) (V c main_arg5) (V c main_arg6) (V c main_arg7)
    ∧ (dat1 V c).arrAt 5 cfg1.N = mean (V c main_arg5) (V c main_arg6) ∧ (dat1 V c).arrAt 6 cfg1.N = square (V c main_arg5) (V c main_arg7) := by
  refine ⟨(dat1 V c).arrAt_eq_of_covers 4 _ (by decide +kernel) fun t _ y => ?_,
    (dat1 V c).arrAt_eq_of_covers 5 _ (by decide +kernel) fun t _ y => ?_,
    (dat1 V c).arrAt_eq_of_covers 6 _ (by decide +kernel) fun t _ y => ?_⟩ <;>
  · simp only [after1_4, after1_5, after1_6]
    first | unfold out1_4 | unfold out1_5 | unfold out1_6
    frame_out
    simp only [k1_pay1, k1_pay2, k1_pay3, shapeCast_self]
    rfl

/-- The logarithm of the time step. -/
theorem region2 : (dat2 V c).arrAt 4 cfg2.N = step (V c main_arg8) (V c main_arg9) (V c main_arg10) (V c main_arg11)
    ∧ (dat2 V c).arrAt 5 cfg2.N = mean (V c main_arg9) (V c main_arg10) ∧ (dat2 V c).arrAt 6 cfg2.N = square (V c main_arg9) (V c main_arg11) := by
  refine ⟨(dat2 V c).arrAt_eq_of_covers 4 _ (by decide +kernel) fun t _ y => ?_,
    (dat2 V c).arrAt_eq_of_covers 5 _ (by decide +kernel) fun t _ y => ?_,
    (dat2 V c).arrAt_eq_of_covers 6 _ (by decide +kernel) fun t _ y => ?_⟩ <;>
  · simp only [after2_4, after2_5, after2_6]
    first | unfold out2_4 | unfold out2_5 | unfold out2_6
    frame_out
    simp only [k2_pay1, k2_pay2, k2_pay3, shapeCast_self]
    rfl

/-- The state's decay and frequency. -/
theorem region3 : (dat3 V c).arrAt 4 cfg3.N = step (V c main_v3) (V c main_v4) (V c main_v5) (V c main_v6)
    ∧ (dat3 V c).arrAt 5 cfg3.N = mean (V c main_v4) (V c main_v5) ∧ (dat3 V c).arrAt 6 cfg3.N = square (V c main_v4) (V c main_v6) := by
  refine ⟨(dat3 V c).arrAt_eq_of_covers 4 _ (by decide +kernel) fun t _ y => ?_,
    (dat3 V c).arrAt_eq_of_covers 5 _ (by decide +kernel) fun t _ y => ?_,
    (dat3 V c).arrAt_eq_of_covers 6 _ (by decide +kernel) fun t _ y => ?_⟩ <;>
  · simp only [after3_4, after3_5, after3_6]
    first | unfold out3_4 | unfold out3_5 | unfold out3_6
    frame_out
    simp only [k3_pay1, k3_pay2, k3_pay3, k3_pay4, shapeCast_self]
    rfl

/-- The state's input weights. -/
theorem region4 : (dat4 V c).arrAt 4 cfg4.N = step (V c main_v11) (V c main_v12) (V c main_v13) (V c main_v14)
    ∧ (dat4 V c).arrAt 5 cfg4.N = mean (V c main_v12) (V c main_v13) ∧ (dat4 V c).arrAt 6 cfg4.N = square (V c main_v12) (V c main_v14) := by
  refine ⟨(dat4 V c).arrAt_eq_of_covers 4 _ (by decide +kernel) fun t _ y => ?_,
    (dat4 V c).arrAt_eq_of_covers 5 _ (by decide +kernel) fun t _ y => ?_,
    (dat4 V c).arrAt_eq_of_covers 6 _ (by decide +kernel) fun t _ y => ?_⟩ <;>
  · simp only [after4_4, after4_5, after4_6]
    first | unfold out4_4 | unfold out4_5 | unfold out4_6
    frame_out
    simp only [k4_pay1, k4_pay2, k4_pay3, k4_pay4, shapeCast_self]
    rfl

/-- The state's output weights. -/
theorem region5 : (dat5 V c).arrAt 4 cfg5.N = step (V c main_v19) (V c main_v20) (V c main_v21) (V c main_v22)
    ∧ (dat5 V c).arrAt 5 cfg5.N = mean (V c main_v20) (V c main_v21) ∧ (dat5 V c).arrAt 6 cfg5.N = square (V c main_v20) (V c main_v22) := by
  refine ⟨(dat5 V c).arrAt_eq_of_covers 4 _ (by decide +kernel) fun t _ y => ?_,
    (dat5 V c).arrAt_eq_of_covers 5 _ (by decide +kernel) fun t _ y => ?_,
    (dat5 V c).arrAt_eq_of_covers 6 _ (by decide +kernel) fun t _ y => ?_⟩ <;>
  · simp only [after5_4, after5_5, after5_6]
    first | unfold out5_4 | unfold out5_5 | unfold out5_6
    frame_out
    simp only [k5_pay1, k5_pay2, k5_pay3, k5_pay4, shapeCast_self]
    rfl

/-- The skip weight and the gated unit's bias. -/
theorem region6 : (dat6 V c).arrAt 4 cfg6.N = step (V c main_arg24) (V c main_arg25) (V c main_arg26) (V c main_arg27)
    ∧ (dat6 V c).arrAt 5 cfg6.N = mean (V c main_arg25) (V c main_arg26) ∧ (dat6 V c).arrAt 6 cfg6.N = square (V c main_arg25) (V c main_arg27) := by
  refine ⟨(dat6 V c).arrAt_eq_of_covers 4 _ (by decide +kernel) fun t _ y => ?_,
    (dat6 V c).arrAt_eq_of_covers 5 _ (by decide +kernel) fun t _ y => ?_,
    (dat6 V c).arrAt_eq_of_covers 6 _ (by decide +kernel) fun t _ y => ?_⟩ <;>
  · simp only [after6_4, after6_5, after6_6]
    first | unfold out6_4 | unfold out6_5 | unfold out6_6
    frame_out
    simp only [k6_pay1, k6_pay2, k6_pay3, shapeCast_self]
    rfl

/-- The mixing convolution's weight. -/
theorem region7 : (dat7 V c).arrAt 4 cfg7.N = step (V c main_v28) (V c main_v29) (V c main_v30) (V c main_v31)
    ∧ (dat7 V c).arrAt 5 cfg7.N = mean (V c main_v29) (V c main_v30) ∧ (dat7 V c).arrAt 6 cfg7.N = square (V c main_v29) (V c main_v31) := by
  refine ⟨(dat7 V c).arrAt_eq_of_covers 4 _ (by decide +kernel) fun t _ y => ?_,
    (dat7 V c).arrAt_eq_of_covers 5 _ (by decide +kernel) fun t _ y => ?_,
    (dat7 V c).arrAt_eq_of_covers 6 _ (by decide +kernel) fun t _ y => ?_⟩ <;>
  · simp only [after7_4, after7_5, after7_6]
    first | unfold out7_4 | unfold out7_5 | unfold out7_6
    frame_out
    simp only [k7_pay1, k7_pay2, k7_pay3, k7_pay4, shapeCast_self]
    rfl

/-- The gates' bias. -/
theorem region8 : (dat8 V c).arrAt 4 cfg8.N = step (V c main_arg32) (V c main_arg33) (V c main_arg34) (V c main_arg35)
    ∧ (dat8 V c).arrAt 5 cfg8.N = mean (V c main_arg33) (V c main_arg34) ∧ (dat8 V c).arrAt 6 cfg8.N = square (V c main_arg33) (V c main_arg35) := by
  refine ⟨(dat8 V c).arrAt_eq_of_covers 4 _ (by decide +kernel) fun t _ y => ?_,
    (dat8 V c).arrAt_eq_of_covers 5 _ (by decide +kernel) fun t _ y => ?_,
    (dat8 V c).arrAt_eq_of_covers 6 _ (by decide +kernel) fun t _ y => ?_⟩ <;>
  · simp only [after8_4, after8_5, after8_6]
    first | unfold out8_4 | unfold out8_5 | unfold out8_6
    frame_out
    simp only [k8_pay1, k8_pay2, k8_pay3, shapeCast_self]
    rfl

/-- The feed-forward convolution's weight. -/
theorem region9 : (dat9 V c).arrAt 4 cfg9.N = step (V c main_v37) (V c main_v38) (V c main_v39) (V c main_v40)
    ∧ (dat9 V c).arrAt 5 cfg9.N = mean (V c main_v38) (V c main_v39) ∧ (dat9 V c).arrAt 6 cfg9.N = square (V c main_v38) (V c main_v40) := by
  refine ⟨(dat9 V c).arrAt_eq_of_covers 4 _ (by decide +kernel) fun t _ y => ?_,
    (dat9 V c).arrAt_eq_of_covers 5 _ (by decide +kernel) fun t _ y => ?_,
    (dat9 V c).arrAt_eq_of_covers 6 _ (by decide +kernel) fun t _ y => ?_⟩ <;>
  · simp only [after9_4, after9_5, after9_6]
    first | unfold out9_4 | unfold out9_5 | unfold out9_6
    frame_out
    simp only [k9_pay1, k9_pay2, k9_pay3, k9_pay4, shapeCast_self]
    rfl

end Cert.AdamSmall

end
-- ==== Proof.AdamSmall.lean ====
/- The optimiser's updates of the small weights: one call for each, chained by the contents at the boundaries of
   their regions, leave the reference's steps, means and squares' means. -/
module

public import proofs.«01_k».proof.Proof.AdamSmallArray
public import proofs.«01_k».proof.Proof.Gen.Reference14Ideal.Read
public import Idealize.ShloMosaic.Lib.Pointwise
public import Idealize.ShloMosaic.Lib.Pipeline.ValueKit
public import Idealize.ShloMosaic.Lib.Claim

@[expose] public section

set_option maxRecDepth 16384
set_option maxHeartbeats 4000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.AdamSmall

open Cert.Kernel14Ideal Cert.Kernel14Ideal.Gen Cert.Adam

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, the results at the last boundary's contents and the arguments as launched. -/
theorem run : θ_run defs (onTc (τ := τ) (main (F := F))) ⟨m, fun _ => 0, ρ⟩ (fun r => ∀ c : Dev nD,
      r.2.mem ((c.tc : Thread nD τ).loc main_v0_0) = W18 m ρ c (Proc.devRef .tc main_v0_0)
      ∧ r.2.mem ((c.tc : Thread nD τ).loc main_v0_1) = W18 m ρ c (Proc.devRef .tc main_v0_1)
      ∧ r.2.mem ((c.tc : Thread nD τ).loc main_v0_2) = W18 m ρ c (Proc.devRef .tc main_v0_2)
      ∧ r.2.mem ((c.tc : Thread nD τ).loc main_v1_0) = W18 m ρ c (Proc.devRef .tc main_v1_0)
      ∧ r.2.mem ((c.tc : Thread nD τ).loc main_v1_1) = W18 m ρ c (Proc.devRef .tc main_v1_1)
      ∧ r.2.mem ((c.tc : Thread nD τ).loc main_v1_2) = W18 m ρ c (Proc.devRef .tc main_v1_2)
      ∧ r.2.mem ((c.tc : Thread nD τ).loc main_v2_0) = W18 m ρ c (Proc.devRef .tc main_v2_0)
      ∧ r.2.mem ((c.tc : Thread nD τ).loc main_v2_1) = W18 m ρ c (Proc.devRef .tc main_v2_1)
      ∧ r.2.mem ((c.tc : Thread nD τ).loc main_v2_2) = W18 m ρ c (Proc.devRef .tc main_v2_2)
      ∧ r.2.mem ((c.tc : Thread nD τ).loc main_v8) = W18 m ρ c (Proc.devRef .tc main_v8)
      ∧ r.2.mem ((c.tc : Thread nD τ).loc main_v9) = W18 m ρ c (Proc.devRef .tc main_v9)
      ∧ r.2.mem ((c.tc : Thread nD τ).loc main_v10) = W18 m ρ c (Proc.devRef .tc main_v10)
      ∧ r.2.mem ((c.tc : Thread nD τ).loc main_v16) = W18 m ρ c (Proc.devRef .tc main_v16)
      ∧ r.2.mem ((c.tc : Thread nD τ).loc main_v17) = W18 m ρ c (Proc.devRef .tc main_v17)
      ∧ r.2.mem ((c.tc : Thread nD τ).loc main_v18) = W18 m ρ c (Proc.devRef .tc main_v18)
      ∧ r.2.mem ((c.tc : Thread nD τ).loc main_v24) = W18 m ρ c (Proc.devRef .tc main_v24)
      ∧ r.2.mem ((c.tc : Thread nD τ).loc main_v25) = W18 m ρ c (Proc.devRef .tc main_v25)
      ∧ r.2.mem ((c.tc : Thread nD τ).loc main_v26) = W18 m ρ c (Proc.devRef .tc main_v26)
      ∧ r.2.mem ((c.tc : Thread nD τ).loc main_v27_0) = W18 m ρ c (Proc.devRef .tc main_v27_0)
      ∧ r.2.mem ((c.tc : Thread nD τ).loc main_v27_1) = W18 m ρ c (Proc.devRef .tc main_v27_1)
      ∧ r.2.mem ((c.tc : Thread nD τ).loc main_v27_2) = W18 m ρ c (Proc.devRef .tc main_v27_2)
      ∧ r.2.mem ((c.tc : Thread nD τ).loc main_v33) = W18 m ρ c (Proc.devRef .tc main_v33)
      ∧ r.2.mem ((c.tc : Thread nD τ).loc main_v34) = W18 m ρ c (Proc.devRef .tc main_v34)
      ∧ r.2.mem ((c.tc : Thread nD τ).loc main_v35) = W18 m ρ c (Proc.devRef .tc main_v35)
      ∧ r.2.mem ((c.tc : Thread nD τ).loc main_v36_0) = W18 m ρ c (Proc.devRef .tc main_v36_0)
      ∧ r.2.mem ((c.tc : Thread nD τ).loc main_v36_1) = W18 m ρ c (Proc.devRef .tc main_v36_1)
      ∧ r.2.mem ((c.tc : Thread nD τ).loc main_v36_2) = W18 m ρ c (Proc.devRef .tc main_v36_2)
      ∧ r.2.mem ((c.tc : Thread nD τ).loc main_v42) = W18 m ρ c (Proc.devRef .tc main_v42)
      ∧ r.2.mem ((c.tc : Thread nD τ).loc main_v43) = W18 m ρ c (Proc.devRef .tc main_v43)
      ∧ r.2.mem ((c.tc : Thread nD τ).loc main_v44) = W18 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ c =>
      ⟨h c _ (mem_uc main_v0_0 (by decide)), h c _ (mem_uc main_v0_1 (by decide)), h c _ (mem_uc main_v0_2 (by decide)), h c _ (mem_uc main_v1_0 (by decide)), h c _ (mem_uc main_v1_1 (by decide)), h c _ (mem_uc main_v1_2 (by decide)), h c _ (mem_uc main_v2_0 (by decide)), h c _ (mem_uc main_v2_1 (by decide)), h c _ (mem_uc main_v2_2 (by decide)), h c _ (mem_uc main_v8 (by decide)), h c _ (mem_uc main_v9 (by decide)), h c _ (mem_uc main_v10 (by decide)), h c _ (mem_uc main_v16 (by decide)), h c _ (mem_uc main_v17 (by decide)), h c _ (mem_uc main_v18 (by decide)), h c _ (mem_uc main_v24 (by decide)), h c _ (mem_uc main_v25 (by decide)), h c _ (mem_uc main_v26 (by decide)), h c _ (mem_uc main_v27_0 (by decide)), h c _ (mem_uc main_v27_1 (by decide)), h c _ (mem_uc main_v27_2 (by decide)), h c _ (mem_uc main_v33 (by decide)), h c _ (mem_uc main_v34 (by decide)), h c _ (mem_uc main_v35 (by decide)), h c _ (mem_uc main_v36_0 (by decide)), h c _ (mem_uc main_v36_1 (by decide)), h c _ (mem_uc main_v36_2 (by decide)), h c _ (mem_uc main_v42 (by decide)), h c _ (mem_uc main_v43 (by decide)), h c _ (mem_uc main_v44 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c),
       (h c _ (mem_uc main_arg24 (by decide))).trans (W18_main_arg24 m ρ c),
       (h c _ (mem_uc main_arg25 (by decide))).trans (W18_main_arg25 m ρ c),
       (h c _ (mem_uc main_arg26 (by decide))).trans (W18_main_arg26 m ρ c),
       (h c _ (mem_uc main_arg27 (by decide))).trans (W18_main_arg27 m ρ c),
       (h c _ (mem_uc main_arg28 (by decide))).trans (W18_main_arg28 m ρ c),
       (h c _ (mem_uc main_arg29 (by decide))).trans (W18_main_arg29 m ρ c),
       (h c _ (mem_uc main_arg30 (by decide))).trans (W18_main_arg30 m ρ c),
       (h c _ (mem_uc main_arg31 (by decide))).trans (W18_main_arg31 m ρ c),
       (h c _ (mem_uc main_arg32 (by decide))).trans (W18_main_arg32 m ρ c),
       (h c _ (mem_uc main_arg33 (by decide))).trans (W18_main_arg33 m ρ c),
       (h c _ (mem_uc main_arg34 (by decide))).trans (W18_main_arg34 m ρ c),
       (h c _ (mem_uc main_arg35 (by decide))).trans (W18_main_arg35 m ρ c),
       (h c _ (mem_uc main_arg36 (by decide))).trans (W18_main_arg36 m ρ c),
       (h c _ (mem_uc main_arg37 (by decide))).trans (W18_main_arg37 m ρ c),
       (h c _ (mem_uc main_arg38 (by decide))).trans (W18_main_arg38 m ρ c),
       (h c _ (mem_uc main_arg39 (by decide))).trans (W18_main_arg39 m ρ c)⟩)

end run

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The results, in the order in which they are written. -/
abbrev outs : List (Ref sig .tc) := [main_v0_0, main_v0_1, main_v0_2, main_v1_0, main_v1_1, main_v1_2, main_v2_0, main_v2_1, main_v2_2, main_v8, main_v9, main_v10, main_v16, main_v17, main_v18, main_v24, main_v25, main_v26, main_v27_0, main_v27_1, main_v27_2, main_v33, main_v34, main_v35, main_v36_0, main_v36_1, main_v36_2, main_v42, main_v43, main_v44]

/-- What is written before the last call is left alone. -/
theorem kept15 : ∀ r ∈ outs.take 27, W18 m ρ c (Proc.devRef .tc r) = W15 m ρ c (Proc.devRef .tc r) := fun r h =>
  (W18_of m ρ c r ((by decide : ∀ r ∈ outs.take 27, r ∉ hostOps10_W) r h)).trans
    ((W17_of m ρ c r ((by decide : ∀ r ∈ outs.take 27, ∀ w : Fin cfg9.W, Pipeline.arrRef spec9 w = r → (cfg9.win w).isOut = false) r h)).trans
    (W16_of m ρ c r ((by decide : ∀ r ∈ outs.take 27, r ∉ hostOps9_W) r h)))

/-- Nor is what is written before call 8 changed later. -/
theorem kept14 : ∀ r ∈ outs.take 24, W18 m ρ c (Proc.devRef .tc r) = W14 m ρ c (Proc.devRef .tc r) := fun r h =>
  (kept15 m ρ c r ((by decide : ∀ r ∈ outs.take 24, r ∈ outs.take 27) r h)).trans
    (W15_of m ρ c r ((by decide : ∀ r ∈ outs.take 24, ∀ w : Fin cfg8.W, Pipeline.arrRef spec8 w = r → (cfg8.win w).isOut = false) r h))

/-- Nor is what is written before call 7 changed later. -/
theorem kept11 : ∀ r ∈ outs.take 21, W18 m ρ c (Proc.devRef .tc r) = W11 m ρ c (Proc.devRef .tc r) := fun r h =>
  (kept14 m ρ c r ((by decide : ∀ r ∈ outs.take 21, r ∈ outs.take 24) r h)).trans
    ((W14_of m ρ c r ((by decide : ∀ r ∈ outs.take 21, r ∉ hostOps8_W) r h)).trans
    ((W13_of m ρ c r ((by decide : ∀ r ∈ outs.take 21, ∀ w : Fin cfg7.W, Pipeline.arrRef spec7 w = r → (cfg7.win w).isOut = false) r h)).trans
    (W12_of m ρ c r ((by decide : ∀ r ∈ outs.take 21, r ∉ hostOps7_W) r h))))

/-- Nor is what is written before call 6 changed later. -/
theorem kept10 : ∀ r ∈ outs.take 18, W18 m ρ c (Proc.devRef .tc r) = W10 m ρ c (Proc.devRef .tc r) := fun r h =>
  (kept11 m ρ c r ((by decide : ∀ r ∈ outs.take 18, r ∈ outs.take 21) r h)).trans
    (W11_of m ρ c r ((by decide : ∀ r ∈ outs.take 18, ∀ w : Fin cfg6.W, Pipeline.arrRef spec6 w = r → (cfg6.win w).isOut = false) r h))

/-- Nor is what is written before call 5 changed later. -/
theorem kept8 : ∀ r ∈ outs.take 15, W18 m ρ c (Proc.devRef .tc r) = W8 m ρ c (Proc.devRef .tc r) := fun r h =>
  (kept10 m ρ c r ((by decide : ∀ r ∈ outs.take 15, r ∈ outs.take 18) r h)).trans
    ((W10_of m ρ c r ((by decide : ∀ r ∈ outs.take 15, r ∉ hostOps6_W) r h)).trans
    (W9_of m ρ c r ((by decide : ∀ r ∈ outs.take 15, ∀ w : Fin cfg5.W, Pipeline.arrRef spec5 w = r → (cfg5.win w).isOut = false) r h)))

/-- Nor is what is written before call 4 changed later. -/
theorem kept6 : ∀ r ∈ outs.take 12, W18 m ρ c (Proc.devRef .tc r) = W6 m ρ c (Proc.devRef .tc r) := fun r h =>
  (kept8 m ρ c r ((by decide : ∀ r ∈ outs.take 12, r ∈ outs.take 15) r h)).trans
    ((W8_of m ρ c r ((by decide : ∀ r ∈ outs.take 12, r ∉ hostOps5_W) r h)).trans
    (W7_of m ρ c r ((by decide : ∀ r ∈ outs.take 12, ∀ w : Fin cfg4.W, Pipeline.arrRef spec4 w = r → (cfg4.win w).isOut = false) r h)))

/-- Nor is what is written before call 3 changed later. -/
theorem kept3 : ∀ r ∈ outs.take 9, W18 m ρ c (Proc.devRef .tc r) = W3 m ρ c (Proc.devRef .tc r) := fun r h =>
  (kept6 m ρ c r ((by decide : ∀ r ∈ outs.take 9, r ∈ outs.take 12) r h)).trans
    ((W6_of m ρ c r ((by decide : ∀ r ∈ outs.take 9, r ∉ hostOps4_W) r h)).trans
    ((W5_of m ρ c r ((by decide : ∀ r ∈ outs.take 9, ∀ w : Fin cfg3.W, Pipeline.arrRef spec3 w = r → (cfg3.win w).isOut = false) r h)).trans
    (W4_of m ρ c r ((by decide : ∀ r ∈ outs.take 9, r ∉ hostOps3_W) r h))))

/-- Nor is what is written before call 2 changed later. -/
theorem kept2 : ∀ r ∈ outs.take 6, W18 m ρ c (Proc.devRef .tc r) = W2 m ρ c (Proc.devRef .tc r) := fun r h =>
  (kept3 m ρ c r ((by decide : ∀ r ∈ outs.take 6, r ∈ outs.take 9) r h)).trans
    (W3_of m ρ c r ((by decide : ∀ r ∈ outs.take 6, ∀ w : Fin cfg2.W, Pipeline.arrRef spec2 w = r → (cfg2.win w).isOut = false) r h))

/-- Nor is what is written before call 1 changed later. -/
theorem kept1 : ∀ r ∈ outs.take 3, W18 m ρ c (Proc.devRef .tc r) = W1 m ρ c (Proc.devRef .tc r) := fun r h =>
  (kept2 m ρ c r ((by decide : ∀ r ∈ outs.take 3, r ∈ outs.take 6) r h)).trans
    (W2_of m ρ c r ((by decide : ∀ r ∈ outs.take 3, ∀ w : Fin cfg1.W, Pipeline.arrRef spec1 w = r → (cfg1.win w).isOut = false) r h))

/-- The modulation's bias. -/
theorem result0 : W18 m ρ c (Proc.devRef .tc main_v0_0) = step (arg m c main_arg0) (arg m c main_arg1) (arg m c main_arg2) (arg m c main_arg3)
    ∧ W18 m ρ c (Proc.devRef .tc main_v0_1) = mean (arg m c main_arg1) (arg m c main_arg2)
    ∧ W18 m ρ c (Proc.devRef .tc main_v0_2) = square (arg m c main_arg1) (arg m c main_arg3) := by
  obtain ⟨h4, h5, h6⟩ := region0 (V0 m ρ) c
  have e0 : W0 m ρ c (Proc.devRef .tc main_arg0) = arg m c main_arg0 := W0_args m ρ c main_arg0 (by decide)
  have e1 : W0 m ρ c (Proc.devRef .tc main_arg1) = arg m c main_arg1 := W0_args m ρ c main_arg1 (by decide)
  have e2 : W0 m ρ c (Proc.devRef .tc main_arg2) = arg m c main_arg2 := W0_args m ρ c main_arg2 (by decide)
  have e3 : W0 m ρ c (Proc.devRef .tc main_arg3) = arg m c main_arg3 := W0_args m ρ c main_arg3 (by decide)
  rw [show V0 m ρ c main_arg0 = _ from e0, show V0 m ρ c main_arg1 = _ from e1, show V0 m ρ c main_arg2 = _ from e2, show V0 m ρ c main_arg3 = _ from e3] at h4
  rw [show V0 m ρ c main_arg1 = _ from e1, show V0 m ρ c main_arg2 = _ from e2] at h5
  rw [show V0 m ρ c main_arg1 = _ from e1, show V0 m ρ c main_arg3 = _ from e3] at h6
  exact ⟨(kept1 m ρ c main_v0_0 (by decide)).trans ((W1_arr m ρ c 4).trans h4),
    (kept1 m ρ c main_v0_1 (by decide)).trans ((W1_arr m ρ c 5).trans h5),
    (kept1 m ρ c main_v0_2 (by decide)).trans ((W1_arr m ρ c 6).trans h6)⟩

/-- The gain of a norm. -/
theorem result1 : W18 m ρ c (Proc.devRef .tc main_v1_0) = step (arg m c main_arg4) (arg m c main_arg5) (arg m c main_arg6) (arg m c main_arg7)
    ∧ W18 m ρ c (Proc.devRef .tc main_v1_1) = mean (arg m c main_arg5) (arg m c main_arg6)
    ∧ W18 m ρ c (Proc.devRef .tc main_v1_2) = square (arg m c main_arg5) (arg m c main_arg7) := by
  obtain ⟨h4, h5, h6⟩ := region1 (V1 m ρ) c
  have e0 : W1 m ρ c (Proc.devRef .tc main_arg4) = arg m c main_arg4 := W1_args m ρ c main_arg4 (by decide)
  have e1 : W1 m ρ c (Proc.devRef .tc main_arg5) = arg m c main_arg5 := W1_args m ρ c main_arg5 (by decide)
  have e2 : W1 m ρ c (Proc.devRef .tc main_arg6) = arg m c main_arg6 := W1_args m ρ c main_arg6 (by decide)
  have e3 : W1 m ρ c (Proc.devRef .tc main_arg7) = arg m c main_arg7 := W1_args m ρ c main_arg7 (by decide)
  rw [show V1 m ρ c main_arg4 = _ from e0, show V1 m ρ c main_arg5 = _ from e1, show V1 m ρ c main_arg6 = _ from e2, show V1 m ρ c main_arg7 = _ from e3] at h4
  rw [show V1 m ρ c main_arg5 = _ from e1, show V1 m ρ c main_arg6 = _ from e2] at h5
  rw [show V1 m ρ c main_arg5 = _ from e1, show V1 m ρ c main_arg7 = _ from e3] at h6
  exact ⟨(kept2 m ρ c main_v1_0 (by decide)).trans ((W2_arr m ρ c 4).trans h4),
    (kept2 m ρ c main_v1_1 (by decide)).trans ((W2_arr m ρ c 5).trans h5),
    (kept2 m ρ c main_v1_2 (by decide)).trans ((W2_arr m ρ c 6).trans h6)⟩

/-- The logarithm of the time step. -/
theorem result2 : W18 m ρ c (Proc.devRef .tc main_v2_0) = step (arg m c main_arg8) (arg m c main_arg9) (arg m c main_arg10) (arg m c main_arg11)
    ∧ W18 m ρ c (Proc.devRef .tc main_v2_1) = mean (arg m c main_arg9) (arg m c main_arg10)
    ∧ W18 m ρ c (Proc.devRef .tc main_v2_2) = square (arg m c main_arg9) (arg m c main_arg11) := by
  obtain ⟨h4, h5, h6⟩ := region2 (V2 m ρ) c
  have e0 : W2 m ρ c (Proc.devRef .tc main_arg8) = arg m c main_arg8 := W2_args m ρ c main_arg8 (by decide)
  have e1 : W2 m ρ c (Proc.devRef .tc main_arg9) = arg m c main_arg9 := W2_args m ρ c main_arg9 (by decide)
  have e2 : W2 m ρ c (Proc.devRef .tc main_arg10) = arg m c main_arg10 := W2_args m ρ c main_arg10 (by decide)
  have e3 : W2 m ρ c (Proc.devRef .tc main_arg11) = arg m c main_arg11 := W2_args m ρ c main_arg11 (by decide)
  rw [show V2 m ρ c main_arg8 = _ from e0, show V2 m ρ c main_arg9 = _ from e1, show V2 m ρ c main_arg10 = _ from e2, show V2 m ρ c main_arg11 = _ from e3] at h4
  rw [show V2 m ρ c main_arg9 = _ from e1, show V2 m ρ c main_arg10 = _ from e2] at h5
  rw [show V2 m ρ c main_arg9 = _ from e1, show V2 m ρ c main_arg11 = _ from e3] at h6
  exact ⟨(kept3 m ρ c main_v2_0 (by decide)).trans ((W3_arr m ρ c 4).trans h4),
    (kept3 m ρ c main_v2_1 (by decide)).trans ((W3_arr m ρ c 5).trans h5),
    (kept3 m ρ c main_v2_2 (by decide)).trans ((W3_arr m ρ c 6).trans h6)⟩

/-- The state's decay and frequency. -/
theorem result3 : W18 m ρ c (Proc.devRef .tc main_v8) = step (arg m c main_arg12) (arg m c main_arg13) (arg m c main_arg14) (arg m c main_arg15)
    ∧ W18 m ρ c (Proc.devRef .tc main_v9) = mean (arg m c main_arg13) (arg m c main_arg14)
    ∧ W18 m ρ c (Proc.devRef .tc main_v10) = square (arg m c main_arg13) (arg m c main_arg15) := by
  obtain ⟨h4, h5, h6⟩ := region3 (V4 m ρ) c
  have e0 : W4 m ρ c (Proc.devRef .tc main_v3) = shapeCast S128x64 (W3 m ρ c (Proc.devRef .tc main_arg12)) shapeCasts_S4x32x64_S128x64 := by after_results; rfl
  have e1 : W4 m ρ c (Proc.devRef .tc main_v4) = shapeCast S128x64 (W3 m ρ c (Proc.devRef .tc main_arg13)) shapeCasts_S4x32x64_S128x64 := by after_results; rfl
  have e2 : W4 m ρ c (Proc.devRef .tc main_v5) = shapeCast S128x64 (W3 m ρ c (Proc.devRef .tc main_arg14)) shapeCasts_S4x32x64_S128x64 := by after_results; rfl
  have e3 : W4 m ρ c (Proc.devRef .tc main_v6) = shapeCast S128x64 (W3 m ρ c (Proc.devRef .tc main_arg15)) shapeCasts_S4x32x64_S128x64 := by after_results; rfl
  rw [W3_args m ρ c _ (by decide)] at e0 e1 e2 e3
  have r0 : W6 m ρ c (Proc.devRef .tc main_v8) = shapeCast S4x32x64 (W5 m ρ c (Proc.devRef .tc main_v7_0)) shapeCasts_S128x64_S4x32x64 := by after_results; rfl
  have r1 : W6 m ρ c (Proc.devRef .tc main_v9) = shapeCast S4x32x64 (W5 m ρ c (Proc.devRef .tc main_v7_1)) shapeCasts_S128x64_S4x32x64 := by after_results; rfl
  have r2 : W6 m ρ c (Proc.devRef .tc main_v10) = shapeCast S4x32x64 (W5 m ρ c (Proc.devRef .tc main_v7_2)) shapeCasts_S128x64_S4x32x64 := by after_results; rfl
  rw [show V4 m ρ c main_v3 = _ from e0, show V4 m ρ c main_v4 = _ from e1, show V4 m ρ c main_v5 = _ from e2, show V4 m ρ c main_v6 = _ from e3] at h4
  rw [show V4 m ρ c main_v4 = _ from e1, show V4 m ρ c main_v5 = _ from e2] at h5
  rw [show V4 m ρ c main_v4 = _ from e1, show V4 m ρ c main_v6 = _ from e3] at h6
  exact ⟨(kept6 m ρ c main_v8 (by decide)).trans (r0.trans ((congrArg (shapeCast S4x32x64 · _) ((W5_arr m ρ c 4).trans h4)).trans (step_reshape ..))),
    (kept6 m ρ c main_v9 (by decide)).trans (r1.trans ((congrArg (shapeCast S4x32x64 · _) ((W5_arr m ρ c 5).trans h5)).trans (mean_reshape ..))),
    (kept6 m ρ c main_v10 (by decide)).trans (r2.trans ((congrArg (shapeCast S4x32x64 · _) ((W5_arr m ρ c 6).trans h6)).trans (square_reshape ..)))⟩

/-- The state's input weights. -/
theorem result4 : W18 m ρ c (Proc.devRef .tc main_v16) = step (arg m c main_arg16) (arg m c main_arg17) (arg m c main_arg18) (arg m c main_arg19)
    ∧ W18 m ρ c (Proc.devRef .tc main_v17) = mean (arg m c main_arg17) (arg m c main_arg18)
    ∧ W18 m ρ c (Proc.devRef .tc main_v18) = square (arg m c main_arg17) (arg m c main_arg19) := by
  obtain ⟨h4, h5, h6⟩ := region4 (V6 m ρ) c
  have e0 : W6 m ρ c (Proc.devRef .tc main_v11) = shapeCast S8192x16 (W5 m ρ c (Proc.devRef .tc main_arg16)) shapeCasts_S4x32x64x16_S8192x16 := by after_results; rfl
  have e1 : W6 m ρ c (Proc.devRef .tc main_v12) = shapeCast S8192x16 (W5 m ρ c (Proc.devRef .tc main_arg17)) shapeCasts_S4x32x64x16_S8192x16 := by after_results; rfl
  have e2 : W6 m ρ c (Proc.devRef .tc main_v13) = shapeCast S8192x16 (W5 m ρ c (Proc.devRef .tc main_arg18)) shapeCasts_S4x32x64x16_S8192x16 := by after_results; rfl
  have e3 : W6 m ρ c (Proc.devRef .tc main_v14) = shapeCast S8192x16 (W5 m ρ c (Proc.devRef .tc main_arg19)) shapeCasts_S4x32x64x16_S8192x16 := by after_results; rfl
  rw [W5_args m ρ c _ (by decide)] at e0 e1 e2 e3
  have r0 : W8 m ρ c (Proc.devRef .tc main_v16) = shapeCast S4x32x64x16 (W7 m ρ c (Proc.devRef .tc main_v15_0)) shapeCasts_S8192x16_S4x32x64x16 := by after_results; rfl
  have r1 : W8 m ρ c (Proc.devRef .tc main_v17) = shapeCast S4x32x64x16 (W7 m ρ c (Proc.devRef .tc main_v15_1)) shapeCasts_S8192x16_S4x32x64x16 := by after_results; rfl
  have r2 : W8 m ρ c (Proc.devRef .tc main_v18) = shapeCast S4x32x64x16 (W7 m ρ c (Proc.devRef .tc main_v15_2)) shapeCasts_S8192x16_S4x32x64x16 := by after_results; rfl
  rw [show V6 m ρ c main_v11 = _ from e0, show V6 m ρ c main_v12 = _ from e1, show V6 m ρ c main_v13 = _ from e2, show V6 m ρ c main_v14 = _ from e3] at h4
  rw [show V6 m ρ c main_v12 = _ from e1, show V6 m ρ c main_v13 = _ from e2] at h5
  rw [show V6 m ρ c main_v12 = _ from e1, show V6 m ρ c main_v14 = _ from e3] at h6
  exact ⟨(kept8 m ρ c main_v16 (by decide)).trans (r0.trans ((congrArg (shapeCast S4x32x64x16 · _) ((W7_arr m ρ c 4).trans h4)).trans (step_reshape ..))),
    (kept8 m ρ c main_v17 (by decide)).trans (r1.trans ((congrArg (shapeCast S4x32x64x16 · _) ((W7_arr m ρ c 5).trans h5)).trans (mean_reshape ..))),
    (kept8 m ρ c main_v18 (by decide)).trans (r2.trans ((congrArg (shapeCast S4x32x64x16 · _) ((W7_arr m ρ c 6).trans h6)).trans (square_reshape ..)))⟩

/-- The state's output weights. -/
theorem result5 : W18 m ρ c (Proc.devRef .tc main_v24) = step (arg m c main_arg20) (arg m c main_arg21) (arg m c main_arg22) (arg m c main_arg23)
    ∧ W18 m ρ c (Proc.devRef .tc main_v25) = mean (arg m c main_arg21) (arg m c main_arg22)
    ∧ W18 m ρ c (Proc.devRef .tc main_v26) = square (arg m c main_arg21) (arg m c main_arg23) := by
  obtain ⟨h4, h5, h6⟩ := region5 (V8 m ρ) c
  have e0 : W8 m ρ c (Proc.devRef .tc main_v19) = shapeCast S2048x64 (W7 m ρ c (Proc.devRef .tc main_arg20)) shapeCasts_S4x32x16x64_S2048x64 := by after_results; rfl
  have e1 : W8 m ρ c (Proc.devRef .tc main_v20) = shapeCast S2048x64 (W7 m ρ c (Proc.devRef .tc main_arg21)) shapeCasts_S4x32x16x64_S2048x64 := by after_results; rfl
  have e2 : W8 m ρ c (Proc.devRef .tc main_v21) = shapeCast S2048x64 (W7 m ρ c (Proc.devRef .tc main_arg22)) shapeCasts_S4x32x16x64_S2048x64 := by after_results; rfl
  have e3 : W8 m ρ c (Proc.devRef .tc main_v22) = shapeCast S2048x64 (W7 m ρ c (Proc.devRef .tc main_arg23)) shapeCasts_S4x32x16x64_S2048x64 := by after_results; rfl
  rw [W7_args m ρ c _ (by decide)] at e0 e1 e2 e3
  have r0 : W10 m ρ c (Proc.devRef .tc main_v24) = shapeCast S4x32x16x64 (W9 m ρ c (Proc.devRef .tc main_v23_0)) shapeCasts_S2048x64_S4x32x16x64 := by after_results; rfl
  have r1 : W10 m ρ c (Proc.devRef .tc main_v25) = shapeCast S4x32x16x64 (W9 m ρ c (Proc.devRef .tc main_v23_1)) shapeCasts_S2048x64_S4x32x16x64 := by after_results; rfl
  have r2 : W10 m ρ c (Proc.devRef .tc main_v26) = shapeCast S4x32x16x64 (W9 m ρ c (Proc.devRef .tc main_v23_2)) shapeCasts_S2048x64_S4x32x16x64 := by after_results; rfl
  rw [show V8 m ρ c main_v19 = _ from e0, show V8 m ρ c main_v20 = _ from e1, show V8 m ρ c main_v21 = _ from e2, show V8 m ρ c main_v22 = _ from e3] at h4
  rw [show V8 m ρ c main_v20 = _ from e1, show V8 m ρ c main_v21 = _ from e2] at h5
  rw [show V8 m ρ c main_v20 = _ from e1, show V8 m ρ c main_v22 = _ from e3] at h6
  exact ⟨(kept10 m ρ c main_v24 (by decide)).trans (r0.trans ((congrArg (shapeCast S4x32x16x64 · _) ((W9_arr m ρ c 4).trans h4)).trans (step_reshape ..))),
    (kept10 m ρ c main_v25 (by decide)).trans (r1.trans ((congrArg (shapeCast S4x32x16x64 · _) ((W9_arr m ρ c 5).trans h5)).trans (mean_reshape ..))),
    (kept10 m ρ c main_v26 (by decide)).trans (r2.trans ((congrArg (shapeCast S4x32x16x64 · _) ((W9_arr m ρ c 6).trans h6)).trans (square_reshape ..)))⟩

/-- The skip weight and the gated unit's bias. -/
theorem result6 : W18 m ρ c (Proc.devRef .tc main_v27_0) = step (arg m c main_arg24) (arg m c main_arg25) (arg m c main_arg26) (arg m c main_arg27)
    ∧ W18 m ρ c (Proc.devRef .tc main_v27_1) = mean (arg m c main_arg25) (arg m c main_arg26)
    ∧ W18 m ρ c (Proc.devRef .tc main_v27_2) = square (arg m c main_arg25) (arg m c main_arg27) := by
  obtain ⟨h4, h5, h6⟩ := region6 (V10 m ρ) c
  have e0 : W10 m ρ c (Proc.devRef .tc main_arg24) = arg m c main_arg24 := W10_args m ρ c main_arg24 (by decide)
  have e1 : W10 m ρ c (Proc.devRef .tc main_arg25) = arg m c main_arg25 := W10_args m ρ c main_arg25 (by decide)
  have e2 : W10 m ρ c (Proc.devRef .tc main_arg26) = arg m c main_arg26 := W10_args m ρ c main_arg26 (by decide)
  have e3 : W10 m ρ c (Proc.devRef .tc main_arg27) = arg m c main_arg27 := W10_args m ρ c main_arg27 (by decide)
  rw [show V10 m ρ c main_arg24 = _ from e0, show V10 m ρ c main_arg25 = _ from e1, show V10 m ρ c main_arg26 = _ from e2, show V10 m ρ c main_arg27 = _ from e3] at h4
  rw [show V10 m ρ c main_arg25 = _ from e1, show V10 m ρ c main_arg26 = _ from e2] at h5
  rw [show V10 m ρ c main_arg25 = _ from e1, show V10 m ρ c main_arg27 = _ from e3] at h6
  exact ⟨(kept11 m ρ c main_v27_0 (by decide)).trans ((W11_arr m ρ c 4).trans h4),
    (kept11 m ρ c main_v27_1 (by decide)).trans ((W11_arr m ρ c 5).trans h5),
    (kept11 m ρ c main_v27_2 (by decide)).trans ((W11_arr m ρ c 6).trans h6)⟩

/-- The mixing convolution's weight. -/
theorem result7 : W18 m ρ c (Proc.devRef .tc main_v33) = step (arg m c main_arg28) (arg m c main_arg29) (arg m c main_arg30) (arg m c main_arg31)
    ∧ W18 m ρ c (Proc.devRef .tc main_v34) = mean (arg m c main_arg29) (arg m c main_arg30)
    ∧ W18 m ρ c (Proc.devRef .tc main_v35) = square (arg m c main_arg29) (arg m c main_arg31) := by
  obtain ⟨h4, h5, h6⟩ := region7 (V12 m ρ) c
  have e0 : W12 m ρ c (Proc.devRef .tc main_v28) = shapeCast S12x128 (W11 m ρ c (Proc.devRef .tc main_arg28)) shapeCasts_S4x3x128_S12x128 := by after_results; rfl
  have e1 : W12 m ρ c (Proc.devRef .tc main_v29) = shapeCast S12x128 (W11 m ρ c (Proc.devRef .tc main_arg29)) shapeCasts_S4x3x128_S12x128 := by after_results; rfl
  have e2 : W12 m ρ c (Proc.devRef .tc main_v30) = shapeCast S12x128 (W11 m ρ c (Proc.devRef .tc main_arg30)) shapeCasts_S4x3x128_S12x128 := by after_results; rfl
  have e3 : W12 m ρ c (Proc.devRef .tc main_v31) = shapeCast S12x128 (W11 m ρ c (Proc.devRef .tc main_arg31)) shapeCasts_S4x3x128_S12x128 := by after_results; rfl
  rw [W11_args m ρ c _ (by decide)] at e0 e1 e2 e3
  have r0 : W14 m ρ c (Proc.devRef .tc main_v33) = shapeCast S4x3x128 (W13 m ρ c (Proc.devRef .tc main_v32_0)) shapeCasts_S12x128_S4x3x128 := by after_results; rfl
  have r1 : W14 m ρ c (Proc.devRef .tc main_v34) = shapeCast S4x3x128 (W13 m ρ c (Proc.devRef .tc main_v32_1)) shapeCasts_S12x128_S4x3x128 := by after_results; rfl
  have r2 : W14 m ρ c (Proc.devRef .tc main_v35) = shapeCast S4x3x128 (W13 m ρ c (Proc.devRef .tc main_v32_2)) shapeCasts_S12x128_S4x3x128 := by after_results; rfl
  rw [show V12 m ρ c main_v28 = _ from e0, show V12 m ρ c main_v29 = _ from e1, show V12 m ρ c main_v30 = _ from e2, show V12 m ρ c main_v31 = _ from e3] at h4
  rw [show V12 m ρ c main_v29 = _ from e1, show V12 m ρ c main_v30 = _ from e2] at h5
  rw [show V12 m ρ c main_v29 = _ from e1, show V12 m ρ c main_v31 = _ from e3] at h6
  exact ⟨(kept14 m ρ c main_v33 (by decide)).trans (r0.trans ((congrArg (shapeCast S4x3x128 · _) ((W13_arr m ρ c 4).trans h4)).trans (step_reshape ..))),
    (kept14 m ρ c main_v34 (by decide)).trans (r1.trans ((congrArg (shapeCast S4x3x128 · _) ((W13_arr m ρ c 5).trans h5)).trans (mean_reshape ..))),
    (kept14 m ρ c main_v35 (by decide)).trans (r2.trans ((congrArg (shapeCast S4x3x128 · _) ((W13_arr m ρ c 6).trans h6)).trans (square_reshape ..)))⟩

/-- The gates' bias. -/
theorem result8 : W18 m ρ c (Proc.devRef .tc main_v36_0) = step (arg m c main_arg32) (arg m c main_arg33) (arg m c main_arg34) (arg m c main_arg35)
    ∧ W18 m ρ c (Proc.devRef .tc main_v36_1) = mean (arg m c main_arg33) (arg m c main_arg34)
    ∧ W18 m ρ c (Proc.devRef .tc main_v36_2) = square (arg m c main_arg33) (arg m c main_arg35) := by
  obtain ⟨h4, h5, h6⟩ := region8 (V14 m ρ) c
  have e0 : W14 m ρ c (Proc.devRef .tc main_arg32) = arg m c main_arg32 := W14_args m ρ c main_arg32 (by decide)
  have e1 : W14 m ρ c (Proc.devRef .tc main_arg33) = arg m c main_arg33 := W14_args m ρ c main_arg33 (by decide)
  have e2 : W14 m ρ c (Proc.devRef .tc main_arg34) = arg m c main_arg34 := W14_args m ρ c main_arg34 (by decide)
  have e3 : W14 m ρ c (Proc.devRef .tc main_arg35) = arg m c main_arg35 := W14_args m ρ c main_arg35 (by decide)
  rw [show V14 m ρ c main_arg32 = _ from e0, show V14 m ρ c main_arg33 = _ from e1, show V14 m ρ c main_arg34 = _ from e2, show V14 m ρ c main_arg35 = _ from e3] at h4
  rw [show V14 m ρ c main_arg33 = _ from e1, show V14 m ρ c main_arg34 = _ from e2] at h5
  rw [show V14 m ρ c main_arg33 = _ from e1, show V14 m ρ c main_arg35 = _ from e3] at h6
  exact ⟨(kept15 m ρ c main_v36_0 (by decide)).trans ((W15_arr m ρ c 4).trans h4),
    (kept15 m ρ c main_v36_1 (by decide)).trans ((W15_arr m ρ c 5).trans h5),
    (kept15 m ρ c main_v36_2 (by decide)).trans ((W15_arr m ρ c 6).trans h6)⟩

/-- The feed-forward convolution's weight. -/
theorem result9 : W18 m ρ c (Proc.devRef .tc main_v42) = step (arg m c main_arg36) (arg m c main_arg37) (arg m c main_arg38) (arg m c main_arg39)
    ∧ W18 m ρ c (Proc.devRef .tc main_v43) = mean (arg m c main_arg37) (arg m c main_arg38)
    ∧ W18 m ρ c (Proc.devRef .tc main_v44) = square (arg m c main_arg37) (arg m c main_arg39) := by
  obtain ⟨h4, h5, h6⟩ := region9 (V16 m ρ) c
  have e0 : W16 m ρ c (Proc.devRef .tc main_v37) = shapeCast S12x2816 (W15 m ρ c (Proc.devRef .tc main_arg36)) shapeCasts_S4x3x2816_S12x2816 := by after_results; rfl
  have e1 : W16 m ρ c (Proc.devRef .tc main_v38) = shapeCast S12x2816 (W15 m ρ c (Proc.devRef .tc main_arg37)) shapeCasts_S4x3x2816_S12x2816 := by after_results; rfl
  have e2 : W16 m ρ c (Proc.devRef .tc main_v39) = shapeCast S12x2816 (W15 m ρ c (Proc.devRef .tc main_arg38)) shapeCasts_S4x3x2816_S12x2816 := by after_results; rfl
  have e3 : W16 m ρ c (Proc.devRef .tc main_v40) = shapeCast S12x2816 (W15 m ρ c (Proc.devRef .tc main_arg39)) shapeCasts_S4x3x2816_S12x2816 := by after_results; rfl
  rw [W15_args m ρ c _ (by decide)] at e0 e1 e2 e3
  have r0 : W18 m ρ c (Proc.devRef .tc main_v42) = shapeCast S4x3x2816 (W17 m ρ c (Proc.devRef .tc main_v41_0)) shapeCasts_S12x2816_S4x3x2816 := by after_results; rfl
  have r1 : W18 m ρ c (Proc.devRef .tc main_v43) = shapeCast S4x3x2816 (W17 m ρ c (Proc.devRef .tc main_v41_1)) shapeCasts_S12x2816_S4x3x2816 := by after_results; rfl
  have r2 : W18 m ρ c (Proc.devRef .tc main_v44) = shapeCast S4x3x2816 (W17 m ρ c (Proc.devRef .tc main_v41_2)) shapeCasts_S12x2816_S4x3x2816 := by after_results; rfl
  rw [show V16 m ρ c main_v37 = _ from e0, show V16 m ρ c main_v38 = _ from e1, show V16 m ρ c main_v39 = _ from e2, show V16 m ρ c main_v40 = _ from e3] at h4
  rw [show V16 m ρ c main_v38 = _ from e1, show V16 m ρ c main_v39 = _ from e2] at h5
  rw [show V16 m ρ c main_v38 = _ from e1, show V16 m ρ c main_v40 = _ from e3] at h6
  exact ⟨(r0.trans ((congrArg (shapeCast S4x3x2816 · _) ((W17_arr m ρ c 4).trans h4)).trans (step_reshape ..))),
    (r1.trans ((congrArg (shapeCast S4x3x2816 · _) ((W17_arr m ρ c 5).trans h5)).trans (mean_reshape ..))),
    (r2.trans ((congrArg (shapeCast S4x3x2816 · _) ((W17_arr m ρ c 6).trans h6)).trans (square_reshape ..)))⟩

end Cert.AdamSmall

end
-- ==== Proof.ModArray.lean ====
/- The gradient of the modulation's weight with its update: the four arrays after the region, from the padded
   columns and rows it is given. -/
module

public import proofs.«01_k».proof.Proof.Gen.Kernel15Ideal.Value
public import proofs.«01_k».proof.Proof.Gen.Reference15Ideal.Read
public import proofs.«01_k».proof.Proof.Adam

@[expose] public section

set_option maxRecDepth 16384

noncomputable section

open Idealize.ShloMosaic Idealize.ShloMosaic.TcCoe Idealize.SL.Sem

namespace Cert.ModGrad

open Cert.Kernel15Ideal Cert.Kernel15Ideal.Gen Cert.Adam

/-- The gradient of each layer's weight: activated columns times the layer's rows. -/
def overExamples (C : FVec Ideal S2048x128 .f32) (D : FVec Ideal S4x128x3072 .f32) : FVec Ideal S4x2048x3072 .f32 :=
  fun i => ∑ k : Fin 128, (C (ix2 (i 1) k) * Ideal.logistic (C (ix2 (i 1) k))) * D (ix3 (i 0) k (i 2))

/-- Where the blocks lie. -/
theorem idx : ∀ t : Fin cfg0.N, win0_0.index t = ![t.val % 24 / 3, 0] ∧ win0_1.index t = ![t.val / 24, 0, t.val % 3]
    ∧ (win0_2.index t = ![t.val / 24, t.val % 24 / 3, t.val % 3] ∧ win0_3.index t = ![t.val / 24, t.val % 24 / 3, t.val % 3]
      ∧ win0_4.index t = ![t.val / 24, t.val % 24 / 3, t.val % 3])
    ∧ win0_5.index t = ![t.val / 24, t.val % 24 / 3, t.val % 3] ∧ win0_6.index t = ![t.val / 24, t.val % 24 / 3, t.val % 3]
    ∧ win0_7.index t = ![t.val / 24, t.val % 24 / 3, t.val % 3] ∧ win0_8.index t = ![t.val / 24, t.val % 24 / 3, t.val % 3] :=
  (by decide +kernel : ∀ t : Fin grid0.N, _)

/-- A block of the gradient. -/
theorem grad_at (C : Vec Ideal S256x128 .f32) (D : Vec Ideal S1x128x1024 .f32) (r : Fin 256) (j : Fin 1024) :
    k0_pay5 C D (ix2 r j) = (∑ k : Fin 128, (C (ix2 r k) * Ideal.logistic (C (ix2 r k))) * D (ix3 0 k j) : EReal) := by
  pointwise [k0_pay5]

variable (m : (ℓ : Loc nD τ sig) → Buf (Elt Ideal) ℓ) (c : Dev nD)

/-- The gradient's array after the region. -/
theorem final5 : (dats m 0 c).arrAt 5 (cfgs 0).N = overExamples (V m c main_v1) (V m c main_v2) := by
  refine (dats m 0 c).arrAt_eq_of_covers 5 _ (by decide +kernel) fun t hf y => ?_
  blk_simp
  rw [after0_5]
  unfold out0_5
  frame_out
  have ht := lt_of_lt_of_eq t.isLt N_0
  idx_vars y
  pointwise [k0_pay1, overExamples]
  rw [grad_at]
  blk_point [iblk, idx t]

/-- The steps' array after the region. -/
theorem final6 : (dats m 0 c).arrAt 6 (cfgs 0).N
    = step (V m c main_arg2) (overExamples (V m c main_v1) (V m c main_v2)) (V m c main_arg3) (V m c main_arg4) := by
  refine (dats m 0 c).arrAt_eq_of_covers 6 _ (by decide +kernel) fun t hf y => ?_
  blk_simp
  rw [after0_6]
  unfold out0_6
  frame_out
  have ht := lt_of_lt_of_eq t.isLt N_0
  idx_vars y
  pointwise [k0_pay2, k0_pay6, k0_pay7, k0_pay8, k0_pay9, step, step1, mean1, square1, overExamples]
  rw [grad_at]
  blk_point [iblk, idx t]

/-- The means' array after the region. -/
theorem final7 : (dats m 0 c).arrAt 7 (cfgs 0).N
    = mean (overExamples (V m c main_v1) (V m c main_v2)) (V m c main_arg3) := by
  refine (dats m 0 c).arrAt_eq_of_covers 7 _ (by decide +kernel) fun t hf y => ?_
  blk_simp
  rw [after0_7]
  unfold out0_7
  frame_out
  have ht := lt_of_lt_of_eq t.isLt N_0
  idx_vars y
  pointwise [k0_pay3, k0_pay7, mean, mean1, overExamples]
  rw [grad_at]
  blk_point [iblk, idx t]

/-- The squares' array after the region. -/
theorem final8 : (dats m 0 c).arrAt 8 (cfgs 0).N
    = square (overExamples (V m c main_v1) (V m c main_v2)) (V m c main_arg4) := by
  refine (dats m 0 c).arrAt_eq_of_covers 8 _ (by decide +kernel) fun t hf y => ?_
  blk_simp
  rw [after0_8]
  unfold out0_8
  frame_out
  have ht := lt_of_lt_of_eq t.isLt N_0
  idx_vars y
  pointwise [k0_pay4, k0_pay8, square, square1, overExamples]
  rw [grad_at]
  blk_point [iblk, idx t]

end Cert.ModGrad

end
-- ==== Proof.ModGrad.lean ====
/- The gradient of the modulation's weight with its update: the product over the examples, padded with zeros, is
   the product over the examples, and the update is the optimiser's of that product. -/
module

public import proofs.«01_k».proof.Proof.Gen.Reference15Ideal.Read
public import proofs.«01_k».proof.Proof.ModArray

@[expose] public section

set_option maxRecDepth 16384

noncomputable section

open Idealize.ShloMosaic Idealize.ShloMosaic.TcCoe Idealize.SL.Sem

namespace Cert.ModGrad

open Cert.Kernel15Ideal Cert.Kernel15Ideal.Gen Cert.Adam

variable (m : (ℓ : Loc nD τ sig) → Buf (Elt Ideal) ℓ) (c : Dev nD)

/-- The padding's zero is the real zero. -/
theorem zero_at (i : S_.Idx) : sitofp (F := Ideal) .f32 (constantI S_ 32 0#32) i = (0 : EReal) := by
  show ((((0#32 : BitVec 32).toInt : ℝ) : EReal)) = 0
  norm_num

/-- An array of columns, padded. -/
theorem columns_at (x : FVec Ideal S8x2048 .f32) (z : FVec Ideal S_ .f32) (hz : ∀ i, z i = (0 : EReal)) (r : Fin 2048) (k : Fin 128) :
    pad S2048x128 ![0, 0] ![0, 120] ![0, 0] (transpose S2048x8 [1, 0] x transposes_S8x2048_S2048x8_1_0) z
      pads_S2048x8_S2048x128_000_01200 h_S_ (ix2 r k) = if h : k.val < 8 then x (ix2 ⟨k.val, h⟩ r) else (0 : EReal) := by
  pointwise []
  by_cases h : k.val < 8
  · rw [dif_pos h, dif_pos h]
  · rw [dif_neg h, dif_neg h, hz]

/-- An array of rows, padded. -/
theorem rows_at (x : FVec Ideal S4x8x3072 .f32) (z : FVec Ideal S_ .f32) (hz : ∀ i, z i = (0 : EReal)) (l : Fin 4) (k : Fin 128) (j : Fin 3072) :
    pad S4x128x3072 ![0, 0, 0] ![0, 120, 0] ![0, 0, 0] x z
      pads_S4x8x3072_S4x128x3072_000_01200_000 h_S_ (ix3 l k j) = if h : k.val < 8 then x (ix3 l ⟨k.val, h⟩ j) else (0 : EReal) := by
  pointwise []
  by_cases h : k.val < 8
  · rw [dif_pos h, dif_pos h]
  · rw [dif_neg h, dif_neg h, hz]

/-- The sum over the padded examples is the sum over the examples. -/
theorem sum_padded (f : Fin 128 → EReal) (g : Fin 8 → EReal) (h : ∀ k : Fin 128, f k = if h : k.val < 8 then g ⟨k.val, h⟩ else 0) :
    ∑ k, f k = ∑ k, g k := by
  refine (Fin.sum_univ_add (a := 8) (b := 120) f).trans ?_
  rw [Finset.sum_eq_zero (s := (Finset.univ : Finset (Fin 120))) (fun k _ => (h _).trans (dif_neg (by simp))), add_zero]
  exact Finset.sum_congr rfl fun k _ => (h _).trans (dif_pos k.isLt)

/-- The product over the padded examples. -/
theorem over_at (l : Fin 4) (r : Fin 2048) (j : Fin 3072) : overExamples (V m c main_v1) (V m c main_v2) (ix3 l r j)
      = ∑ k : Fin 8, ((show EReal from m ((c : Thread nD τ).loc main_arg0) (ix2 k r)) * Ideal.logistic (m ((c : Thread nD τ).loc main_arg0) (ix2 k r)))
        * (show EReal from m ((c : Thread nD τ).loc main_arg1) (ix3 l k j)) := by
  have h1 : V m c main_v1 = pad S2048x128 ![0, 0] ![0, 120] ![0, 0]
      (transpose S2048x8 [1, 0] (m ((c : Thread nD τ).loc main_arg0) : FVec Ideal S8x2048 .f32) transposes_S8x2048_S2048x8_1_0)
      (sitofp (F := Ideal) .f32 (constantI S_ 32 0#32)) pads_S2048x8_S2048x128_000_01200 h_S_ := by
    unfold V
    simp only [List.flatten_cons, List.flatten_nil, List.append_nil, List.cons_append, List.nil_append]
    after_results
    rfl
  have h2 : V m c main_v2 = pad S4x128x3072 ![0, 0, 0] ![0, 120, 0] ![0, 0, 0]
      (m ((c : Thread nD τ).loc main_arg1) : FVec Ideal S4x8x3072 .f32)
      (sitofp (F := Ideal) .f32 (constantI S_ 32 0#32)) pads_S4x8x3072_S4x128x3072_000_01200_000 h_S_ := by
    unfold V
    simp only [List.flatten_cons, List.flatten_nil, List.append_nil, List.cons_append, List.nil_append]
    after_results
    rfl
  rw [h1, h2]
  refine sum_padded _ _ fun k => ?_
  dsimp only [ix3_0, ix3_1, ix3_2]
  rw [columns_at _ _ zero_at, rows_at _ _ zero_at]
  by_cases h : k.val < 8
  · rw [dif_pos h, dif_pos h, dif_pos h]
  · rw [dif_neg h, dif_neg h, dif_neg h, zero_mul, zero_mul]

open Cert.Reference15Ideal.Read

/-- The reference's logistic function is the operation of that name. -/
theorem logistic_at (x : FVec Ideal S8x2048 .f32) (k : Fin 8) (r : Fin 2048) :
    val_main_call0_v5 (F := Ideal) x (ix2 k r) = Ideal.logistic (x (ix2 k r)) := by
  pointwise [val_main_call0_v5, val_main_call0_v4, val_main_call0_cst_0, val_main_call0_v3, val_main_call0_v2, val_main_call0_cst,
    val_main_call0_v1, val_main_call0_v0]
  rfl

/-- The product over the padded examples is the reference's gradient. -/
theorem over_eq : overExamples (V m c main_v1) (V m c main_v2)
    = val_main_v44 (F := Ideal) (m ((c : Thread nD τ).loc main_arg0)) (m ((c : Thread nD τ).loc main_arg1)) := by
  funext i
  idx_vars i
  rw [over_at]
  fin_cases i0 <;>
  · pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v0, val_main_cst, val_main_cst_0, val_main_cst_1, val_main_cst_2]
    exact Finset.sum_congr rfl fun k _ => (congrArg (fun z : EReal => (show EReal from m ((c : Thread nD τ).loc main_arg0) (ix2 k i1)) * z
      * (show EReal from m ((c : Thread nD τ).loc main_arg1) _)) (logistic_at _ k i1).symm).trans (mul_comm (G := EReal) _ _)

/-- The gradient. -/
theorem result0 : (dats m 0 c).arrAt 5 (cfgs 0).N
    = val_main_v44 (F := Ideal) (m ((c : Thread nD τ).loc main_arg0)) (m ((c : Thread nD τ).loc main_arg1)) :=
  (final5 m c).trans (over_eq m c)

/-- The steps. -/
theorem result1 : (dats m 0 c).arrAt 6 (cfgs 0).N
    = val_main_v68 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) := by
  rw [final6, over_eq, V_main_arg2, V_main_arg3, V_main_arg4]
  rfl

/-- The running means. -/
theorem result2 : (dats m 0 c).arrAt 7 (cfgs 0).N
    = val_main_v49 (F := Ideal) (m ((c : Thread nD τ).loc main_arg0)) (m ((c : Thread nD τ).loc main_arg1)) (m ((c : Thread nD τ).loc main_arg3)) := by
  rw [final7, over_eq, V_main_arg3]
  rfl

/-- The running means of the squares. -/
theorem result3 : (dats m 0 c).arrAt 8 (cfgs 0).N
    = val_main_v55 (F := Ideal) (m ((c : Thread nD τ).loc main_arg0)) (m ((c : Thread nD τ).loc main_arg1)) (m ((c : Thread nD τ).loc main_arg4)) := by
  rw [final8, over_eq, V_main_arg4]
  rfl

end Cert.ModGrad

end
-- ==== Proof.Products.lean ====
/- The four products of the step, each as one function of the arrays its region finds: the two that multiply by a
   weight laid out in column blocks, and the two that contract the rows. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Products

open Cert.KernelIdeal Cert.KernelIdeal.Gen

/-- An array times a weight that lies in four blocks of columns. -/
def timesBlocked (H : FVec Ideal S2048x2048 .bf16) (U : FVec Ideal S1x4x2048x2816 .bf16) : FVec Ideal S2048x11264 .f32 :=
  fun i => ∑ k : Fin 2048, H (ix2 (i 0) k) * U (ix4 0 ⟨(i 1).val / 2816, by have : (i 1).val < 11264 := (i 1).isLt; omega⟩ k ⟨(i 1).val % 2816, Nat.mod_lt _ (by omega)⟩)

/-- An array times the transpose of a weight. -/
def timesTransposed (G : FVec Ideal S2048x2048 .bf16) (D : FVec Ideal S1x1x5632x2048 .bf16) : FVec Ideal S2048x5632 .bf16 :=
  fun i => ∑ k : Fin 2048, G (ix2 (i 0) k) * D (ix4 0 0 (i 1) k)

/-- The product of two arrays over their rows. -/
def overRows (A : FVec Ideal S2048x5632 .bf16) (G : FVec Ideal S2048x2048 .bf16) : FVec Ideal S1x1x5632x2048 .f32 :=
  fun i => ∑ r : Fin 2048, A (ix2 r (i 2)) * G (ix2 r (i 3))

/-- The product of two arrays over their rows, its columns in four blocks. -/
def overRowsBlocked (H : FVec Ideal S2048x2048 .bf16) (G : FVec Ideal S2048x11264 .bf16) : FVec Ideal S1x4x2048x2816 .f32 :=
  fun i => ∑ r : Fin 2048, H (ix2 r (i 2)) * G (ix2 r ⟨(i 1).val * 2816 + (i 3).val, by have : (i 1).val < 4 := (i 1).isLt; have : (i 3).val < 2816 := (i 3).isLt; omega⟩)

variable (V : (c : Dev nD) → (b : Ref sig .tc) → Buf (Elt Ideal) ((c : Thread nD τ).loc b)) (c : Dev nD)

/-- Where the blocks of the first product lie. -/
theorem idx0 : ∀ t : Fin cfg0.N, win0_0.index t = ![t.val / 8, 0] ∧ win0_1.index t = ![0, t.val % 8 / 2, 0, t.val % 2]
    ∧ win0_2.index t = ![t.val / 8, t.val % 8] :=
  (by decide +kernel : ∀ t : Fin grid0.N, _)

/-- The first product, after its region. -/
theorem product0 : (dat0 V c).arrAt 2 cfg0.N = timesBlocked (V c main_arg0) (V c main_v3) := by
  refine (dat0 V c).arrAt_eq_of_covers 2 _ (by decide +kernel) fun t _ y => ?_
  blk_simp
  rw [after0_2]
  unfold out0_2
  frame_out
  have ht := lt_of_lt_of_eq t.isLt N_0
  idx_vars y
  pointwise [k0_pay1, timesBlocked]
  blk_point [iblk0, idx0 t]

/-- Where the blocks of the product by the transpose lie. -/
theorem idx2 : ∀ t : Fin cfg2.N, win2_0.index t = ![t.val / 4, 0] ∧ win2_1.index t = ![0, 0, t.val % 4, 0]
    ∧ win2_2.index t = ![t.val / 4, t.val % 4] :=
  (by decide +kernel : ∀ t : Fin grid2.N, _)

/-- The product by the transpose, after its region. -/
theorem product2 : (dat2 V c).arrAt 2 cfg2.N = timesTransposed (V c main_arg4) (V c main_v5) := by
  refine (dat2 V c).arrAt_eq_of_covers 2 _ (by decide +kernel) fun t _ y => ?_
  blk_simp
  rw [after2_2]
  unfold out2_2
  frame_out
  have ht := lt_of_lt_of_eq t.isLt N_2
  idx_vars y
  pointwise [k2_pay1, timesTransposed]
  blk_point [iblk2, idx2 t]

/-- Where the blocks of the second weight's gradient lie. -/
theorem idx3 : ∀ t : Fin cfg3.N, win3_0.index t = ![0, t.val / 4] ∧ win3_1.index t = ![0, t.val % 4]
    ∧ win3_2.index t = ![0, 0, t.val / 4, t.val % 4] :=
  (by decide +kernel : ∀ t : Fin grid3.N, _)

/-- The second weight's gradient, after its region. -/
theorem product3 : (dat3 V c).arrAt 2 cfg3.N = overRows (V c main_v7) (V c main_arg4) := by
  refine (dat3 V c).arrAt_eq_of_covers 2 _ (by decide +kernel) fun t _ y => ?_
  blk_simp
  rw [after3_2]
  unfold outsAt3
  frame_out
  have ht := lt_of_lt_of_eq t.isLt N_3
  idx_vars y
  pointwise [k3_pay1, overRows]
  blk_point [iblk3, idx3 t]

/-- Where the blocks of the first weight's gradient lie. -/
theorem idx5 : ∀ t : Fin cfg5.N, win5_0.index t = ![0, t.val / 8] ∧ win5_1.index t = ![0, t.val % 8]
    ∧ win5_2.index t = ![0, t.val % 8 / 2, t.val / 8, t.val % 2] :=
  (by decide +kernel : ∀ t : Fin grid5.N, _)

/-- The first weight's gradient, after its region. -/
theorem product5 : (dat5 V c).arrAt 2 cfg5.N = overRowsBlocked (V c main_arg0) (V c main_v12) := by
  refine (dat5 V c).arrAt_eq_of_covers 2 _ (by decide +kernel) fun t _ y => ?_
  blk_simp
  rw [after5_2]
  unfold outsAt5
  frame_out
  have ht := lt_of_lt_of_eq t.isLt N_5
  idx_vars y
  pointwise [k5_pay1, overRowsBlocked]
  blk_point [iblk5, idx5 t]

end Cert.Products

end
-- ==== Proof.Taps.lean ====
/- The three-tap causal convolution along 2048 rows, its two adjoints, and the facts by which a masked
   rotation of a column is a shift of it. Everything is over one column of extended reals: a convolution
   along the rows treats each column by itself. -/
module

public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Taps

/-- One column: a value per row. -/
abbrev Col := Fin 2048 → EReal

/-- The column moved `k` rows down, zeros entering at the top. -/
def back (k : ℕ) (f : Col) : Col := fun r => if k ≤ r.val then f ⟨r.val - k, by omega⟩ else 0

/-- The column moved `k` rows up, zeros entering at the bottom. -/
def fwd (k : ℕ) (f : Col) : Col := fun r => if r.val + k < 2048 then f ⟨(r.val + k) % 2048, by omega⟩ else 0

/-- A column times a constant, moved down. -/
theorem mul_back (a : EReal) (k : ℕ) (f : Col) (r : Fin 2048) : a * back k f r = back k (fun s => a * f s) r := by
  unfold back
  rw [mul_ite, mul_zero]

/-- The column moved up, the row's number not reduced. -/
theorem fwd_dite (k : ℕ) (f : Col) (r : Fin 2048) : fwd k f r = if h : r.val + k < 2048 then f ⟨r.val + k, h⟩ else 0 := by
  unfold fwd
  by_cases h : r.val + k < 2048
  · rw [if_pos h, dif_pos h]
    exact congrArg f (Fin.ext (Nat.mod_eq_of_lt h))
  · rw [if_neg h, dif_neg h]

/-- The causal convolution: row `r` is `w 0 · f r + w 1 · f (r-1) + w 2 · f (r-2)`. -/
def conv (w : Fin 3 → EReal) (f : Col) : Col := fun r =>
  w 0 * f r + back 1 (fun s => w 1 * f s) r + back 2 (fun s => w 2 * f s) r

/-- Its adjoint in the column: row `r` is `w 0 · g r + w 1 · g (r+1) + w 2 · g (r+2)`. -/
def convT (w : Fin 3 → EReal) (g : Col) : Col := fun r =>
  w 0 * g r + fwd 1 (fun s => w 1 * g s) r + fwd 2 (fun s => w 2 * g s) r

/-- Its adjoint in tap `k`: the sum over the rows of `g r · f (r-k)`. -/
def corr (k : ℕ) (g f : Col) : EReal :=
  ∑ r : Fin 2048, if k ≤ r.val then g r * f ⟨r.val - k, by omega⟩ else 0

/-- A tap's gradient with the column moved first. -/
theorem corr_eq_back (k : ℕ) (g f : Col) : corr k g f = ∑ r, g r * back k f r :=
  Finset.sum_congr rfl fun r _ => by unfold back; rw [mul_ite, mul_zero]

/-- A mask `k ≤ row` taken on words. -/
theorem select_sge (k : ℕ) (hk : k < 2048) (r : Fin 2048) (a : EReal) :
    Scalar.select (IntOp.cmpi CmpIPredicate.sge (BitVec.ofNat 32 r.val) (BitVec.ofNat 32 k)) a 0
      = if k ≤ r.val then a else 0 := by
  have hr := r.isLt
  simp (disch := omega) only [hlo_ix]

/-- A mask `row < k` taken on words. -/
theorem select_slt (k : ℕ) (hk : k < 2048) (r : Fin 2048) (a : EReal) :
    Scalar.select (IntOp.cmpi CmpIPredicate.slt (BitVec.ofNat 32 r.val) (BitVec.ofNat 32 k)) a 0
      = if r.val < k then a else 0 := by
  have hr := r.isLt
  simp (disch := omega) only [hlo_ix]

/-- Below a mask that keeps the rows from `k` on, a rotation by `k` is the shift by `k`. -/
theorem rot_back (k : ℕ) (hk : k < 2048) (f : Col) (r : Fin 2048) (h : (r.val + 2048 - k) % 2048 < 2048) :
    Scalar.select (IntOp.cmpi CmpIPredicate.sge (BitVec.ofNat 32 r.val) (BitVec.ofNat 32 k))
      (f ⟨(r.val + 2048 - k) % 2048, h⟩) 0 = back k f r := by
  rw [select_sge k hk, back]
  by_cases hr : k ≤ r.val
  · rw [if_pos hr, if_pos hr]
    exact congrArg f (Fin.ext (by show (r.val + 2048 - k) % 2048 = r.val - k; omega))
  · rw [if_neg hr, if_neg hr]

/-- The same below a product with the row's own factor: one summand of a tap's gradient. -/
theorem sge_prod (k : ℕ) (hk : k < 2048) (g f : Col) (r : Fin 2048) (h : (r.val + 2048 - k) % 2048 < 2048) :
    Scalar.select (IntOp.cmpi CmpIPredicate.sge (BitVec.ofNat 32 r.val) (BitVec.ofNat 32 k))
      (g r * f ⟨(r.val + 2048 - k) % 2048, h⟩) 0 = if k ≤ r.val then g r * f ⟨r.val - k, by omega⟩ else 0 := by
  rw [select_sge k hk]
  by_cases hr : k ≤ r.val
  · rw [if_pos hr, if_pos hr]
    exact congrArg (fun q => g r * f q) (Fin.ext (by show (r.val + 2048 - k) % 2048 = r.val - k; omega))
  · rw [if_neg hr, if_neg hr]

/-- Below a mask that keeps the rows before `2048 - k`, a rotation by `2048 - k` is the shift up by `k`. -/
theorem rot_fwd (k n : ℕ) (hk : 0 < k) (hn : n + k = 2048) (f : Col) (r : Fin 2048) (h : (r.val + 2048 - n) % 2048 < 2048) :
    Scalar.select (IntOp.cmpi CmpIPredicate.slt (BitVec.ofNat 32 r.val) (BitVec.ofNat 32 n))
      (f ⟨(r.val + 2048 - n) % 2048, h⟩) 0 = fwd k f r := by
  rw [select_slt n (by omega), fwd]
  by_cases hr : r.val < n
  · rw [if_pos hr, if_pos (by omega)]
    exact congrArg f (Fin.ext (by show (r.val + 2048 - n) % 2048 = (r.val + k) % 2048; omega))
  · rw [if_neg hr, if_neg (by omega)]

/-! ## The gated activation `silu a · b` of two convolved columns -/

/-- The activation of two columns, each convolved first: `silu a · b`, row by row. -/
def gate (wa wb : Fin 3 → EReal) (fa fb : Col) : Col := fun r =>
  conv wa fa r * Ideal.logistic (conv wa fa r) * conv wb fb r

/-- The cotangent of `a` in `silu a · b` against `d`. -/
def gradA (a b d : EReal) : EReal :=
  d * b * Ideal.logistic a + a * (d * b) * (Ideal.logistic a * (1 - Ideal.logistic a))

/-- The cotangent of `b` in `silu a · b` against `d`. -/
def gradB (a d : EReal) : EReal := a * Ideal.logistic a * d

/-- The cotangent of the first convolved column of the activation, row by row. -/
def cotA (wa wb : Fin 3 → EReal) (fa fb d : Col) : Col := fun r => gradA (conv wa fa r) (conv wb fb r) (d r)

/-- The cotangent of the second convolved column of the activation, row by row. -/
def cotB (wa : Fin 3 → EReal) (fa d : Col) : Col := fun r => gradB (conv wa fa r) (d r)

end Cert.Taps

end
-- ==== Proof.ActBlock.lean ====
/- What one grid point of the activation's two kernels computes, forward and backward: each value the bodies
   name, read at a row and a lane of its block, in terms of the columns of the input blocks. -/
module

public import proofs.«01_k».proof.Proof.Gen.KernelIdeal.Skeleton
public import proofs.«01_k».proof.Proof.Taps

@[expose] public section

set_option maxRecDepth 16384

noncomputable section

open Idealize.ShloMosaic Idealize.ShloMosaic.TcCoe Idealize.SL.Sem

namespace Cert.ActBlock

open Cert.KernelIdeal Cert.KernelIdeal.Gen Cert.Taps

/-- The convolved first half: the body's three masked products are the causal convolution of the column. -/
theorem conv_at (v1 : FVec Ideal S2048x128 .f32) (v5 v6 v7 : FVec Ideal S1x128 .f32) (r : Fin 2048) (l : Fin 128) :
    k4_pay4 (F := Ideal) v1 v5 v6 v7 (ix2 r l)
      = conv ![v5 (ix2 0 l), v6 (ix2 0 l), v7 (ix2 0 l)] (fun s => v1 (ix2 s l)) r := by
  pointwise [k4_pay4, k4_pay1]
  rw [rot_back 1 (by omega) (fun s => v6 (ix2 0 l) * v1 (ix2 s l)) r, rot_back 2 (by omega) (fun s => v7 (ix2 0 l) * v1 (ix2 s l)) r]
  rfl

/-- The forward kernel convolves the first half by the same operations. -/
theorem convF_at (v1 : FVec Ideal S2048x128 .f32) (v5 v6 v7 : FVec Ideal S1x128 .f32) (r : Fin 2048) (l : Fin 128) :
    k1_pay2 (F := Ideal) v1 v5 v6 v7 (ix2 r l)
      = conv ![v5 (ix2 0 l), v6 (ix2 0 l), v7 (ix2 0 l)] (fun s => v1 (ix2 s l)) r :=
  conv_at v1 v5 v6 v7 r l

/-- The row numbers as the bodies make them. -/
theorem rows_at (r : Fin 2048) (l : Fin 128) :
    (iota .tc S2048x128 32 [0] iota_S2048x128_d0_w32 : IVec S2048x128 32) (ix2 r l) = BitVec.ofNat 32 r.val := by
  pointwise

/-- The row numbers. -/
abbrev rows : IVec S2048x128 32 := iota .tc S2048x128 32 [0] iota_S2048x128_d0_w32

/-- What the forward kernel stores: the gated activation of the two convolved columns. -/
theorem act_at (x0 x1 : FVec Ideal S2048x128 .f32) (a0 a1 a2 b0 b1 b2 : FVec Ideal S1x128 .f32) (r : Fin 2048) (l : Fin 128) :
    k1_pay1 (F := Ideal) rows (k1_pay2 x0 a0 a1 a2) (k1_pay3 x1) b1 b2 (k1_pay4 x1 b0) (ix2 r l)
      = gate ![a0 (ix2 0 l), a1 (ix2 0 l), a2 (ix2 0 l)] ![b0 (ix2 0 l), b1 (ix2 0 l), b2 (ix2 0 l)]
          (fun s => x0 (ix2 s l)) (fun s => x1 (ix2 s l)) r := by
  have ha := convF_at x0 a0 a1 a2 r l
  pointwise [k1_pay1, k1_pay3, k1_pay4, rows_at, ha]
  rw [rot_back 1 (by omega) (fun s => b1 (ix2 0 l) * x1 (ix2 s l)) r, rot_back 2 (by omega) (fun s => b2 (ix2 0 l) * x1 (ix2 s l)) r]
  rfl

/-- The cotangent of the first half. -/
theorem cotA_at (v4 v7 v30 : FVec Ideal S2048x128 .f32) (b0 b1 b2 : FVec Ideal S1x128 .f32) (r : Fin 2048) (l : Fin 128) :
    k4_pay7 (F := Ideal) rows v4 v7 v30 b0 b1 b2 (ix2 r l)
      = gradA (v30 (ix2 r l)) (conv ![b0 (ix2 0 l), b1 (ix2 0 l), b2 (ix2 0 l)] (fun s => v4 (ix2 s l)) r) (v7 (ix2 r l)) := by
  pointwise [k4_pay7, k4_pay5, rows_at]
  rw [rot_back 1 (by omega) (fun s => b1 (ix2 0 l) * v4 (ix2 s l)) r, rot_back 2 (by omega) (fun s => b2 (ix2 0 l) * v4 (ix2 s l)) r]
  rfl

/-- The cotangent of the second half. -/
theorem cotB_at (v7 v30 : FVec Ideal S2048x128 .f32) (r : Fin 2048) (l : Fin 128) :
    k4_pay6 (F := Ideal) v7 v30 (ix2 r l) = gradB (v30 (ix2 r l)) (v7 (ix2 r l)) := by
  pointwise [k4_pay6, k4_pay5]
  rfl

/-- The adjoint convolution as the second half's store computes it, of any column block `g`. -/
theorem convT_at (g : FVec Ideal S2048x128 .f32) (w0 w1 w2 : FVec Ideal S1x128 .f32) (r : Fin 2048) (l : Fin 128) :
    k4_pay22 (F := Ideal) rows g w1 w2 (k4_pay16 g w0) (k4_pay17 rows) (ix2 r l)
      = convT ![w0 (ix2 0 l), w1 (ix2 0 l), w2 (ix2 0 l)] (fun s => g (ix2 s l)) r := by
  pointwise [k4_pay22, k4_pay16, k4_pay17, rows_at]
  rw [rot_fwd 1 2047 (by omega) (by omega) (fun s => w1 (ix2 0 l) * g (ix2 s l)) r,
    rot_fwd 2 2046 (by omega) (by omega) (fun s => w2 (ix2 0 l) * g (ix2 s l)) r]
  rfl

/-- The adjoint convolution as the first half's store computes it: the same operations, named otherwise. -/
theorem convT_at' (v4 v7 v30 : FVec Ideal S2048x128 .f32) (b0 b1 b2 w0 w1 w2 : FVec Ideal S1x128 .f32) (r : Fin 2048) (l : Fin 128) :
    k4_pay21 (F := Ideal) (k4_pay12 rows (k4_pay7 rows v4 v7 v30 b0 b1 b2) w1 w2 (k4_pay8 rows v4 v7 v30 b0 b1 b2 w0)
        (k4_pay9 rows) (k4_pay10 rows v4 v7 v30 b0 b1 b2) k4_pay11) (ix2 r l)
      = convT ![w0 (ix2 0 l), w1 (ix2 0 l), w2 (ix2 0 l)] (fun s => k4_pay7 (F := Ideal) rows v4 v7 v30 b0 b1 b2 (ix2 s l)) r := by
  unfold k4_pay8 k4_pay10
  generalize k4_pay7 (F := Ideal) rows v4 v7 v30 b0 b1 b2 = g
  exact convT_at g w0 w1 w2 r l

section cotangents

variable (x0 x1 : FVec Ideal S2048x128 .f32) (x4 : FVec Ideal S2048x128 .bf16) (a0 a1 a2 b0 b1 b2 : FVec Ideal S1x128 .f32)

/-- The body's cotangent of the first half, of the loaded blocks and rows of taps. -/
abbrev bodyA : FVec Ideal S2048x128 .f32 :=
  k4_pay7 (F := Ideal) rows (k4_pay2 x1) (k4_pay3 x4) (k4_pay4 x0 a0 a1 a2) b0 b1 b2

/-- The body's cotangent of the second half. -/
abbrev bodyB : FVec Ideal S2048x128 .f32 := k4_pay6 (F := Ideal) (k4_pay3 x4) (k4_pay4 x0 a0 a1 a2)

/-- A column of the first cotangent. -/
theorem bodyA_at (l : Fin 128) :
    (fun s => bodyA x0 x1 x4 a0 a1 a2 b0 b1 b2 (ix2 s l))
        = cotA ![a0 (ix2 0 l), a1 (ix2 0 l), a2 (ix2 0 l)] ![b0 (ix2 0 l), b1 (ix2 0 l), b2 (ix2 0 l)]
            (fun s => x0 (ix2 s l)) (fun s => x1 (ix2 s l)) (fun s => x4 (ix2 s l)) := by
  have h4 : ∀ r, k4_pay3 (F := Ideal) x4 (ix2 r l) = x4 (ix2 r l) := fun r => by pointwise [k4_pay3]
  have h1 : (fun s => k4_pay2 (F := Ideal) x1 (ix2 s l)) = fun s => x1 (ix2 s l) := funext fun r => by pointwise [k4_pay2]
  funext r
  rw [bodyA, cotA_at, conv_at, h4, h1, cotA]

/-- A column of the second cotangent. -/
theorem bodyB_at (l : Fin 128) :
    (fun s => bodyB x0 x4 a0 a1 a2 (ix2 s l))
        = cotB ![a0 (ix2 0 l), a1 (ix2 0 l), a2 (ix2 0 l)] (fun s => x0 (ix2 s l)) (fun s => x4 (ix2 s l)) := by
  have h4 : ∀ r, k4_pay3 (F := Ideal) x4 (ix2 r l) = x4 (ix2 r l) := fun r => by pointwise [k4_pay3]
  funext r
  rw [bodyB, cotB_at, conv_at, h4, cotB]

/-- What is stored for the first half of the array. -/
theorem storeA_at (r : Fin 2048) (l : Fin 128) :
    k4_pay21 (F := Ideal) (k4_pay12 rows (bodyA x0 x1 x4 a0 a1 a2 b0 b1 b2) a1 a2
        (k4_pay8 rows (k4_pay2 x1) (k4_pay3 x4) (k4_pay4 x0 a0 a1 a2) b0 b1 b2 a0) (k4_pay9 rows)
        (k4_pay10 rows (k4_pay2 x1) (k4_pay3 x4) (k4_pay4 x0 a0 a1 a2) b0 b1 b2) k4_pay11) (ix2 r l)
      = convT ![a0 (ix2 0 l), a1 (ix2 0 l), a2 (ix2 0 l)]
          (cotA ![a0 (ix2 0 l), a1 (ix2 0 l), a2 (ix2 0 l)] ![b0 (ix2 0 l), b1 (ix2 0 l), b2 (ix2 0 l)]
            (fun s => x0 (ix2 s l)) (fun s => x1 (ix2 s l)) (fun s => x4 (ix2 s l))) r :=
  (convT_at' _ _ _ _ _ _ _ _ _ r l).trans (by rw [← bodyA_at x0 x1 x4 a0 a1 a2 b0 b1 b2 l])

/-- What is stored for the second half of the array. -/
theorem storeB_at (r : Fin 2048) (l : Fin 128) :
    k4_pay22 (F := Ideal) rows (bodyB x0 x4 a0 a1 a2) b1 b2 (k4_pay16 (bodyB x0 x4 a0 a1 a2) b0) (k4_pay17 rows) (ix2 r l)
      = convT ![b0 (ix2 0 l), b1 (ix2 0 l), b2 (ix2 0 l)]
          (cotB ![a0 (ix2 0 l), a1 (ix2 0 l), a2 (ix2 0 l)] (fun s => x0 (ix2 s l)) (fun s => x4 (ix2 s l))) r :=
  (convT_at _ _ _ _ r l).trans (by rw [← bodyB_at x0 x4 a0 a1 a2 l])

end cotangents

/-- The sums over the rows that the taps' gradients are: the first half's three stores. -/
theorem corr_at (x g : FVec Ideal S2048x128 .f32) (l : Fin 128) :
    k4_pay13 (F := Ideal) x g (ix2 0 l) = corr 0 (fun s => g (ix2 s l)) (fun s => x (ix2 s l))
      ∧ k4_pay14 (F := Ideal) rows x g (ix2 0 l) = corr 1 (fun s => g (ix2 s l)) (fun s => x (ix2 s l))
      ∧ k4_pay15 (F := Ideal) rows x g (ix2 0 l) = corr 2 (fun s => g (ix2 s l)) (fun s => x (ix2 s l)) := by
  refine ⟨?_, ?_, ?_⟩
  · pointwise [k4_pay13]
    exact Finset.sum_congr rfl fun r _ => (if_pos (Nat.zero_le _)).symm
  · pointwise [k4_pay14, rows_at]
    exact Finset.sum_congr rfl fun r _ => sge_prod 1 (by omega) (fun s => g (ix2 s l)) (fun s => x (ix2 s l)) r _
  · pointwise [k4_pay15, rows_at]
    exact Finset.sum_congr rfl fun r _ => sge_prod 2 (by omega) (fun s => g (ix2 s l)) (fun s => x (ix2 s l)) r _

/-- The other half's three stores are the same operations. -/
theorem corrB_at (x g : FVec Ideal S2048x128 .f32) (l : Fin 128) :
    k4_pay18 (F := Ideal) x g (ix2 0 l) = corr 0 (fun s => g (ix2 s l)) (fun s => x (ix2 s l))
      ∧ k4_pay19 (F := Ideal) rows x g (ix2 0 l) = corr 1 (fun s => g (ix2 s l)) (fun s => x (ix2 s l))
      ∧ k4_pay20 (F := Ideal) rows x g (ix2 0 l) = corr 2 (fun s => g (ix2 s l)) (fun s => x (ix2 s l)) :=
  corr_at x g l

/-- A column of the first half as the sums take it. -/
theorem loadA_at (x : FVec Ideal S2048x128 .f32) (l : Fin 128) : (fun s => k4_pay1 (F := Ideal) x (ix2 s l)) = fun s => x (ix2 s l) :=
  funext fun r => by pointwise [k4_pay1]

/-- A column of the second half as the sums take it. -/
theorem loadB_at (x : FVec Ideal S2048x128 .f32) (l : Fin 128) : (fun s => k4_pay2 (F := Ideal) x (ix2 s l)) = fun s => x (ix2 s l) :=
  funext fun r => by pointwise [k4_pay2]

end Cert.ActBlock

end
-- ==== Proof.ActArray.lean ====
/- The arrays the activation's two kernels leave, forward and backward, each as one function of the arrays its region finds. -/
module

public import proofs.«01_k».proof.Proof.Gen.KernelIdeal.Frame
public import Idealize.ShloMosaic.Lib.Pipeline.ValueKit
public import proofs.«01_k».proof.Proof.ActBlock

@[expose] public section

set_option maxRecDepth 16384

noncomputable section

open Idealize.ShloMosaic Idealize.ShloMosaic.TcCoe Idealize.SL.Sem
open Idealize.ShloMosaic.Pipeline (Dat)

namespace Cert.ActArray

open Cert.KernelIdeal Cert.KernelIdeal.Gen Cert.Taps Cert.ActBlock

section arrays

variable (X : FVec Ideal S2048x11264 .f32) (W : FVec Ideal S3x11264 .f32) (D : FVec Ideal S2048x5632 .bf16)

/-- Column `c` of the first half. -/
abbrev colA (c : Fin 5632) : Col := fun s => X (ix2 s ⟨c.val, by omega⟩)
/-- Column `c` of the second half. -/
abbrev colB (c : Fin 5632) : Col := fun s => X (ix2 s ⟨5632 + c.val, by omega⟩)
/-- The taps of column `c` of the first half. -/
abbrev tapA (c : Fin 5632) : Fin 3 → EReal := fun k => W (ix2 k ⟨c.val, by omega⟩)
/-- The taps of column `c` of the second half. -/
abbrev tapB (c : Fin 5632) : Fin 3 → EReal := fun k => W (ix2 k ⟨5632 + c.val, by omega⟩)

/-- Column `c` of the cotangent of the first convolved half. -/
abbrev cA (c : Fin 5632) : Col := cotA (tapA W c) (tapB W c) (colA X c) (colB X c) (fun s => D (ix2 s c))
/-- Column `c` of the cotangent of the second convolved half. -/
abbrev cB (c : Fin 5632) : Col := cotB (tapA W c) (colA X c) (fun s => D (ix2 s c))

/-- The gated activation of the two halves. -/
def activation : FVec Ideal S2048x5632 .bf16 := fun i => gate (tapA W (i 1)) (tapB W (i 1)) (colA X (i 1)) (colB X (i 1)) (i 0)
/-- The gradient of the first half of the array. -/
def gradXA : FVec Ideal S2048x5632 .bf16 := fun i => convT (tapA W (i 1)) (cA X W D (i 1)) (i 0)
/-- The gradient of the second half of the array. -/
def gradXB : FVec Ideal S2048x5632 .bf16 := fun i => convT (tapB W (i 1)) (cB X W D (i 1)) (i 0)
/-- The gradient of the first half of the taps. -/
def gradWA : FVec Ideal S3x5632 .f32 := fun i => corr (i 0).val (cA X W D (i 1)) (colA X (i 1))
/-- The gradient of the second half of the taps. -/
def gradWB : FVec Ideal S3x5632 .f32 := fun i => corr (i 0).val (cB X W D (i 1)) (colB X (i 1))

end arrays

/-- Where each window's block lies at a grid point of the backward kernel. -/
theorem idx : ∀ t : Fin cfg4.N, win4_0.index t = ![0, t.val] ∧ win4_1.index t = ![0, 44 + t.val] ∧ win4_2.index t = ![0, t.val]
    ∧ win4_3.index t = ![0, 44 + t.val] ∧ win4_4.index t = ![0, t.val] ∧ win4_5.index t = ![0, t.val] ∧ win4_6.index t = ![0, t.val]
    ∧ win4_7.index t = ![0, t.val] ∧ win4_8.index t = ![0, t.val] :=
  (by decide +kernel : ∀ t : Fin grid4.N, _)

variable (V : (c : Dev nD) → (b : Ref sig .tc) → Buf (Elt Ideal) ((c : Thread nD τ).loc b)) (c : Dev nD)

/-- Column `l` of the block at point `t`. -/
abbrev at_ (t : Fin cfg4.N) (l : Fin 128) : Fin 5632 :=
  ⟨t.val * 128 + l.val, by have := lt_of_lt_of_eq t.isLt N_4; omega⟩

/-- The columns and the taps a grid point's blocks hold. -/
theorem blocks (t : Fin cfg4.N) (l : Fin 128) :
    (fun s : Fin 2048 => (iblk4 V c 0 t : FVec Ideal S2048x128 .f32) (ix2 s l)) = colA (V c main_v6) (at_ t l)
    ∧ (fun s : Fin 2048 => (iblk4 V c 1 t : FVec Ideal S2048x128 .f32) (ix2 s l)) = colB (V c main_v6) (at_ t l)
    ∧ (fun k : Fin 3 => (iblk4 V c 2 t : FVec Ideal S3x128 .f32) (ix2 k l)) = tapA (V c main_arg2) (at_ t l)
    ∧ (fun k : Fin 3 => (iblk4 V c 3 t : FVec Ideal S3x128 .f32) (ix2 k l)) = tapB (V c main_arg2) (at_ t l)
    ∧ (fun s : Fin 2048 => (iblk4 V c 4 t : FVec Ideal S2048x128 .bf16) (ix2 s l))
        = fun s => (V c main_v8 : FVec Ideal S2048x5632 .bf16) (ix2 s (at_ t l)) := by
  refine ⟨funext fun s => ?_, funext fun s => ?_, funext fun s => ?_, funext fun s => ?_, funext fun s => ?_⟩ <;>
    blk_ext [iblk4, idx t]

/-- A triple of taps is the function of its three entries. -/
theorem vec3 (f : Fin 3 → EReal) : ![f 0, f 1, f 2] = f := by
  funext k; fin_cases k <;> rfl

/-- A grid point's taps of the first half, as the triple of their rows. -/
abbrev blkTapA (t : Fin cfg4.N) (l : Fin 128) : Fin 3 → EReal :=
  ![(iblk4 V c 2 t : FVec Ideal S3x128 .f32) (ix2 0 l), (iblk4 V c 2 t : FVec Ideal S3x128 .f32) (ix2 1 l), (iblk4 V c 2 t : FVec Ideal S3x128 .f32) (ix2 2 l)]

/-- A grid point's taps of the second half. -/
abbrev blkTapB (t : Fin cfg4.N) (l : Fin 128) : Fin 3 → EReal :=
  ![(iblk4 V c 3 t : FVec Ideal S3x128 .f32) (ix2 0 l), (iblk4 V c 3 t : FVec Ideal S3x128 .f32) (ix2 1 l), (iblk4 V c 3 t : FVec Ideal S3x128 .f32) (ix2 2 l)]

/-- They are the array's. -/
theorem triples (t : Fin cfg4.N) (l : Fin 128) :
    blkTapA V c t l = tapA (V c main_arg2) (at_ t l)
    ∧ blkTapB V c t l = tapB (V c main_arg2) (at_ t l) :=
  ⟨(vec3 _).trans (blocks V c t l).2.2.1, (vec3 _).trans (blocks V c t l).2.2.2.1⟩

section congruence
variable {a a' b b' : Fin 3 → EReal} {f f' g g' d d' : Col} (ha : a = a') (hb : b = b') (hf : f = f') (hg : g = g') (hd : d = d')
include ha hb hf hg hd
theorem cotA_congr : cotA a b f g d = cotA a' b' f' g' d' := by rw [ha, hb, hf, hg, hd]
omit hb hg
theorem cotB_congr : cotB a f d = cotB a' f' d' := by rw [ha, hf, hd]
end congruence

/-- The columns of the two cotangents at a grid point, from its blocks. -/
theorem cots (t : Fin cfg4.N) (l : Fin 128) :
    cotA (blkTapA V c t l) (blkTapB V c t l) (fun s => (iblk4 V c 0 t : FVec Ideal S2048x128 .f32) (ix2 s l))
        (fun s => (iblk4 V c 1 t : FVec Ideal S2048x128 .f32) (ix2 s l)) (fun s => (iblk4 V c 4 t : FVec Ideal S2048x128 .bf16) (ix2 s l))
      = cA (V c main_v6) (V c main_arg2) (V c main_v8) (at_ t l)
    ∧ cotB (blkTapA V c t l) (fun s => (iblk4 V c 0 t : FVec Ideal S2048x128 .f32) (ix2 s l)) (fun s => (iblk4 V c 4 t : FVec Ideal S2048x128 .bf16) (ix2 s l))
      = cB (V c main_v6) (V c main_arg2) (V c main_v8) (at_ t l) :=
  ⟨cotA_congr (triples V c t l).1 (triples V c t l).2 (blocks V c t l).1 (blocks V c t l).2.1 (blocks V c t l).2.2.2.2,
    cotB_congr (triples V c t l).1 (blocks V c t l).1 (blocks V c t l).2.2.2.2⟩

/-- The gradient of the first half of the array, after the run. -/
theorem final5 : (dat4 V c).arrAt 5 cfg4.N
    = gradXA (V c main_v6) (V c main_arg2) (V c main_v8) := by
  refine (dat4 V c).arrAt_eq_of_covers 5 _ (by decide +kernel) fun t _ y => ?_
  blk_simp
  rw [after4_5]
  unfold_out out4_5
  frame_out
  idx_vars y
  refine (storeA_at (iblk4 V c 0 t) (iblk4 V c 1 t) (iblk4 V c 4 t) _ _ _ _ _ _ y0 y1).trans ?_
  pointwise
  refine (congrFun (congrArg₂ convT (triples V c t y1).1 (cots V c t y1).1) y0).trans ?_
  exact congrArg (gradXA (V c main_v6) (V c main_arg2) (V c main_v8)) (show ix2 y0 (at_ t y1) = _ by blk_ext [idx t])

/-- The gradient of the second half of the array, after the run. -/
theorem final6 : (dat4 V c).arrAt 6 cfg4.N
    = gradXB (V c main_v6) (V c main_arg2) (V c main_v8) := by
  refine (dat4 V c).arrAt_eq_of_covers 6 _ (by decide +kernel) fun t _ y => ?_
  blk_simp
  rw [after4_6]
  unfold_out out4_6
  frame_out
  idx_vars y
  refine (storeB_at (iblk4 V c 0 t) (iblk4 V c 4 t) _ _ _ _ _ _ y0 y1).trans ?_
  pointwise
  refine (congrFun (congrArg₂ convT (triples V c t y1).2 (cots V c t y1).2) y0).trans ?_
  exact congrArg (gradXB (V c main_v6) (V c main_arg2) (V c main_v8)) (show ix2 y0 (at_ t y1) = _ by blk_ext [idx t])

/-- The gradient of the first half of the taps, after the run. -/
theorem final7 : (dat4 V c).arrAt 7 cfg4.N
    = gradWA (V c main_v6) (V c main_arg2) (V c main_v8) := by
  refine (dat4 V c).arrAt_eq_of_covers 7 _ (by decide +kernel) fun t _ y => ?_
  blk_simp
  rw [after4_7]
  unfold_out out4_7
  canon_tiles x h
  all_goals
    idx_vars x
    obtain rfl : x0 = 0 := Subsingleton.elim _ _
  case' piece0 => refine (corr_at _ _ x1).2.2.trans ((congrArg₂ (corr 2) (bodyA_at _ _ _ _ _ _ _ _ _ x1) (loadA_at _ x1)).trans ?_)
  case' piece1 => refine (corr_at _ _ x1).2.1.trans ((congrArg₂ (corr 1) (bodyA_at _ _ _ _ _ _ _ _ _ x1) (loadA_at _ x1)).trans ?_)
  case' piece2 => refine (corr_at _ _ x1).1.trans ((congrArg₂ (corr 0) (bodyA_at _ _ _ _ _ _ _ _ _ x1) (loadA_at _ x1)).trans ?_)
  all_goals
    pointwise
    refine (congrArg₂ (corr _) (cots V c t x1).1 (blocks V c t x1).1).trans ?_
  case piece0 => exact congrArg (gradWA (V c main_v6) (V c main_arg2) (V c main_v8)) (show ix2 2 (at_ t x1) = _ by blk_ext [idx t])
  case piece1 => exact congrArg (gradWA (V c main_v6) (V c main_arg2) (V c main_v8)) (show ix2 1 (at_ t x1) = _ by blk_ext [idx t])
  case piece2 => exact congrArg (gradWA (V c main_v6) (V c main_arg2) (V c main_v8)) (show ix2 0 (at_ t x1) = _ by blk_ext [idx t])

/-- The gradient of the second half of the taps, after the run. -/
theorem final8 : (dat4 V c).arrAt 8 cfg4.N
    = gradWB (V c main_v6) (V c main_arg2) (V c main_v8) := by
  refine (dat4 V c).arrAt_eq_of_covers 8 _ (by decide +kernel) fun t _ y => ?_
  blk_simp
  rw [after4_8]
  unfold_out out4_8
  canon_tiles x h
  all_goals
    idx_vars x
    obtain rfl : x0 = 0 := Subsingleton.elim _ _
  case' piece0 => refine (corrB_at _ _ x1).2.2.trans ((congrArg₂ (corr 2) (bodyB_at _ _ _ _ _ x1) (loadB_at _ x1)).trans ?_)
  case' piece1 => refine (corrB_at _ _ x1).2.1.trans ((congrArg₂ (corr 1) (bodyB_at _ _ _ _ _ x1) (loadB_at _ x1)).trans ?_)
  case' piece2 => refine (corrB_at _ _ x1).1.trans ((congrArg₂ (corr 0) (bodyB_at _ _ _ _ _ x1) (loadB_at _ x1)).trans ?_)
  all_goals
    pointwise
    refine (congrArg₂ (corr _) (cots V c t x1).2 (blocks V c t x1).2.1).trans ?_
  case piece0 => exact congrArg (gradWB (V c main_v6) (V c main_arg2) (V c main_v8)) (show ix2 2 (at_ t x1) = _ by blk_ext [idx t])
  case piece1 => exact congrArg (gradWB (V c main_v6) (V c main_arg2) (V c main_v8)) (show ix2 1 (at_ t x1) = _ by blk_ext [idx t])
  case piece2 => exact congrArg (gradWB (V c main_v6) (V c main_arg2) (V c main_v8)) (show ix2 0 (at_ t x1) = _ by blk_ext [idx t])

/-! ## The forward kernel -/

/-- Where each window's block lies at a grid point of the forward kernel. -/
theorem idxF : ∀ t : Fin cfg1.N, win1_0.index t = ![0, t.val] ∧ win1_1.index t = ![0, 44 + t.val] ∧ win1_2.index t = ![0, t.val]
    ∧ win1_3.index t = ![0, 44 + t.val] ∧ win1_4.index t = ![0, t.val] :=
  (by decide +kernel : ∀ t : Fin grid1.N, _)

/-- Column `l` of the block at point `t`. -/
abbrev atF (t : Fin cfg1.N) (l : Fin 128) : Fin 5632 :=
  ⟨t.val * 128 + l.val, by have := lt_of_lt_of_eq t.isLt N_1; omega⟩

/-- The columns and the taps a grid point's blocks hold. -/
theorem blocksF (t : Fin cfg1.N) (l : Fin 128) :
    (fun s : Fin 2048 => (iblk1 V c 0 t : FVec Ideal S2048x128 .f32) (ix2 s l)) = colA (V c main_v6) (atF t l)
    ∧ (fun s : Fin 2048 => (iblk1 V c 1 t : FVec Ideal S2048x128 .f32) (ix2 s l)) = colB (V c main_v6) (atF t l)
    ∧ (fun k : Fin 3 => (iblk1 V c 2 t : FVec Ideal S3x128 .f32) (ix2 k l)) = tapA (V c main_arg2) (atF t l)
    ∧ (fun k : Fin 3 => (iblk1 V c 3 t : FVec Ideal S3x128 .f32) (ix2 k l)) = tapB (V c main_arg2) (atF t l) := by
  refine ⟨funext fun s => ?_, funext fun s => ?_, funext fun s => ?_, funext fun s => ?_⟩ <;>
    blk_ext [iblk1, idxF t]

/-- A grid point's taps of the two halves, as triples of their rows. -/
theorem triplesF (t : Fin cfg1.N) (l : Fin 128) :
    ![(iblk1 V c 2 t : FVec Ideal S3x128 .f32) (ix2 0 l), (iblk1 V c 2 t : FVec Ideal S3x128 .f32) (ix2 1 l), (iblk1 V c 2 t : FVec Ideal S3x128 .f32) (ix2 2 l)]
        = tapA (V c main_arg2) (atF t l)
    ∧ ![(iblk1 V c 3 t : FVec Ideal S3x128 .f32) (ix2 0 l), (iblk1 V c 3 t : FVec Ideal S3x128 .f32) (ix2 1 l), (iblk1 V c 3 t : FVec Ideal S3x128 .f32) (ix2 2 l)]
        = tapB (V c main_arg2) (atF t l) :=
  ⟨(vec3 fun k => (iblk1 V c 2 t : FVec Ideal S3x128 .f32) (ix2 k l)).trans (blocksF V c t l).2.2.1,
    (vec3 fun k => (iblk1 V c 3 t : FVec Ideal S3x128 .f32) (ix2 k l)).trans (blocksF V c t l).2.2.2⟩

/-- A gated activation of equal taps and columns. -/
theorem gate_congr {a a' b b' : Fin 3 → EReal} {f f' g g' : Col} (ha : a = a') (hb : b = b') (hf : f = f') (hg : g = g') :
    gate a b f g = gate a' b' f' g' := by rw [ha, hb, hf, hg]

/-- The gated activation, after the run. -/
theorem final4 : (dat1 V c).arrAt 4 cfg1.N = activation (V c main_v6) (V c main_arg2) := by
  refine (dat1 V c).arrAt_eq_of_covers 4 _ (by decide +kernel) fun t _ y => ?_
  blk_simp
  rw [after1_4]
  unfold out1_4
  frame_out
  idx_vars y
  refine (act_at (iblk1 V c 0 t) (iblk1 V c 1 t) _ _ _ _ _ _ y0 y1).trans ?_
  pointwise
  refine Eq.trans (b := activation (V c main_v6) (V c main_arg2) (ix2 y0 (atF t y1)))
    (congrFun (gate_congr (triplesF V c t y1).1 (triplesF V c t y1).2 (blocksF V c t y1).1 (blocksF V c t y1).2.1) y0) ?_
  exact congrArg (activation (V c main_v6) (V c main_arg2)) (show ix2 y0 (atF t y1) = _ by blk_ext [idxF t])

end Cert.ActArray

end
-- ==== Proof.Run.lean ====
/- The run of the whole program: the results hold what the last boundary's contents are, read back through the
   regions and the host operations between them to the argument arrays. -/
module

public import proofs.«01_k».proof.Proof.Products
public import proofs.«01_k».proof.Proof.ActArray
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Run

open Cert.KernelIdeal Cert.KernelIdeal.Gen

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, the three results at the last boundary's contents and the arguments as launched. -/
theorem run : θ_run defs (onTc (τ := τ) (main (F := F))) ⟨m, fun _ => 0, ρ⟩ (fun r => ∀ c : Dev nD,
      r.2.mem ((c.tc : Thread nD τ).loc main_v17) = W10 m ρ c (Proc.devRef .tc main_v17)
      ∧ r.2.mem ((c.tc : Thread nD τ).loc main_v18) = W10 m ρ c (Proc.devRef .tc main_v18)
      ∧ r.2.mem ((c.tc : Thread nD τ).loc main_v19) = W10 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v17 (by decide)), h c _ (mem_uc main_v18 (by decide)), h c _ (mem_uc main_v19 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)

end run

/-! ## The host operations' values -/

/-- The first weight in four blocks of columns. -/
def weightBlocks (U : FVec Ideal S2048x11264 .f32) : FVec Ideal S1x4x2048x2816 .bf16 :=
  broadcastInDim S1x4x2048x2816 ![1, 2, 3] bcast_S4x2048x2816_S1x4x2048x2816_1_2_3
    (transpose S4x2048x2816 [1, 0, 2] (shapeCast S2048x4x2816 (truncf (F := Ideal) .bf16 U bitsLt_bf16_f32) shapeCasts_S2048x11264_S2048x4x2816)
      transposes_S2048x4x2816_S4x2048x2816_1_0_2)

/-- The second weight under two axes of one. -/
def weightLifted (D : FVec Ideal S5632x2048 .f32) : FVec Ideal S1x1x5632x2048 .bf16 :=
  broadcastInDim S1x1x5632x2048 ![2, 3] bcast_S5632x2048_S1x1x5632x2048_2_3 (truncf (F := Ideal) .bf16 D bitsLt_bf16_f32)

/-- Two halves of columns side by side. -/
def joined (a b : FVec Ideal S2048x5632 .bf16) : FVec Ideal S2048x11264 .bf16 :=
  concatenate S2048x11264 1 [⟨S2048x5632, a⟩, ⟨S2048x5632, b⟩] concatenates_S2048x5632_S2048x5632_S2048x11264_d1

/-- Two halves of taps side by side. -/
def joinedTaps (a b : FVec Ideal S3x5632 .f32) : FVec Ideal S3x11264 .f32 :=
  concatenate S3x11264 1 [⟨S3x5632, a⟩, ⟨S3x5632, b⟩] concatenates_S3x5632_S3x5632_S3x11264_d1

/-- Four blocks of columns side by side. -/
def unblocked (g : FVec Ideal S1x4x2048x2816 .f32) : FVec Ideal S2048x11264 .f32 :=
  shapeCast S2048x11264 (transpose S2048x4x2816 [1, 0, 2] (shapeCast S4x2048x2816 g shapeCasts_S1x4x2048x2816_S4x2048x2816)
    transposes_S4x2048x2816_S2048x4x2816_1_0_2) shapeCasts_S2048x4x2816_S2048x11264

/-- Two axes of one dropped. -/
def lowered (g : FVec Ideal S1x1x5632x2048 .f32) : FVec Ideal S5632x2048 .f32 :=
  shapeCast S5632x2048 g shapeCasts_S1x1x5632x2048_S5632x2048

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

theorem read_v3 : W1 m ρ c (Proc.devRef .tc main_v3) = weightBlocks (arg m c main_arg1) := by
  unfold weightBlocks
  after_results
  rfl

theorem read_v5 : W1 m ρ c (Proc.devRef .tc main_v5) = weightLifted (arg m c main_arg3) := by
  unfold weightLifted
  after_results

/-! ## The boundaries, one after another -/

/-- The product with the first weight. -/
abbrev up : FVec Ideal S2048x11264 .f32 := Products.timesBlocked (arg m c main_arg0) (weightBlocks (arg m c main_arg1))

/-- The activation. -/
abbrev act : FVec Ideal S2048x5632 .bf16 := ActArray.activation (up m c) (arg m c main_arg2)

/-- The cotangent that enters the activation. -/
abbrev dact : FVec Ideal S2048x5632 .bf16 := Products.timesTransposed (arg m c main_arg4) (weightLifted (arg m c main_arg3))

theorem at2_v6 : W2 m ρ c (Proc.devRef .tc main_v6) = up m c := by
  refine (W2_arr m ρ c 2).trans ((Products.product0 (V1 m ρ) c).trans ?_)
  exact congrArg₂ Products.timesBlocked (W1_args m ρ c main_arg0 (by decide)) (read_v3 m ρ c)

theorem at3_v7 : W3 m ρ c (Proc.devRef .tc main_v7) = act m c := by
  refine (W3_arr m ρ c 4).trans ((ActArray.final4 (V2 m ρ) c).trans ?_)
  exact congrArg₂ ActArray.activation (at2_v6 m ρ c) (W2_args m ρ c main_arg2 (by decide))

theorem at4_v8 : W4 m ρ c (Proc.devRef .tc main_v8) = dact m c := by
  refine (W4_arr m ρ c 2).trans ((Products.product2 (V3 m ρ) c).trans ?_)
  refine congrArg₂ Products.timesTransposed (W3_args m ρ c main_arg4 (by decide)) ?_
  exact (W3_of m ρ c main_v5 (by decide)).trans ((W2_of m ρ c main_v5 (by decide)).trans (read_v5 m ρ c))

theorem at5_v7 : W5 m ρ c (Proc.devRef .tc main_v7) = act m c :=
  (W5_of m ρ c main_v7 (by decide)).trans ((W4_of m ρ c main_v7 (by decide)).trans (at3_v7 m ρ c))

theorem at6_v10 : W6 m ρ c (Proc.devRef .tc main_v10) = Products.overRows (act m c) (arg m c main_arg4) := by
  refine (W6_arr m ρ c 2).trans ((Products.product3 (V5 m ρ) c).trans ?_)
  exact congrArg₂ Products.overRows (at5_v7 m ρ c) (W5_args m ρ c main_arg4 (by decide))

theorem at6_v6 : W6 m ρ c (Proc.devRef .tc main_v6) = up m c :=
  (W6_of m ρ c main_v6 (by decide)).trans ((W5_of m ρ c main_v6 (by decide)).trans ((W4_of m ρ c main_v6 (by decide)).trans
    ((W3_of m ρ c main_v6 (by decide)).trans (at2_v6 m ρ c))))

theorem at6_v8 : W6 m ρ c (Proc.devRef .tc main_v8) = dact m c :=
  (W6_of m ρ c main_v8 (by decide)).trans ((W5_of m ρ c main_v8 (by decide)).trans (at4_v8 m ρ c))

section congruence
variable {β : Type} (f : FVec Ideal S2048x11264 .f32 → FVec Ideal S3x11264 .f32 → FVec Ideal S2048x5632 .bf16 → β)
/-- A function of what the backward kernel reads, at its region's entry. -/
theorem entry4 : f (V6 m ρ c main_v6) (V6 m ρ c main_arg2) (V6 m ρ c main_v8) = f (up m c) (arg m c main_arg2) (dact m c) := by
  rw [show V6 m ρ c main_v6 = _ from at6_v6 m ρ c, show V6 m ρ c main_arg2 = _ from W6_args m ρ c main_arg2 (by decide),
    show V6 m ρ c main_v8 = _ from at6_v8 m ρ c]
end congruence

theorem at7_a : W7 m ρ c (Proc.devRef .tc main_v11_0) = ActArray.gradXA (up m c) (arg m c main_arg2) (dact m c) :=
  (W7_arr m ρ c 5).trans ((ActArray.final5 (V6 m ρ) c).trans (entry4 m ρ c ActArray.gradXA))

theorem at7_b : W7 m ρ c (Proc.devRef .tc main_v11_1) = ActArray.gradXB (up m c) (arg m c main_arg2) (dact m c) :=
  (W7_arr m ρ c 6).trans ((ActArray.final6 (V6 m ρ) c).trans (entry4 m ρ c ActArray.gradXB))

theorem at7_wa : W7 m ρ c (Proc.devRef .tc main_v11_2) = ActArray.gradWA (up m c) (arg m c main_arg2) (dact m c) :=
  (W7_arr m ρ c 7).trans ((ActArray.final7 (V6 m ρ) c).trans (entry4 m ρ c ActArray.gradWA))

theorem at7_wb : W7 m ρ c (Proc.devRef .tc main_v11_3) = ActArray.gradWB (up m c) (arg m c main_arg2) (dact m c) :=
  (W7_arr m ρ c 8).trans ((ActArray.final8 (V6 m ρ) c).trans (entry4 m ρ c ActArray.gradWB))

/-- The cotangent of the product with the first weight. -/
abbrev dup : FVec Ideal S2048x11264 .bf16 :=
  joined (ActArray.gradXA (up m c) (arg m c main_arg2) (dact m c)) (ActArray.gradXB (up m c) (arg m c main_arg2) (dact m c))

theorem at8_v12 : W8 m ρ c (Proc.devRef .tc main_v12) = dup m c := by
  refine Eq.trans (b := joined (W7 m ρ c (Proc.devRef .tc main_v11_0)) (W7 m ρ c (Proc.devRef .tc main_v11_1))) ?_
    (congrArg₂ joined (at7_a m ρ c) (at7_b m ρ c))
  unfold joined
  after_results

theorem at9_v14 : W9 m ρ c (Proc.devRef .tc main_v14) = Products.overRowsBlocked (arg m c main_arg0) (dup m c) := by
  refine (W9_arr m ρ c 2).trans ((Products.product5 (V8 m ρ) c).trans ?_)
  exact congrArg₂ Products.overRowsBlocked (W8_args m ρ c main_arg0 (by decide)) (at8_v12 m ρ c)

theorem result0 : W10 m ρ c (Proc.devRef .tc main_v17) = unblocked (Products.overRowsBlocked (arg m c main_arg0) (dup m c)) := by
  refine Eq.trans (b := unblocked (W9 m ρ c (Proc.devRef .tc main_v14))) ?_ (congrArg unblocked (at9_v14 m ρ c))
  unfold unblocked
  after_results
  rfl

theorem result1 : W10 m ρ c (Proc.devRef .tc main_v18)
    = joinedTaps (ActArray.gradWA (up m c) (arg m c main_arg2) (dact m c)) (ActArray.gradWB (up m c) (arg m c main_arg2) (dact m c)) := by
  refine Eq.trans (b := joinedTaps (W9 m ρ c (Proc.devRef .tc main_v11_2)) (W9 m ρ c (Proc.devRef .tc main_v11_3))) ?_
    (congrArg₂ joinedTaps
      ((W9_of m ρ c main_v11_2 (by decide)).trans ((W8_of m ρ c main_v11_2 (by decide)).trans (at7_wa m ρ c)))
      ((W9_of m ρ c main_v11_3 (by decide)).trans ((W8_of m ρ c main_v11_3 (by decide)).trans (at7_wb m ρ c))))
  unfold joinedTaps
  after_results

theorem result2 : W10 m ρ c (Proc.devRef .tc main_v19) = lowered (Products.overRows (act m c) (arg m c main_arg4)) := by
  refine Eq.trans (b := lowered (W9 m ρ c (Proc.devRef .tc main_v10))) ?_ (congrArg lowered
    ((W9_of m ρ c main_v10 (by decide)).trans ((W8_of m ρ c main_v10 (by decide)).trans ((W7_of m ρ c main_v10 (by decide)).trans (at6_v10 m ρ c)))))
  unfold lowered
  after_results
  rfl

end Cert.Run

end
-- ==== Proof.FfnRef.lean ====
/- The reference read at an index: the activation and its two cotangents in terms of the columns of the product
   with the first weight and of the cotangent that enters the activation, and the three results above them. -/
module

public import proofs.«01_k».proof.Proof.Gen.ReferenceIdeal.Read
public import proofs.«01_k».proof.Proof.Taps

@[expose] public section

set_option maxRecDepth 16384

noncomputable section

open Idealize.ShloMosaic Idealize.ShloMosaic.TcCoe Idealize.SL.Sem

namespace Cert.FfnRef

open Cert.ReferenceIdeal Cert.ReferenceIdeal.Gen Cert.ReferenceIdeal.Read Cert.Taps

/-- Column `c` of a two-dimensional array. -/
abbrev col {n : ℕ} (x : FVec Ideal ⟨2, ![2048, n]⟩ .f32) (c : Fin n) : Col := fun s => x (ix2 s c)

/-- The three taps of column `c`. -/
abbrev taps (w : FVec Ideal S3x11264 .f32) (c : Fin 11264) : Fin 3 → EReal := fun k => w (ix2 k c)

variable (x0 : FVec Ideal S2048x2048 .bf16) (x1 : FVec Ideal S2048x11264 .f32) (x2 : FVec Ideal S3x11264 .f32)
  (x3 : FVec Ideal S5632x2048 .f32) (x4 : FVec Ideal S2048x2048 .bf16)

/-- The product with the first weight. -/
abbrev up : FVec Ideal S2048x11264 .f32 := val_main_v1 (F := Ideal) x0 x1

/-- The cotangent that enters the activation. -/
abbrev dact : FVec Ideal S2048x5632 .f32 := val_main_v35 (F := Ideal) x3 x4

/-- The padded array under each tap is the array moved down by as many rows. -/
theorem moved_at (r : Fin 2048) (c : Fin 11264) :
    val_main_v7 (F := Ideal) x0 x1 (ix2 r c) = up x0 x1 (ix2 r c)
      ∧ val_main_v15 (F := Ideal) x0 x1 (ix2 r c) = back 1 (col (up x0 x1) c) r
      ∧ val_main_v22 (F := Ideal) x0 x1 (ix2 r c) = back 2 (col (up x0 x1) c) r := by
  unfold up val_main_v7 val_main_v15 val_main_v22 val_main_v3
  generalize val_main_v1 (F := Ideal) x0 x1 = X
  refine ⟨?_, ?_, ?_⟩
  · pointwise [val_main_v2, val_main_cst]
  · pointwise [val_main_v2, val_main_cst]
    unfold back
    by_cases h : 1 ≤ r.val
    · rw [if_pos h, dif_neg (by omega)]
      exact congrArg (fun q => X (ix2 q c)) (Fin.ext (by show 1 + r.val - 2 = r.val - 1; omega))
    · rw [if_neg h, dif_pos (by omega)]
  · pointwise [val_main_v2, val_main_cst]
    unfold back
    by_cases h : 2 ≤ r.val
    · rw [if_pos h, dif_neg (by omega)]
    · rw [if_neg h, dif_pos (by omega)]

/-- The causal convolution over the padded array, at a row and a column. -/
theorem conv_at (r : Fin 2048) (c : Fin 11264) :
    val_main_v26 (F := Ideal) x0 x1 x2 (ix2 r c) = conv (taps x2 c) (col (up x0 x1) c) r := by
  obtain ⟨h6, h14, h21⟩ := moved_at x0 x1 r c
  pointwise [val_main_v26, val_main_v25, val_main_v24, val_main_v23, val_main_v21, val_main_v20, val_main_v19, val_main_v18,
    val_main_v17, val_main_v16, val_main_v14, val_main_v13, val_main_v12, val_main_v11, val_main_v10, val_main_v9, val_main_v8,
    val_main_v6, val_main_v5, val_main_cst_1]
  rw [h6, h14, h21, mul_back, mul_back]
  rfl

/-- The activation the second weight multiplies. -/
theorem act_at (r : Fin 2048) (c : Fin 5632) :
    val_main_v30 (F := Ideal) x0 x1 x2 (ix2 r c)
      = gate (taps x2 ⟨c.val, by omega⟩) (taps x2 ⟨5632 + c.val, by omega⟩) (col (up x0 x1) ⟨c.val, by omega⟩)
          (col (up x0 x1) ⟨5632 + c.val, by omega⟩) r := by
  have ha := conv_at x0 x1 x2 r ⟨c.val, by omega⟩
  have hb := conv_at x0 x1 x2 r ⟨5632 + c.val, by omega⟩
  pointwise [val_main_v30, val_main_v29_0, val_main_v29_2, val_main_call0_v4, val_main_call0_v3,
    val_main_call0_v2, val_main_call0_v1, val_main_call0_v0, val_main_call0_cst, val_main_call0_cst_0, val_main_v27, val_main_v28]
  simp only [ha, hb]
  rfl

/-- The cotangent of the convolution's output: its columns are the cotangents of the two halves. -/
theorem cot_lo (r : Fin 2048) (c : Fin 5632) :
    val_main_v39 (F := Ideal) x0 x1 x2 x3 x4 (ix2 r ⟨c.val, by omega⟩)
      = cotA (taps x2 ⟨c.val, by omega⟩) (taps x2 ⟨5632 + c.val, by omega⟩) (col (up x0 x1) ⟨c.val, by omega⟩)
          (col (up x0 x1) ⟨5632 + c.val, by omega⟩) (fun s => dact x3 x4 (ix2 s c)) r := by
  have ha := conv_at x0 x1 x2 r ⟨c.val, by omega⟩
  have hb := conv_at x0 x1 x2 r ⟨5632 + c.val, by omega⟩
  pointwise [val_main_v39, val_main_v38, val_main_call1_v2, val_main_call1_v1, val_main_call1_v0, val_main_v37,
    val_main_v29_0, val_main_v29_1, val_main_v29_2, val_main_call0_v7, val_main_call0_v6, val_main_call0_v4, val_main_call0_v3,
    val_main_call0_v2, val_main_call0_v1, val_main_call0_v0, val_main_call0_cst, val_main_call0_cst_0, val_main_call0_cst_1,
    val_main_v27, val_main_v28]
  simp only [ha, hb]
  rfl

theorem cot_hi (r : Fin 2048) (c : Fin 5632) :
    val_main_v39 (F := Ideal) x0 x1 x2 x3 x4 (ix2 r ⟨5632 + c.val, by omega⟩)
      = cotB (taps x2 ⟨c.val, by omega⟩) (col (up x0 x1) ⟨c.val, by omega⟩) (fun s => dact x3 x4 (ix2 s c)) r := by
  have ha := conv_at x0 x1 x2 r ⟨c.val, by omega⟩
  pointwise [val_main_v39, val_main_v36,
    val_main_v29_0, val_main_v29_2, val_main_call0_v4, val_main_call0_v3,
    val_main_call0_v2, val_main_call0_v1, val_main_call0_v0, val_main_call0_cst, val_main_call0_cst_0,
    val_main_v27]
  simp only [ha]
  rfl

/-- The cotangent of the product with the first weight, a row and a column at a time. -/
theorem grad_at (r : Fin 2048) (c : Fin 11264) :
    val_main_v72 (F := Ideal) x0 x1 x2 x3 x4 (ix2 r c)
      = convT (taps x2 c) (fun s => val_main_v39 (F := Ideal) x0 x1 x2 x3 x4 (ix2 s c)) r := by
  pointwise [val_main_v72, val_main_v67, val_main_v66, val_main_v61, val_main_v60, val_main_v56, val_main_v55, val_main_v50,
    val_main_v49, val_main_v46, val_main_v41, val_main_v40, val_main_v23, val_main_v21, val_main_v20, val_main_v16, val_main_v14,
    val_main_v13, val_main_v8, val_main_v6, val_main_v5, val_main_cst_4, val_main_cst_8, val_main_cst_12]
  rw [add_comm, add_comm (dite _ _ _), ← add_assoc]
  refine congrArg₂ (· + ·) (congrArg₂ (· + ·) rfl ?_) ?_
  · refine Eq.trans ?_ (fwd_dite 1 _ r).symm
    by_cases h : r.val + 1 < 2048
    · rw [dif_pos (by omega), dif_pos h]
      exact congrArg (fun q => x2 (ix2 1 c) * val_main_v39 (F := Ideal) x0 x1 x2 x3 x4 (ix2 q c)) (Fin.ext (by show 2 + r.val - 1 = r.val + 1; omega))
    · rw [dif_neg (by omega), dif_neg h]
  · refine Eq.trans ?_ (fwd_dite 2 _ r).symm
    by_cases h : r.val + 2 < 2048
    · rw [dif_pos (by omega), dif_pos h]
      exact congrArg (fun q => x2 (ix2 2 c) * val_main_v39 (F := Ideal) x0 x1 x2 x3 x4 (ix2 q c)) (Fin.ext (by show 2 + r.val = r.val + 2; omega))
    · rw [dif_neg (by omega), dif_neg h]

/-- The gradient of the taps. -/
theorem tap_at (k : Fin 3) (c : Fin 11264) :
    val_main_v70 (F := Ideal) x0 x1 x2 x3 x4 (ix2 k c)
      = corr k.val (fun s => val_main_v39 (F := Ideal) x0 x1 x2 x3 x4 (ix2 s c)) (col (up x0 x1) c) := by
  pointwise [val_main_v70, val_main_v69, val_main_v68, val_main_v65, val_main_v64, val_main_v63, val_main_v62,
    val_main_v59, val_main_v58, val_main_v57, val_main_v54, val_main_v53, val_main_v52, val_main_v51,
    val_main_v48, val_main_v47, val_main_v45, val_main_v44, val_main_v43, val_main_v42,
    val_main_cst_2, val_main_cst_3, val_main_cst_5, val_main_cst_6, val_main_cst_7, val_main_cst_9, val_main_cst_10, val_main_cst_11, val_main_cst_13,
    fun r => (moved_at x0 x1 r c).1, fun r => (moved_at x0 x1 r c).2.1, fun r => (moved_at x0 x1 r c).2.2]
  simp only [Fin.sum_univ_one]
  rw [corr_eq_back]
  fin_cases k
  · rw [dif_neg (by decide), dif_neg (by decide), dif_pos (by decide), zero_add, zero_add]
    rfl
  · rw [dif_neg (by decide), dif_pos (by decide), dif_neg (by decide), zero_add, add_zero]
  · rw [dif_pos (by decide), dif_neg (by decide), dif_neg (by decide), add_zero, add_zero]

end Cert.FfnRef

end
-- ==== Proof.Equation.lean ====
/- The program's three results are the reference's three gradients. -/
module

public import proofs.«01_k».proof.Proof.Run
public import proofs.«01_k».proof.Proof.FfnRef

@[expose] public section

set_option maxRecDepth 16384

noncomputable section

open Idealize.ShloMosaic Idealize.ShloMosaic.TcCoe Idealize.SL.Sem

namespace Cert.Equation

open Cert.Taps Cert.ActArray Cert.Products Cert.Run Cert.ReferenceIdeal Cert.ReferenceIdeal.Gen Cert.ReferenceIdeal.Read

variable (x0 : FVec Ideal S2048x2048 .bf16) (x1 : FVec Ideal S2048x11264 .f32) (x2 : FVec Ideal S3x11264 .f32)
  (x3 : FVec Ideal S5632x2048 .f32) (x4 : FVec Ideal S2048x2048 .bf16)

/-- The first weight in blocks, read back by its columns. -/
theorem weightBlocks_at (k : Fin 2048) (j : Fin 11264) :
    weightBlocks x1 (ix4 0 ⟨j.val / 2816, by omega⟩ k ⟨j.val % 2816, Nat.mod_lt _ (by omega)⟩) = x1 (ix2 k j) := by
  pointwise [weightBlocks]

/-- The second weight under its two axes of one. -/
theorem weightLifted_at (c : Fin 5632) (k : Fin 2048) : weightLifted x3 (ix4 0 0 c k) = x3 (ix2 c k) := by
  pointwise [weightLifted]

/-- The first product is the reference's. -/
theorem up_eq : timesBlocked x0 (weightBlocks x1) = FfnRef.up x0 x1 := by
  funext i
  idx_vars i
  pointwise [val_main_v1, val_main_v0]
  exact Finset.sum_congr rfl fun k _ => congrArg (x0 (ix2 i0 k) * ·) (weightBlocks_at x1 k i1)

/-- The cotangent that enters the activation is the reference's. -/
theorem dact_at (s : Fin 2048) (c : Fin 5632) :
    timesTransposed x4 (weightLifted x3) (ix2 s c) = FfnRef.dact x3 x4 (ix2 s c) := by
  pointwise [val_main_v35, val_main_v32]
  exact Finset.sum_congr rfl fun k _ => congrArg (x4 (ix2 s k) * ·) (weightLifted_at x3 c k)

/-- The first product, as the program's regions read it. -/
abbrev X : FVec Ideal S2048x11264 .f32 := timesBlocked x0 (weightBlocks x1)

/-- The cotangent that enters the activation, as the program's regions read it. -/
abbrev D : FVec Ideal S2048x5632 .bf16 := timesTransposed x4 (weightLifted x3)

theorem dact_eq (c : Fin 5632) : (fun s => FfnRef.dact x3 x4 (ix2 s c)) = fun s => D x3 x4 (ix2 s c) :=
  funext fun s => (dact_at x3 x4 s c).symm

/-- The reference's cotangent in the first half of the columns. -/
theorem lo (c : Fin 5632) : (fun s => val_main_v39 (F := Ideal) x0 x1 x2 x3 x4 (ix2 s ⟨c.val, by omega⟩))
    = cA (X x0 x1) x2 (D x3 x4) c := by
  funext s
  rw [FfnRef.cot_lo, ← up_eq, dact_eq]

/-- The reference's cotangent in the second half of the columns. -/
theorem hi (c : Fin 5632) : (fun s => val_main_v39 (F := Ideal) x0 x1 x2 x3 x4 (ix2 s ⟨5632 + c.val, by omega⟩))
    = cB (X x0 x1) x2 (D x3 x4) c := by
  funext s
  rw [FfnRef.cot_hi, ← up_eq, dact_eq]

/-- The activation is the reference's. -/
theorem act_at (r : Fin 2048) (c : Fin 5632) :
    activation (X x0 x1) x2 (ix2 r c) = val_main_v30 (F := Ideal) x0 x1 x2 (ix2 r c) := by
  rw [FfnRef.act_at, ← up_eq]
  rfl

/-- The cotangent of the first product is the reference's. -/
theorem dup_at (r : Fin 2048) (j : Fin 11264) :
    joined (gradXA (X x0 x1) x2 (D x3 x4)) (gradXB (X x0 x1) x2 (D x3 x4)) (ix2 r j)
      = val_main_v72 (F := Ideal) x0 x1 x2 x3 x4 (ix2 r j) := by
  rw [FfnRef.grad_at]
  pointwise [joined]
  split
  · rename_i h
    exact (congrFun (congrArg (convT _) (lo x0 x1 x2 x3 x4 ⟨j.val, h⟩)) r).symm
  · rename_i h
    have e : (⟨5632 + (j.val - 5632), by omega⟩ : Fin 11264) = j := Fin.ext (by dsimp only; omega)
    refine Eq.trans ?_ (congrArg (fun j => convT (FfnRef.taps x2 j) (fun s => val_main_v39 (F := Ideal) x0 x1 x2 x3 x4 (ix2 s j)) r) e)
    exact (congrFun (congrArg (convT _) (hi x0 x1 x2 x3 x4 ⟨j.val - 5632, by omega⟩)) r).symm

/-- The taps' gradient is the reference's. -/
theorem taps_at (k : Fin 3) (j : Fin 11264) :
    joinedTaps (gradWA (X x0 x1) x2 (D x3 x4)) (gradWB (X x0 x1) x2 (D x3 x4)) (ix2 k j)
      = val_main_v70 (F := Ideal) x0 x1 x2 x3 x4 (ix2 k j) := by
  rw [FfnRef.tap_at, ← up_eq]
  pointwise [joinedTaps]
  split
  · rename_i h
    exact (congrArg (fun g => corr k.val g _) (lo x0 x1 x2 x3 x4 ⟨j.val, h⟩)).symm
  · rename_i h
    have e : (⟨5632 + (j.val - 5632), by omega⟩ : Fin 11264) = j := Fin.ext (by dsimp only; omega)
    refine Eq.trans ?_ (congrArg (fun j => corr k.val (fun s => val_main_v39 (F := Ideal) x0 x1 x2 x3 x4 (ix2 s j)) (FfnRef.col (X x0 x1) j)) e)
    exact (congrArg (fun g => corr k.val g _) (hi x0 x1 x2 x3 x4 ⟨j.val - 5632, by omega⟩)).symm

/-- The first weight's gradient. -/
theorem result0 : unblocked (overRowsBlocked x0 (joined (gradXA (X x0 x1) x2 (D x3 x4)) (gradXB (X x0 x1) x2 (D x3 x4))))
    = val_main_v74 (F := Ideal) x0 x1 x2 x3 x4 := by
  funext i
  idx_vars i
  pointwise [unblocked, val_main_v74, val_main_v73, val_main_v0]
  have e : (⟨i1.val / 2816 * 2816 + i1.val % 2816, by omega⟩ : Fin 11264) = i1 := Fin.ext (by dsimp only; omega)
  refine Finset.sum_congr rfl fun r _ => (mul_comm _ _).trans (congrArg (· * x0 (ix2 r i0)) ?_)
  rw [← dup_at]
  exact congrArg (fun j => joined (gradXA (X x0 x1) x2 (D x3 x4)) (gradXB (X x0 x1) x2 (D x3 x4)) (ix2 r j)) e

/-- The taps' gradient. -/
theorem result1 : joinedTaps (gradWA (X x0 x1) x2 (D x3 x4)) (gradWB (X x0 x1) x2 (D x3 x4))
    = val_main_v70 (F := Ideal) x0 x1 x2 x3 x4 := by
  funext i
  idx_vars i
  exact taps_at x0 x1 x2 x3 x4 i0 i1

/-- The second weight's gradient. -/
theorem result2 : lowered (overRows (activation (X x0 x1) x2) x4) = val_main_v34 (F := Ideal) x0 x1 x2 x4 := by
  funext i
  idx_vars i
  pointwise [lowered, val_main_v34, val_main_v33, val_main_v32]
  exact Finset.sum_congr rfl fun r _ => (mul_comm _ _).trans (congrArg (x4 (ix2 r i1) * ·) (act_at x0 x1 x2 r i0))

end Cert.Equation

end
-- ==== Proof.UpX.lean ====
/- The up-projection's backward product against its weight: the block accumulated over the weight's four column
   blocks is the row of the cotangent times the row of the weight, and the array is the reference's. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.UpX

open Cert.Kernel2Ideal Cert.Kernel2Ideal.Gen

/-- An array times the transpose of a weight in four blocks of columns. -/
def timesBlockedT (G : FVec Ideal S2048x11264 .bf16) (U : FVec Ideal S1x4x2048x2816 .bf16) : FVec Ideal S2048x2048 .f32 :=
  fun i => ∑ k : Fin 11264, G (ix2 (i 0) k) * U (ix4 0 ⟨k.val / 2816, by omega⟩ (i 1) ⟨k.val % 2816, Nat.mod_lt _ (by omega)⟩)

/-- The first block's part. -/
theorem part_at (g : Vec Ideal S512x2816 .bf16) (u : Vec Ideal S1x1x2048x2816 .bf16) (j : S512x2048.Idx) :
    k0_pay1 g u j = (0 : EReal) + ∑ k : Fin 2816, g (ix2 (j 0) k) * u (ix4 0 0 (j 1) k) := by
  idx_vars j
  pointwise [k0_pay1]

/-- A further block's part, added to what was there. -/
theorem step_at (g : Vec Ideal S512x2816 .bf16) (u : Vec Ideal S1x1x2048x2816 .bf16) (acc : Vec Ideal S512x2048 .f32) (j : S512x2048.Idx) :
    k0_pay2 g u acc j = acc j + ∑ k : Fin 2816, g (ix2 (j 0) k) * u (ix4 0 0 (j 1) k) := by
  idx_vars j
  pointwise [k0_pay2, k0_pay1]

/-- Where the blocks lie. -/
theorem idx : ∀ t : Fin cfg0.N, win0_0.index t = ![t.val / 4, t.val % 4] ∧ win0_1.index t = ![0, t.val % 4, 0, 0]
    ∧ win0_2.index t = ![t.val / 4, 0] :=
  (by decide +kernel : ∀ t : Fin grid0.N, _)

variable (m : (ℓ : Loc nD τ sig) → Buf (Elt Ideal) ℓ) (c : Dev nD)

/-- The array after the region. -/
theorem final : (dats m 0 c).arrAt 2 (cfgs 0).N = timesBlockedT (V m c main_arg0) (V m c main_v3) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [part_at])
    (fun t h j => by rw [outsAt0_B m c t h (by omega)]; frame_out; rw [step_at])
    t ((flush0_2 t).mp hf) _, zero_add]
  unfold timesBlockedT
  refine Fin.sum_mul_add_congr fun s k hl => ?_
  have ht := lt_of_lt_of_eq t.isLt N_0
  idx_vars y
  blk_point [iblk, idx t, idx ⟨_, Pipeline.run_point_lt_of_flush t ((flush0_2 t).mp hf) s⟩]

/-- The weight in blocks, read back by its columns. -/
theorem blocks_at (k : Fin 11264) (j : Fin 2048) :
    V m c main_v3 (ix4 0 ⟨k.val / 2816, by omega⟩ j ⟨k.val % 2816, Nat.mod_lt _ (by omega)⟩)
      = m ((c : Thread nD τ).loc main_arg1) (ix2 j k) := by
  have h : V m c main_v3 = broadcastInDim S1x4x2048x2816 ![1, 2, 3] bcast_S4x2048x2816_S1x4x2048x2816_1_2_3
      (transpose S4x2048x2816 [1, 0, 2] (shapeCast S2048x4x2816
        (truncf (F := Ideal) .bf16 (m ((c : Thread nD τ).loc main_arg1) : FVec Ideal S2048x11264 .f32) bitsLt_bf16_f32) shapeCasts_S2048x11264_S2048x4x2816)
        transposes_S2048x4x2816_S4x2048x2816_1_0_2) := by
    after_results
    rfl
  rw [h]
  pointwise []

/-- The array after the region is the reference's result. -/
theorem result : (dats m 0 c).arrAt 2 (cfgs 0).N
    = Cert.Reference2Ideal.Read.val_main_v3 (F := Ideal) (m ((c : Thread nD τ).loc main_arg0)) (m ((c : Thread nD τ).loc main_arg1)) := by
  rw [final, V_main_arg0]
  funext i
  idx_vars i
  pointwise [timesBlockedT, Cert.Reference2Ideal.Read.val_main_v3, Cert.Reference2Ideal.Read.val_main_v2]
  exact Finset.sum_congr rfl fun k _ => congrArg (fun z : EReal => (show EReal from m ((c : Thread nD τ).loc main_arg0) (ix2 i0 k)) * z) (blocks_at m c k i1)

end Cert.UpX

end
-- ==== Proof.InX.lean ====
/- The input projection's backward product against its weight: the block accumulated over the weight's four column
   blocks is the row of the cotangent times the row of the weight, and the array is the reference's. -/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InX

open Cert.Kernel3Ideal Cert.Kernel3Ideal.Gen

/-- An array times the transpose of a weight in four blocks of columns. -/
def timesBlockedT (G : FVec Ideal S2048x12800 .bf16) (U : FVec Ideal S1x4x2048x3200 .bf16) : FVec Ideal S2048x2048 .f32 :=
  fun i => ∑ k : Fin 12800, G (ix2 (i 0) k) * U (ix4 0 ⟨k.val / 3200, by omega⟩ (i 1) ⟨k.val % 3200, Nat.mod_lt _ (by omega)⟩)

/-- The first block's part. -/
theorem part_at (g : Vec Ideal S256x3200 .bf16) (u : Vec Ideal S1x1x2048x3200 .bf16) (j : S256x2048.Idx) :
    k0_pay1 g u j = (0 : EReal) + ∑ k : Fin 3200, g (ix2 (j 0) k) * u (ix4 0 0 (j 1) k) := by
  idx_vars j
  pointwise [k0_pay1]

/-- A further block's part, added to what was there. -/
theorem step_at (g : Vec Ideal S256x3200 .bf16) (u : Vec Ideal S1x1x2048x3200 .bf16) (acc : Vec Ideal S256x2048 .f32) (j : S256x2048.Idx) :
    k0_pay2 g u acc j = acc j + ∑ k : Fin 3200, g (ix2 (j 0) k) * u (ix4 0 0 (j 1) k) := by
  idx_vars j
  pointwise [k0_pay2, k0_pay1]

/-- Where the blocks lie. -/
theorem idx : ∀ t : Fin cfg0.N, win0_0.index t = ![t.val / 4, t.val % 4] ∧ win0_1.index t = ![0, t.val % 4, 0, 0]
    ∧ win0_2.index t = ![t.val / 4, 0] :=
  (by decide +kernel : ∀ t : Fin grid0.N, _)

variable (m : (ℓ : Loc nD τ sig) → Buf (Elt Ideal) ℓ) (c : Dev nD)

/-- The array after the region. -/
theorem final : (dats m 0 c).arrAt 2 (cfgs 0).N = timesBlockedT (V m c main_arg0) (V m c main_v3) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [part_at])
    (fun t h j => by rw [outsAt0_B m c t h (by omega)]; frame_out; rw [step_at])
    t ((flush0_2 t).mp hf) _, zero_add]
  unfold timesBlockedT
  refine Fin.sum_mul_add_congr fun s k hl => ?_
  have ht := lt_of_lt_of_eq t.isLt N_0
  idx_vars y
  blk_point [iblk, idx t, idx ⟨_, Pipeline.run_point_lt_of_flush t ((flush0_2 t).mp hf) s⟩]

/-- The weight in blocks, read back by its columns. -/
theorem blocks_at (k : Fin 12800) (j : Fin 2048) :
    V m c main_v3 (ix4 0 ⟨k.val / 3200, by omega⟩ j ⟨k.val % 3200, Nat.mod_lt _ (by omega)⟩)
      = m ((c : Thread nD τ).loc main_arg1) (ix2 j k) := by
  have h : V m c main_v3 = broadcastInDim S1x4x2048x3200 ![1, 2, 3] bcast_S4x2048x3200_S1x4x2048x3200_1_2_3
      (transpose S4x2048x3200 [1, 0, 2] (shapeCast S2048x4x3200
        (truncf (F := Ideal) .bf16 (m ((c : Thread nD τ).loc main_arg1) : FVec Ideal S2048x12800 .f32) bitsLt_bf16_f32) shapeCasts_S2048x12800_S2048x4x3200)
        transposes_S2048x4x3200_S4x2048x3200_1_0_2) := by
    after_results
    rfl
  rw [h]
  pointwise []

/-- The array after the region is the reference's result. -/
theorem result : (dats m 0 c).arrAt 2 (cfgs 0).N
    = Cert.Reference3Ideal.Read.val_main_v3 (F := Ideal) (m ((c : Thread nD τ).loc main_arg0)) (m ((c : Thread nD τ).loc main_arg1)) := by
  rw [final, V_main_arg0]
  funext i
  idx_vars i
  pointwise [timesBlockedT, Cert.Reference3Ideal.Read.val_main_v3, Cert.Reference3Ideal.Read.val_main_v2]
  exact Finset.sum_congr rfl fun k _ => congrArg (fun z : EReal => (show EReal from m ((c : Thread nD τ).loc main_arg0) (ix2 i0 k)) * z) (blocks_at m c k i1)

end Cert.InX

end
-- ==== Proof.Down.lean ====
/- The down-projection: the block accumulated over the four parts of the contraction is the row of the activation
   times the column of the weight, and the array is the reference's. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Down

open Cert.Kernel4Ideal Cert.Kernel4Ideal.Gen

/-- An array times a weight under two axes of one. -/
def timesLifted (A : FVec Ideal S2048x5632 .bf16) (D : FVec Ideal S1x1x5632x2048 .bf16) : FVec Ideal S2048x2048 .f32 :=
  fun i => ∑ k : Fin 5632, A (ix2 (i 0) k) * D (ix4 0 0 k (i 1))

/-- The first part of the contraction. -/
theorem part_at (a : Vec Ideal S2048x1408 .bf16) (d : Vec Ideal S1x1x1408x512 .bf16) (j : S2048x512.Idx) :
    k0_pay1 a d j = (0 : EReal) + ∑ k : Fin 1408, a (ix2 (j 0) k) * d (ix4 0 0 k (j 1)) := by
  idx_vars j
  pointwise [k0_pay1]

/-- A further part, added to what was there. -/
theorem step_at (a : Vec Ideal S2048x1408 .bf16) (d : Vec Ideal S1x1x1408x512 .bf16) (acc : Vec Ideal S2048x512 .f32) (j : S2048x512.Idx) :
    k0_pay2 a d acc j = acc j + ∑ k : Fin 1408, a (ix2 (j 0) k) * d (ix4 0 0 k (j 1)) := by
  idx_vars j
  pointwise [k0_pay2, k0_pay1]

/-- Where the blocks lie. -/
theorem idx : ∀ t : Fin cfg0.N, win0_0.index t = ![0, t.val % 4] ∧ win0_1.index t = ![0, 0, t.val % 4, t.val / 4]
    ∧ win0_2.index t = ![0, t.val / 4] :=
  (by decide +kernel : ∀ t : Fin grid0.N, _)

variable (m : (ℓ : Loc nD τ sig) → Buf (Elt Ideal) ℓ) (c : Dev nD)

/-- The array after the region. -/
theorem final : (dats m 0 c).arrAt 2 (cfgs 0).N = timesLifted (V m c main_arg0) (V m c main_v1) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [part_at])
    (fun t h j => by rw [outsAt0_B m c t h (by omega)]; frame_out; rw [step_at])
    t ((flush0_2 t).mp hf) _, zero_add]
  unfold timesLifted
  refine Fin.sum_mul_add_congr fun s k hl => ?_
  have ht := lt_of_lt_of_eq t.isLt N_0
  idx_vars y
  blk_point [iblk, idx t, idx ⟨_, Pipeline.run_point_lt_of_flush t ((flush0_2 t).mp hf) s⟩]

/-- The weight under its two axes of one. -/
theorem lifted_at (k : Fin 5632) (j : Fin 2048) :
    V m c main_v1 (ix4 0 0 k j) = m ((c : Thread nD τ).loc main_arg1) (ix2 k j) := by
  have h : V m c main_v1 = broadcastInDim S1x1x5632x2048 ![2, 3] bcast_S5632x2048_S1x1x5632x2048_2_3
      (truncf (F := Ideal) .bf16 (m ((c : Thread nD τ).loc main_arg1) : FVec Ideal S5632x2048 .f32) bitsLt_bf16_f32) := by
    after_results
    rfl
  rw [h]
  pointwise []

/-- The array after the region is the reference's result. -/
theorem result : (dats m 0 c).arrAt 2 (cfgs 0).N
    = Cert.Reference4Ideal.Read.val_main_v1 (F := Ideal) (m ((c : Thread nD τ).loc main_arg0)) (m ((c : Thread nD τ).loc main_arg1)) := by
  rw [final, V_main_arg0]
  funext i
  idx_vars i
  pointwise [timesLifted, Cert.Reference4Ideal.Read.val_main_v1, Cert.Reference4Ideal.Read.val_main_v0]
  exact Finset.sum_congr rfl fun k _ => congrArg (fun z : EReal => (show EReal from m ((c : Thread nD τ).loc main_arg0) (ix2 i0 k)) * z) (lifted_at m c k i1)

end Cert.Down

end
-- ==== Proof.InProj.lean ====
/- The input projection, forward and its weight's gradient: two products, chained by the contents at the
   boundaries of their regions, are the reference's two results. -/
module

public import proofs.«01_k».proof.Proof.Gen.Kernel5Ideal.Frame
public import proofs.«01_k».proof.Proof.Gen.Reference5Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.InProj

open Cert.Kernel5Ideal Cert.Kernel5Ideal.Gen

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, the two results at the last boundary's contents and the arguments as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v4 (by decide)), h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end run

/-! ## The two products -/

/-- An array times a weight in four blocks of columns. -/
def timesBlocked (H : FVec Ideal S2048x2048 .bf16) (U : FVec Ideal S1x4x2048x3200 .bf16) : FVec Ideal S2048x12800 .f32 :=
  fun i => ∑ k : Fin 2048, H (ix2 (i 0) k) * U (ix4 0 ⟨(i 1).val / 3200, by have : (i 1).val < 12800 := (i 1).isLt; omega⟩ k ⟨(i 1).val % 3200, Nat.mod_lt _ (by omega)⟩)

/-- The product of two arrays over their rows, its columns in four blocks. -/
def overRowsBlocked (H : FVec Ideal S2048x2048 .bf16) (G : FVec Ideal S2048x12800 .bf16) : FVec Ideal S1x4x2048x3200 .f32 :=
  fun i => ∑ r : Fin 2048, H (ix2 r (i 2)) * G (ix2 r ⟨(i 1).val * 3200 + (i 3).val, by have : (i 1).val < 4 := (i 1).isLt; have : (i 3).val < 3200 := (i 3).isLt; omega⟩)

section regions

variable (V : (c : Dev nD) → (b : Ref sig .tc) → Buf (Elt Ideal) ((c : Thread nD τ).loc b)) (c : Dev nD)

/-- Where the blocks of the forward product lie. -/
theorem idx0 : ∀ t : Fin cfg0.N, win0_0.index t = ![0, 0] ∧ win0_1.index t = ![0, t.val / 5, 0, t.val % 5]
    ∧ win0_2.index t = ![0, t.val] :=
  (by decide +kernel : ∀ t : Fin grid0.N, _)

/-- The forward product, after its region. -/
theorem product0 : (dat0 V c).arrAt 2 cfg0.N = timesBlocked (V c main_arg0) (V c main_v3) := by
  refine (dat0 V c).arrAt_eq_of_covers 2 _ (by decide +kernel) fun t _ y => ?_
  blk_simp
  rw [after0_2]
  unfold out0_2
  frame_out
  have ht := lt_of_lt_of_eq t.isLt N_0
  idx_vars y
  pointwise [k0_pay1, timesBlocked]
  blk_point [iblk0, idx0 t]

/-- Where the blocks of the weight's gradient lie. -/
theorem idx1 : ∀ t : Fin cfg1.N, win1_0.index t = ![0, t.val / 4] ∧ win1_1.index t = ![0, t.val % 4]
    ∧ win1_2.index t = ![0, t.val % 4, t.val / 4, 0] :=
  (by decide +kernel : ∀ t : Fin grid1.N, _)

/-- The weight's gradient, after its region. -/
theorem product1 : (dat1 V c).arrAt 2 cfg1.N = overRowsBlocked (V c main_arg0) (V c main_arg2) := by
  refine (dat1 V c).arrAt_eq_of_covers 2 _ (by decide +kernel) fun t _ y => ?_
  blk_simp
  rw [after1_2]
  unfold outsAt1
  frame_out
  have ht := lt_of_lt_of_eq t.isLt N_1
  idx_vars y
  pointwise [k1_pay1, overRowsBlocked]
  blk_point [iblk1, idx1 t]

end regions

/-! ## The results -/

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The weight in blocks, read back by its columns. -/
theorem blocks_at (k : Fin 2048) (j : Fin 12800) :
    V1 m ρ c main_v3 (ix4 0 ⟨j.val / 3200, by omega⟩ k ⟨j.val % 3200, Nat.mod_lt _ (by omega)⟩) = arg m c main_arg1 (ix2 k j) := by
  have h : W1 m ρ c (Proc.devRef .tc main_v3) = broadcastInDim S1x4x2048x3200 ![1, 2, 3] bcast_S4x2048x3200_S1x4x2048x3200_1_2_3
      (transpose S4x2048x3200 [1, 0, 2] (shapeCast S2048x4x3200
        (truncf (F := Ideal) .bf16 (arg m c main_arg1 : FVec Ideal S2048x12800 .f32) bitsLt_bf16_f32) shapeCasts_S2048x12800_S2048x4x3200)
        transposes_S2048x4x3200_S4x2048x3200_1_0_2) := by
    after_results
    rfl
  rw [show V1 m ρ c main_v3 = _ from h]
  pointwise []

/-- The projection is the reference's. -/
theorem result0 : W5 m ρ c (Proc.devRef .tc main_v4)
    = Cert.Reference5Ideal.Read.val_main_v1 (F := Ideal) (arg m c main_arg0) (arg m c main_arg1) := by
  refine (W5_of m ρ c main_v4 (by decide)).trans ((W4_of m ρ c main_v4 (by decide)).trans ((W3_of m ρ c main_v4 (by decide)).trans
    ((W2_arr m ρ c 2).trans ((product0 (V1 m ρ) c).trans ?_))))
  rw [show V1 m ρ c main_arg0 = _ from W1_args m ρ c main_arg0 (by decide)]
  funext i
  idx_vars i
  pointwise [timesBlocked, Cert.Reference5Ideal.Read.val_main_v1, Cert.Reference5Ideal.Read.val_main_v0]
  exact Finset.sum_congr rfl fun k _ => congrArg (fun z : EReal => (show EReal from arg m c main_arg0 (ix2 i0 k)) * z) (blocks_at m ρ c k i1)

/-- The weight's gradient is the reference's. -/
theorem result1 : W5 m ρ c (Proc.devRef .tc main_v9)
    = Cert.Reference5Ideal.Read.val_main_v4 (F := Ideal) (arg m c main_arg0) (arg m c main_arg2) := by
  have h4 : W4 m ρ c (Proc.devRef .tc main_v6) = overRowsBlocked (arg m c main_arg0) (arg m c main_arg2) :=
    (W4_arr m ρ c 2).trans ((product1 (V3 m ρ) c).trans
      (congrArg₂ overRowsBlocked (W3_args m ρ c main_arg0 (by decide)) (W3_args m ρ c main_arg2 (by decide))))
  have h5 : W5 m ρ c (Proc.devRef .tc main_v9) = shapeCast S2048x12800 (transpose S2048x4x3200 [1, 0, 2]
      (shapeCast S4x2048x3200 (W4 m ρ c (Proc.devRef .tc main_v6) : FVec Ideal S1x4x2048x3200 .f32) shapeCasts_S1x4x2048x3200_S4x2048x3200)
      transposes_S4x2048x3200_S2048x4x3200_1_0_2) shapeCasts_S2048x4x3200_S2048x12800 := by
    after_results
    rfl
  rw [h5, h4]
  funext i
  idx_vars i
  pointwise [Cert.Reference5Ideal.Read.val_main_v4, Cert.Reference5Ideal.Read.val_main_v3, Cert.Reference5Ideal.Read.val_main_v2, Cert.Reference5Ideal.Read.val_main_v0]
  have e : (⟨i1.val / 3200 * 3200 + i1.val % 3200, by omega⟩ : Fin 12800) = i1 := Fin.ext (by dsimp only; omega)
  refine Finset.sum_congr (M := EReal) rfl fun r _ => (mul_comm (G := EReal) _ _).trans ?_
  exact congrArg (fun j => (show EReal from arg m c main_arg2 (ix2 r j)) * (show EReal from arg m c main_arg0 (ix2 r i0))) e

end Cert.InProj

end
-- ==== Proof.BranchX.lean ====
/- A branch projection's backward product against its weight: the block accumulated over the weight's four column
   blocks is the row of the cotangent times the row of the weight, and the array is the reference's. -/
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.BranchX

open Cert.Kernel9Ideal Cert.Kernel9Ideal.Gen

/-- An array times the transpose of a weight in four blocks of columns. -/
def timesBlockedT (G : FVec Ideal S2048x2048 .bf16) (U : FVec Ideal S1x4x512x512 .bf16) : FVec Ideal S2048x512 .f32 :=
  fun i => ∑ k : Fin 2048, G (ix2 (i 0) k) * U (ix4 0 ⟨k.val / 512, by omega⟩ (i 1) ⟨k.val % 512, Nat.mod_lt _ (by omega)⟩)

/-- The first block's part. -/
theorem part_at (g : Vec Ideal S2048x512 .bf16) (u : Vec Ideal S1x1x512x512 .bf16) (j : S2048x512.Idx) :
    k0_pay1 g u j = (0 : EReal) + ∑ k : Fin 512, g (ix2 (j 0) k) * u (ix4 0 0 (j 1) k) := by
  idx_vars j
  pointwise [k0_pay1]

/-- A further block's part, added to what was there. -/
theorem step_at (g : Vec Ideal S2048x512 .bf16) (u : Vec Ideal S1x1x512x512 .bf16) (acc : Vec Ideal S2048x512 .f32) (j : S2048x512.Idx) :
    k0_pay2 g u acc j = acc j + ∑ k : Fin 512, g (ix2 (j 0) k) * u (ix4 0 0 (j 1) k) := by
  idx_vars j
  pointwise [k0_pay2, k0_pay1]

/-- Where the blocks lie. -/
theorem idx : ∀ t : Fin cfg0.N, win0_0.index t = ![0, t.val] ∧ win0_1.index t = ![0, t.val, 0, 0]
    ∧ win0_2.index t = ![0, 0] :=
  (by decide +kernel : ∀ t : Fin grid0.N, _)

variable (m : (ℓ : Loc nD τ sig) → Buf (Elt Ideal) ℓ) (c : Dev nD)

/-- The array after the region. -/
theorem final : (dats m 0 c).arrAt 2 (cfgs 0).N = timesBlockedT (V m c main_arg0) (V m c main_v3) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by have := lt_of_lt_of_eq t.isLt N_0; omega)]; frame_out; rw [part_at])
    (fun t h j => by rw [outsAt0_B m c t h (by omega)]; frame_out; rw [step_at])
    t ((flush0_2 t).mp hf) _, zero_add]
  unfold timesBlockedT
  refine Fin.sum_mul_add_congr fun s k hl => ?_
  have ht := lt_of_lt_of_eq t.isLt N_0
  idx_vars y
  blk_point [iblk, idx t, idx ⟨_, Pipeline.run_point_lt_of_flush t ((flush0_2 t).mp hf) s⟩]

/-- The weight in blocks, read back by its columns. -/
theorem blocks_at (k : Fin 2048) (j : Fin 512) :
    V m c main_v3 (ix4 0 ⟨k.val / 512, by omega⟩ j ⟨k.val % 512, Nat.mod_lt _ (by omega)⟩)
      = m ((c : Thread nD τ).loc main_arg1) (ix2 j k) := by
  have h : V m c main_v3 = broadcastInDim S1x4x512x512 ![1, 2, 3] bcast_S4x512x512_S1x4x512x512_1_2_3
      (transpose S4x512x512 [1, 0, 2] (shapeCast S512x4x512
        (truncf (F := Ideal) .bf16 (m ((c : Thread nD τ).loc main_arg1) : FVec Ideal S512x2048 .f32) bitsLt_bf16_f32) shapeCasts_S512x2048_S512x4x512)
        transposes_S512x4x512_S4x512x512_1_0_2) := by
    after_results
    rfl
  rw [h]
  pointwise []

/-- The array after the region is the reference's result. -/
theorem result : (dats m 0 c).arrAt 2 (cfgs 0).N
    = Cert.Reference9Ideal.Read.val_main_v3 (F := Ideal) (m ((c : Thread nD τ).loc main_arg0)) (m ((c : Thread nD τ).loc main_arg1)) := by
  rw [final, V_main_arg0]
  funext i
  idx_vars i
  pointwise [timesBlockedT, Cert.Reference9Ideal.Read.val_main_v3, Cert.Reference9Ideal.Read.val_main_v2]
  exact Finset.sum_congr rfl fun k _ => congrArg (fun z : EReal => (show EReal from m ((c : Thread nD τ).loc main_arg0) (ix2 i0 k)) * z) (blocks_at m c k i1)

end Cert.BranchX

end
-- ==== Proof.BranchConvX.lean ====
/- The convolution branch's backward product against its weight: the product is gathered in a scratch over the
   weight's four column blocks and written out once, with one rounding, which the reals do not see. -/
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.BranchConvX

open Cert.Kernel10Ideal Cert.Kernel10Ideal.Gen

/-- An array times the transpose of a weight in four blocks of columns. -/
def timesBlockedT (G : FVec Ideal S2048x2048 .bf16) (U : FVec Ideal S1x4x512x512 .bf16) : FVec Ideal S2048x512 .bf16 :=
  fun i => ∑ k : Fin 2048, G (ix2 (i 0) k) * U (ix4 0 ⟨k.val / 512, by omega⟩ (i 1) ⟨k.val % 512, Nat.mod_lt _ (by omega)⟩)

/-- One block's part. -/
theorem part_at (g : Vec Ideal S2048x512 .bf16) (u : Vec Ideal S1x1x512x512 .bf16) (j : S2048x512.Idx) :
    k0_pay2 g u j = (0 : EReal) + ∑ k : Fin 512, g (ix2 (j 0) k) * u (ix4 0 0 (j 1) k) := by
  idx_vars j
  pointwise [k0_pay2, k0_pay1]

/-- A further block's part, added to what the scratch held. -/
theorem step_at (g : Vec Ideal S2048x512 .bf16) (u : Vec Ideal S1x1x512x512 .bf16) (acc : Vec Ideal S2048x512 .f32) (j : S2048x512.Idx) :
    k0_pay3 g u acc j = acc j + ∑ k : Fin 512, g (ix2 (j 0) k) * u (ix4 0 0 (j 1) k) := by
  idx_vars j
  pointwise [k0_pay3, k0_pay1]

/-- Where the blocks lie. -/
theorem idx : ∀ t : Fin cfg0.N, win0_0.index t = ![0, t.val] ∧ win0_1.index t = ![0, t.val, 0, 0]
    ∧ win0_2.index t = ![0, 0] :=
  (by decide +kernel : ∀ t : Fin grid0.N, _)

variable (m : (ℓ : Loc nD τ sig) → Buf (Elt Ideal) ℓ) (c : Dev nD)

/-- What the last point writes out is what the scratch holds. -/
theorem written (t : Fin cfg0.N) (h : t.val % 4 = 3) (j : S2048x512.Idx) :
    (outsAt0 m c t.val t.isLt).1 j = (outsAt0 m c t.val t.isLt).2 j := by
  rw [outsAt0_C m c t (by omega) (by omega) h]
  frame_out
  idx_vars j
  pointwise [k0_pay4]

/-- The scratch after a point that is not the first is one more part added to it. -/
theorem gathered (t : Fin cfg0.N) (h : ¬t.val % 4 = 0) (j : S2048x512.Idx) :
    (outsAt0 m c t.val t.isLt).2 j = k0_pay3 (iblk m c 0 t) (iblk m c 1 t) (outsAt0 m c (t.val - 1) (Nat.lt_of_le_of_lt (Nat.sub_le _ _) t.isLt)).2 j := by
  by_cases h2 : t.val % 4 = 3
  · rw [outsAt0_C m c t h (by omega) h2]
    frame_out
    rw [Memref.IsWhole.read_unread (m := Memref.whole cc0_scratch0)]
  · rw [outsAt0_B m c t h (by omega) h2]
    frame_out
    rw [Memref.IsWhole.read_unread (m := Memref.whole cc0_scratch0)]

/-- The array after the region. -/
theorem final : (dats m 0 c).arrAt 2 (cfgs 0).N = timesBlockedT (V m c main_arg0) (V m c main_v3) := by
  refine (dats m 0 c).arrAt_eq_of_covers 2 _ (by decide +kernel) fun t hf y => ?_
  blk_simp
  rw [after0_2, written m c t ((flush0_2 t).mp hf), Pipeline.eq_sum_fin_of_reset_step_apply_of_flush (fun n h => (outsAt0 m c n h).2) 4 (fun _ => 0) _
    (fun t h j => by rw [outsAt0_A m c t h (by have := lt_of_lt_of_eq t.isLt N_0; omega) (by omega)]; frame_out; rw [part_at])
    (fun t h j => by rw [gathered m c t h, step_at])
    t ((flush0_2 t).mp hf) _, zero_add]
  unfold timesBlockedT
  refine Fin.sum_mul_add_congr fun s k hl => ?_
  have ht := lt_of_lt_of_eq t.isLt N_0
  idx_vars y
  blk_point [iblk, idx t, idx ⟨_, Pipeline.run_point_lt_of_flush t ((flush0_2 t).mp hf) s⟩]

/-- The weight in blocks, read back by its columns. -/
theorem blocks_at (k : Fin 2048) (j : Fin 512) :
    V m c main_v3 (ix4 0 ⟨k.val / 512, by omega⟩ j ⟨k.val % 512, Nat.mod_lt _ (by omega)⟩)
      = m ((c : Thread nD τ).loc main_arg1) (ix2 j k) := by
  have h : V m c main_v3 = broadcastInDim S1x4x512x512 ![1, 2, 3] bcast_S4x512x512_S1x4x512x512_1_2_3
      (transpose S4x512x512 [1, 0, 2] (shapeCast S512x4x512
        (truncf (F := Ideal) .bf16 (m ((c : Thread nD τ).loc main_arg1) : FVec Ideal S512x2048 .f32) bitsLt_bf16_f32) shapeCasts_S512x2048_S512x4x512)
        transposes_S512x4x512_S4x512x512_1_0_2) := by
    after_results
    rfl
  rw [h]
  pointwise []

/-- The array after the region is the reference's result. -/
theorem result : (dats m 0 c).arrAt 2 (cfgs 0).N
    = Cert.Reference10Ideal.Read.val_main_v4 (F := Ideal) (m ((c : Thread nD τ).loc main_arg0)) (m ((c : Thread nD τ).loc main_arg1)) := by
  rw [final, V_main_arg0]
  funext i
  idx_vars i
  pointwise [timesBlockedT, Cert.Reference10Ideal.Read.val_main_v4, Cert.Reference10Ideal.Read.val_main_v3, Cert.Reference10Ideal.Read.val_main_v2]
  exact Finset.sum_congr rfl fun k _ => congrArg (fun z : EReal => (show EReal from m ((c : Thread nD τ).loc main_arg0) (ix2 i0 k)) * z) (blocks_at m c k i1)

end Cert.BranchConvX

end
-- ==== Proof.Branch.lean ====
/- A branch projection, forward and its weight's gradient: two products, chained by the contents at the
   boundaries of their regions, are the reference's two results. -/
module

public import proofs.«01_k».proof.Proof.Gen.Kernel11Ideal.Frame
public import proofs.«01_k».proof.Proof.Gen.Reference11Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Branch

open Cert.Kernel11Ideal Cert.Kernel11Ideal.Gen

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, the two results at the last boundary's contents and the arguments as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v4 (by decide)), h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end run

/-! ## The two products -/

/-- An array times a weight in four blocks of columns. -/
def timesBlocked (H : FVec Ideal S2048x512 .bf16) (U : FVec Ideal S1x4x512x512 .bf16) : FVec Ideal S2048x2048 .f32 :=
  fun i => ∑ k : Fin 512, H (ix2 (i 0) k) * U (ix4 0 ⟨(i 1).val / 512, by have : (i 1).val < 2048 := (i 1).isLt; omega⟩ k ⟨(i 1).val % 512, Nat.mod_lt _ (by omega)⟩)

/-- The product of two arrays over their rows, its columns in four blocks. -/
def overRowsBlocked (H : FVec Ideal S2048x512 .bf16) (G : FVec Ideal S2048x2048 .bf16) : FVec Ideal S1x4x512x512 .f32 :=
  fun i => ∑ r : Fin 2048, H (ix2 r (i 2)) * G (ix2 r ⟨(i 1).val * 512 + (i 3).val, by have : (i 1).val < 4 := (i 1).isLt; have : (i 3).val < 512 := (i 3).isLt; omega⟩)

section regions

variable (V : (c : Dev nD) → (b : Ref sig .tc) → Buf (Elt Ideal) ((c : Thread nD τ).loc b)) (c : Dev nD)

/-- Where the blocks of the forward product lie. -/
theorem idx0 : ∀ t : Fin cfg0.N, win0_0.index t = ![0, 0] ∧ win0_1.index t = ![0, t.val, 0, 0]
    ∧ win0_2.index t = ![0, t.val] :=
  (by decide +kernel : ∀ t : Fin grid0.N, _)

/-- The forward product, after its region. -/
theorem product0 : (dat0 V c).arrAt 2 cfg0.N = timesBlocked (V c main_arg0) (V c main_v3) := by
  refine (dat0 V c).arrAt_eq_of_covers 2 _ (by decide +kernel) fun t _ y => ?_
  blk_simp
  rw [after0_2]
  unfold out0_2
  frame_out
  have ht := lt_of_lt_of_eq t.isLt N_0
  idx_vars y
  pointwise [k0_pay1, timesBlocked]
  blk_point [iblk0, idx0 t]

/-- Where the blocks of the weight's gradient lie. -/
theorem idx1 : ∀ t : Fin cfg1.N, win1_0.index t = ![0, 0] ∧ win1_1.index t = ![0, t.val]
    ∧ win1_2.index t = ![0, t.val, 0, 0] :=
  (by decide +kernel : ∀ t : Fin grid1.N, _)

/-- The weight's gradient, after its region. -/
theorem product1 : (dat1 V c).arrAt 2 cfg1.N = overRowsBlocked (V c main_arg0) (V c main_arg2) := by
  refine (dat1 V c).arrAt_eq_of_covers 2 _ (by decide +kernel) fun t _ y => ?_
  blk_simp
  rw [after1_2]
  unfold outsAt1
  frame_out
  have ht := lt_of_lt_of_eq t.isLt N_1
  idx_vars y
  pointwise [k1_pay1, overRowsBlocked]
  blk_point [iblk1, idx1 t]

end regions

/-! ## The results -/

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The weight in blocks, read back by its columns. -/
theorem blocks_at (k : Fin 512) (j : Fin 2048) :
    V1 m ρ c main_v3 (ix4 0 ⟨j.val / 512, by omega⟩ k ⟨j.val % 512, Nat.mod_lt _ (by omega)⟩) = arg m c main_arg1 (ix2 k j) := by
  have h : W1 m ρ c (Proc.devRef .tc main_v3) = broadcastInDim S1x4x512x512 ![1, 2, 3] bcast_S4x512x512_S1x4x512x512_1_2_3
      (transpose S4x512x512 [1, 0, 2] (shapeCast S512x4x512
        (truncf (F := Ideal) .bf16 (arg m c main_arg1 : FVec Ideal S512x2048 .f32) bitsLt_bf16_f32) shapeCasts_S512x2048_S512x4x512)
        transposes_S512x4x512_S4x512x512_1_0_2) := by
    after_results
    rfl
  rw [show V1 m ρ c main_v3 = _ from h]
  pointwise []

/-- The projected array is the reference's. -/
theorem result0 : W5 m ρ c (Proc.devRef .tc main_v4)
    = Cert.Reference11Ideal.Read.val_main_v1 (F := Ideal) (arg m c main_arg0) (arg m c main_arg1) := by
  refine (W5_of m ρ c main_v4 (by decide)).trans ((W4_of m ρ c main_v4 (by decide)).trans ((W3_of m ρ c main_v4 (by decide)).trans
    ((W2_arr m ρ c 2).trans ((product0 (V1 m ρ) c).trans ?_))))
  rw [show V1 m ρ c main_arg0 = _ from W1_args m ρ c main_arg0 (by decide)]
  funext i
  idx_vars i
  pointwise [timesBlocked, Cert.Reference11Ideal.Read.val_main_v1, Cert.Reference11Ideal.Read.val_main_v0]
  exact Finset.sum_congr rfl fun k _ => congrArg (fun z : EReal => (show EReal from arg m c main_arg0 (ix2 i0 k)) * z) (blocks_at m ρ c k i1)

/-- The weight's gradient is the reference's. -/
theorem result1 : W5 m ρ c (Proc.devRef .tc main_v9)
    = Cert.Reference11Ideal.Read.val_main_v4 (F := Ideal) (arg m c main_arg0) (arg m c main_arg2) := by
  have h4 : W4 m ρ c (Proc.devRef .tc main_v6) = overRowsBlocked (arg m c main_arg0) (arg m c main_arg2) :=
    (W4_arr m ρ c 2).trans ((product1 (V3 m ρ) c).trans
      (congrArg₂ overRowsBlocked (W3_args m ρ c main_arg0 (by decide)) (W3_args m ρ c main_arg2 (by decide))))
  have h5 : W5 m ρ c (Proc.devRef .tc main_v9) = shapeCast S512x2048 (transpose S512x4x512 [1, 0, 2]
      (shapeCast S4x512x512 (W4 m ρ c (Proc.devRef .tc main_v6) : FVec Ideal S1x4x512x512 .f32) shapeCasts_S1x4x512x512_S4x512x512)
      transposes_S4x512x512_S512x4x512_1_0_2) shapeCasts_S512x4x512_S512x2048 := by
    after_results
    rfl
  rw [h5, h4]
  funext i
  idx_vars i
  pointwise [Cert.Reference11Ideal.Read.val_main_v4, Cert.Reference11Ideal.Read.val_main_v3, Cert.Reference11Ideal.Read.val_main_v2, Cert.Reference11Ideal.Read.val_main_v0]
  have e : (⟨i1.val / 512 * 512 + i1.val % 512, by omega⟩ : Fin 2048) = i1 := Fin.ext (by dsimp only; omega)
  refine Finset.sum_congr (M := EReal) rfl fun r _ => (mul_comm (G := EReal) _ _).trans ?_
  exact congrArg (fun j => (show EReal from arg m c main_arg2 (ix2 r j)) * (show EReal from arg m c main_arg0 (ix2 r i0))) e

end Cert.Branch

end
-- ==== Proof.OutX.lean ====
/- The output projection's backward product against its weight: the block accumulated over the weight's two halves
   of columns is the row of the cotangent times the row of the weight, and the array is the reference's. -/
module

public import proofs.«01_k».proof.Proof.Gen.Kernel12Ideal.Value
public import proofs.«01_k».proof.Proof.Gen.Reference12Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OutX

open Cert.Kernel12Ideal Cert.Kernel12Ideal.Gen

/-- An array times the transpose of a weight. -/
def timesLiftedT (G : FVec Ideal S2048x2048 .bf16) (U : FVec Ideal S1x1x2048x2048 .bf16) : FVec Ideal S2048x2048 .f32 :=
  fun i => ∑ k : Fin 2048, G (ix2 (i 0) k) * U (ix4 0 0 (i 1) k)

/-- The first half's part. -/
theorem part_at (g : Vec Ideal S1024x1024 .bf16) (u : Vec Ideal S1x1x2048x1024 .bf16) (j : S1024x2048.Idx) :
    k0_pay1 g u j = (0 : EReal) + ∑ k : Fin 1024, g (ix2 (j 0) k) * u (ix4 0 0 (j 1) k) := by
  idx_vars j
  pointwise [k0_pay1]

/-- The second half's part, added to what was there. -/
theorem step_at (g : Vec Ideal S1024x1024 .bf16) (u : Vec Ideal S1x1x2048x1024 .bf16) (acc : Vec Ideal S1024x2048 .f32) (j : S1024x2048.Idx) :
    k0_pay2 g u acc j = acc j + ∑ k : Fin 1024, g (ix2 (j 0) k) * u (ix4 0 0 (j 1) k) := by
  idx_vars j
  pointwise [k0_pay2, k0_pay1]

/-- Where the blocks lie. -/
theorem idx : ∀ t : Fin cfg0.N, win0_0.index t = ![t.val / 2, t.val % 2] ∧ win0_1.index t = ![0, 0, 0, t.val % 2]
    ∧ win0_2.index t = ![t.val / 2, 0] :=
  (by decide +kernel : ∀ t : Fin grid0.N, _)

variable (m : (ℓ : Loc nD τ sig) → Buf (Elt Ideal) ℓ) (c : Dev nD)

/-- The array after the region. -/
theorem final : (dats m 0 c).arrAt 2 (cfgs 0).N = timesLiftedT (V m c main_arg0) (V m c main_v1) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [part_at])
    (fun t h j => by rw [outsAt0_B m c t h (by omega)]; frame_out; rw [step_at])
    t ((flush0_2 t).mp hf) _, zero_add]
  unfold timesLiftedT
  refine Fin.sum_mul_add_congr fun s k hl => ?_
  have ht := lt_of_lt_of_eq t.isLt N_0
  idx_vars y
  blk_point [iblk, idx t, idx ⟨_, Pipeline.run_point_lt_of_flush t ((flush0_2 t).mp hf) s⟩]

/-- The weight under its two unit axes, read. -/
theorem lifted_at (k j : Fin 2048) :
    V m c main_v1 (ix4 0 0 k j) = m ((c : Thread nD τ).loc main_arg1) (ix2 k j) := by
  have h : V m c main_v1 = broadcastInDim S1x1x2048x2048 ![2, 3] bcast_S2048x2048_S1x1x2048x2048_2_3
      (truncf (F := Ideal) .bf16 (m ((c : Thread nD τ).loc main_arg1) : FVec Ideal S2048x2048 .f32) bitsLt_bf16_f32) := by
    after_results
    rfl
  rw [h]
  pointwise []

/-- The array after the region is the reference's result. -/
theorem result : (dats m 0 c).arrAt 2 (cfgs 0).N
    = Cert.Reference12Ideal.Read.val_main_v3 (F := Ideal) (m ((c : Thread nD τ).loc main_arg0)) (m ((c : Thread nD τ).loc main_arg1)) := by
  rw [final, V_main_arg0]
  funext i
  idx_vars i
  pointwise [timesLiftedT, Cert.Reference12Ideal.Read.val_main_v3, Cert.Reference12Ideal.Read.val_main_v2]
  exact Finset.sum_congr rfl fun k _ => congrArg (fun z : EReal => (show EReal from m ((c : Thread nD τ).loc main_arg0) (ix2 i0 k)) * z) (lifted_at m c i1 k)

end Cert.OutX

end
-- ==== Proof.MixBlock.lean ====
/- What one grid point of the gated convolution's two kernels computes, forward and backward, read at a row and a
   lane of its block, in terms of the columns of the input blocks. -/
module

public import proofs.«01_k».proof.Proof.Gen.Kernel8Ideal.Skeleton
public import proofs.«01_k».proof.Proof.Taps

@[expose] public section

set_option maxRecDepth 16384

noncomputable section

open Idealize.ShloMosaic Idealize.ShloMosaic.TcCoe Idealize.SL.Sem

namespace Cert.MixBlock

open Cert.Kernel8Ideal Cert.Kernel8Ideal.Gen Cert.Taps

/-- The row numbers as the bodies make them. -/
theorem rows_at (r : Fin 2048) (l : Fin 128) :
    (iota .tc S2048x128 32 [0] iota_S2048x128_d0_w32 : IVec S2048x128 32) (ix2 r l) = BitVec.ofNat 32 r.val := by
  pointwise

/-- The row numbers. -/
abbrev rows : IVec S2048x128 32 := iota .tc S2048x128 32 [0] iota_S2048x128_d0_w32

variable (xb xc xh : FVec Ideal S2048x128 .f32) (dy : FVec Ideal S2048x128 .bf16) (w0 w1 w2 : FVec Ideal S1x128 .f32)
  (r : Fin 2048) (l : Fin 128)

/-- What the forward kernel stores: the gate times the convolution of the product of the other two. -/
theorem fwd_at : k0_pay1 (F := Ideal) xb xc xh w0 w1 w2 (ix2 r l) = xb (ix2 r l) * conv ![w0 (ix2 0 l), w1 (ix2 0 l), w2 (ix2 0 l)] (fun s => xc (ix2 s l) * xh (ix2 s l)) r := by
  pointwise [k0_pay1]
  rw [rot_back 1 (by omega) (fun s => w1 (ix2 0 l) * (xc (ix2 s l) * xh (ix2 s l))) r, rot_back 2 (by omega) (fun s => w2 (ix2 0 l) * (xc (ix2 s l) * xh (ix2 s l))) r]
  rfl

/-- The gate's gradient: the cotangent times the same convolution. -/
theorem gate_at : k2_pay6 (F := Ideal) xc xh dy w0 w1 w2 (ix2 r l) = dy (ix2 r l) * conv ![w0 (ix2 0 l), w1 (ix2 0 l), w2 (ix2 0 l)] (fun s => xc (ix2 s l) * xh (ix2 s l)) r := by
  pointwise [k2_pay6, k2_pay5, k2_pay4]
  rw [rot_back 1 (by omega) (fun s => w1 (ix2 0 l) * (xc (ix2 s l) * xh (ix2 s l))) r, rot_back 2 (by omega) (fun s => w2 (ix2 0 l) * (xc (ix2 s l) * xh (ix2 s l))) r]
  rfl

/-- The cotangent of the convolved product: the adjoint convolution. -/
theorem adjoint_at : k2_pay8 (F := Ideal) rows (k2_pay4 dy) w0 w1 w2 xb (ix2 r l) = convT ![w0 (ix2 0 l), w1 (ix2 0 l), w2 (ix2 0 l)] (fun s => dy (ix2 s l) * xb (ix2 s l)) r := by
  pointwise [k2_pay8, k2_pay7, k2_pay4, rows_at]
  rw [rot_fwd 1 2047 (by omega) (by omega) (fun s => w1 (ix2 0 l) * (dy (ix2 s l) * xb (ix2 s l))) r,
    rot_fwd 2 2046 (by omega) (by omega) (fun s => w2 (ix2 0 l) * (dy (ix2 s l) * xb (ix2 s l))) r]
  rfl

/-- The gradient of the first factor. -/
theorem first_at : k2_pay2 (F := Ideal) xh (k2_pay8 rows (k2_pay4 dy) w0 w1 w2 xb) (ix2 r l)
    = convT ![w0 (ix2 0 l), w1 (ix2 0 l), w2 (ix2 0 l)] (fun s => dy (ix2 s l) * xb (ix2 s l)) r * xh (ix2 r l) := by
  have h := adjoint_at xb dy w0 w1 w2 r l
  pointwise [k2_pay2, h]

/-- The gradient of the second factor. -/
theorem second_at : k2_pay3 (F := Ideal) xc (k2_pay8 rows (k2_pay4 dy) w0 w1 w2 xb) (ix2 r l)
    = convT ![w0 (ix2 0 l), w1 (ix2 0 l), w2 (ix2 0 l)] (fun s => dy (ix2 s l) * xb (ix2 s l)) r * xc (ix2 r l) := by
  have h := adjoint_at xb dy w0 w1 w2 r l
  pointwise [k2_pay3, h]

/-- The gradients of the three taps. -/
theorem corr_at :
    k2_pay9 (F := Ideal) (k2_pay4 dy) (k2_pay5 xc xh) xb (ix2 0 l) = corr 0 (fun s => dy (ix2 s l) * xb (ix2 s l)) (fun s => xc (ix2 s l) * xh (ix2 s l))
      ∧ k2_pay10 (F := Ideal) rows (k2_pay4 dy) (k2_pay5 xc xh) xb (ix2 0 l) = corr 1 (fun s => dy (ix2 s l) * xb (ix2 s l)) (fun s => xc (ix2 s l) * xh (ix2 s l))
      ∧ k2_pay1 (F := Ideal) (k2_pay11 rows (k2_pay4 dy) (k2_pay5 xc xh) xb) (ix2 0 l) = corr 2 (fun s => dy (ix2 s l) * xb (ix2 s l)) (fun s => xc (ix2 s l) * xh (ix2 s l)) := by
  refine ⟨?_, ?_, ?_⟩
  · pointwise [k2_pay9, k2_pay7, k2_pay4, k2_pay5]
    exact Finset.sum_congr rfl fun r _ => (if_pos (Nat.zero_le _)).symm
  · pointwise [k2_pay10, k2_pay7, k2_pay4, k2_pay5, rows_at]
    exact Finset.sum_congr rfl fun r _ => sge_prod 1 (by omega) (fun s => dy (ix2 s l) * xb (ix2 s l)) (fun s => xc (ix2 s l) * xh (ix2 s l)) r _
  · pointwise [k2_pay1, k2_pay11, k2_pay7, k2_pay4, k2_pay5, rows_at]
    exact Finset.sum_congr rfl fun r _ => sge_prod 2 (by omega) (fun s => dy (ix2 s l) * xb (ix2 s l)) (fun s => xc (ix2 s l) * xh (ix2 s l)) r _

end Cert.MixBlock

end
-- ==== Proof.MixArray.lean ====
/- The arrays the gated convolution's two kernels leave, forward and backward, each as one function of the arrays its
   region finds, and the gradient of the branch's output weight. -/
module

public import proofs.«01_k».proof.Proof.Gen.Kernel8Ideal.Frame
public import Idealize.ShloMosaic.Lib.Pipeline.ValueKit
public import proofs.«01_k».proof.Proof.MixBlock

@[expose] public section

set_option maxRecDepth 16384

noncomputable section

open Idealize.ShloMosaic Idealize.ShloMosaic.TcCoe Idealize.SL.Sem
open Idealize.ShloMosaic.Pipeline (Dat)

namespace Cert.MixArray

open Cert.Kernel8Ideal Cert.Kernel8Ideal.Gen Cert.Taps Cert.MixBlock

section arrays

variable (X : FVec Ideal S2048x12800 .f32) (W : FVec Ideal S3x512 .f32) (D : FVec Ideal S2048x512 .bf16)

/-- Column `c` of the gate. -/
abbrev gateCol (c : Fin 512) : Col := fun s => X (ix2 s ⟨5120 + c.val, by omega⟩)
/-- Column `c` of the first factor. -/
abbrev firstCol (c : Fin 512) : Col := fun s => X (ix2 s ⟨5632 + c.val, by omega⟩)
/-- Column `c` of the second factor. -/
abbrev secondCol (c : Fin 512) : Col := fun s => X (ix2 s ⟨6144 + c.val, by omega⟩)
/-- Column `c` of the two factors' product. -/
abbrev prodCol (c : Fin 512) : Col := fun s => firstCol X c s * secondCol X c s
/-- The taps of column `c`. -/
abbrev taps (c : Fin 512) : Fin 3 → EReal := fun k => W (ix2 k c)
/-- Column `c` of the cotangent that enters the convolution. -/
abbrev gatedCol (c : Fin 512) : Col := fun s => D (ix2 s c) * gateCol X c s

/-- The branch's array: the gate times the convolution. -/
def mixed : FVec Ideal S2048x512 .bf16 := fun i => gateCol X (i 1) (i 0) * conv (taps W (i 1)) (prodCol X (i 1)) (i 0)
/-- The gate's gradient. -/
def gradGate : FVec Ideal S2048x512 .bf16 := fun i => D (ix2 (i 0) (i 1)) * conv (taps W (i 1)) (prodCol X (i 1)) (i 0)
/-- The first factor's gradient. -/
def gradFirst : FVec Ideal S2048x512 .bf16 := fun i => convT (taps W (i 1)) (gatedCol X D (i 1)) (i 0) * secondCol X (i 1) (i 0)
/-- The second factor's gradient. -/
def gradSecond : FVec Ideal S2048x512 .bf16 := fun i => convT (taps W (i 1)) (gatedCol X D (i 1)) (i 0) * firstCol X (i 1) (i 0)
/-- The taps' gradient. -/
def gradTaps : FVec Ideal S3x512 .f32 := fun i => corr (i 0).val (gatedCol X D (i 1)) (prodCol X (i 1))

/-- The product of two arrays over their rows, its columns in four blocks. -/
def overRowsBlocked (H : FVec Ideal S2048x512 .bf16) (G : FVec Ideal S2048x2048 .bf16) : FVec Ideal S1x4x512x512 .f32 :=
  fun i => ∑ r : Fin 2048, H (ix2 r (i 2)) * G (ix2 r ⟨(i 1).val * 512 + (i 3).val, by have : (i 1).val < 4 := (i 1).isLt; have : (i 3).val < 512 := (i 3).isLt; omega⟩)

end arrays

/-- The product of two blocks' columns. -/
abbrev prod (x y : FVec Ideal S2048x128 .f32) (l : Fin 128) : Col := fun s => x (ix2 s l) * y (ix2 s l)
/-- The product of a cotangent block's column with a gate's. -/
abbrev gated (d : FVec Ideal S2048x128 .bf16) (x : FVec Ideal S2048x128 .f32) (l : Fin 128) : Col := fun s => d (ix2 s l) * x (ix2 s l)

/-- A triple of taps is the function of its three entries. -/
theorem vec3 (f : Fin 3 → EReal) : ![f 0, f 1, f 2] = f := by
  funext k; fin_cases k <;> rfl

variable (V : (c : Dev nD) → (b : Ref sig .tc) → Buf (Elt Ideal) ((c : Thread nD τ).loc b)) (c : Dev nD)

/-! ## The forward kernel -/

/-- Where each window's block lies at a grid point of the forward kernel. -/
theorem idxF : ∀ t : Fin cfg0.N, win0_0.index t = ![0, 40 + t.val] ∧ win0_1.index t = ![0, 44 + t.val] ∧ win0_2.index t = ![0, 48 + t.val]
    ∧ win0_3.index t = ![0, t.val] ∧ win0_4.index t = ![0, t.val] :=
  (by decide +kernel : ∀ t : Fin grid0.N, _)

/-- Column `l` of the block at point `t`. -/
abbrev atF (t : Fin cfg0.N) (l : Fin 128) : Fin 512 :=
  ⟨t.val * 128 + l.val, by have := lt_of_lt_of_eq t.isLt N_0; omega⟩

/-- The columns and the taps a grid point's blocks hold. -/
theorem blocksF (t : Fin cfg0.N) (l : Fin 128) :
    (fun s : Fin 2048 => (iblk0 V c 0 t : FVec Ideal S2048x128 .f32) (ix2 s l)) = gateCol (V c main_arg0) (atF t l)
    ∧ (fun s : Fin 2048 => (iblk0 V c 1 t : FVec Ideal S2048x128 .f32) (ix2 s l)) = firstCol (V c main_arg0) (atF t l)
    ∧ (fun s : Fin 2048 => (iblk0 V c 2 t : FVec Ideal S2048x128 .f32) (ix2 s l)) = secondCol (V c main_arg0) (atF t l)
    ∧ (fun k : Fin 3 => (iblk0 V c 3 t : FVec Ideal S3x128 .f32) (ix2 k l)) = taps (V c main_arg1) (atF t l) := by
  refine ⟨funext fun s => ?_, funext fun s => ?_, funext fun s => ?_, funext fun s => ?_⟩ <;>
    blk_ext [iblk0, idxF t]

/-- The branch's array, after its region. -/
theorem final0 : (dat0 V c).arrAt 4 cfg0.N = mixed (V c main_arg0) (V c main_arg1) := by
  refine (dat0 V c).arrAt_eq_of_covers 4 _ (by decide +kernel) fun t _ y => ?_
  blk_simp
  rw [after0_4]
  unfold out0_4
  frame_out
  idx_vars y
  refine (fwd_at (iblk0 V c 0 t) (iblk0 V c 1 t) (iblk0 V c 2 t) _ _ _ y0 y1).trans ?_
  obtain ⟨hb, hc, hh, hw⟩ := blocksF V c t y1
  pointwise
  refine Eq.trans (b := mixed (V c main_arg0) (V c main_arg1) (ix2 y0 (atF t y1))) ?_ ?_
  · refine congrArg₂ (· * ·) (congrFun hb y0) (congrFun (congrArg₂ conv ((vec3 fun k => (iblk0 V c 3 t : FVec Ideal S3x128 .f32) (ix2 k y1)).trans hw) ?_) y0)
    exact funext fun s => congrArg₂ (fun a b : EReal => a * b) (congrFun hc s) (congrFun hh s)
  · exact congrArg (mixed (V c main_arg0) (V c main_arg1)) (show ix2 y0 (atF t y1) = _ by blk_ext [idxF t])

/-! ## The output weight's gradient -/

/-- Where its blocks lie. -/
theorem idx1 : ∀ t : Fin cfg1.N, win1_0.index t = ![0, 0] ∧ win1_1.index t = ![0, t.val]
    ∧ win1_2.index t = ![0, t.val, 0, 0] :=
  (by decide +kernel : ∀ t : Fin grid1.N, _)

/-- The output weight's gradient, after its region. -/
theorem final1 : (dat1 V c).arrAt 2 cfg1.N = overRowsBlocked (V c main_v0) (V c main_arg2) := by
  refine (dat1 V c).arrAt_eq_of_covers 2 _ (by decide +kernel) fun t _ y => ?_
  blk_simp
  rw [after1_2]
  unfold outsAt1
  frame_out
  have ht := lt_of_lt_of_eq t.isLt N_1
  idx_vars y
  pointwise [k1_pay1, overRowsBlocked]
  blk_point [iblk1, idx1 t]

/-! ## The backward kernel -/

/-- Where each window's block lies at a grid point of the backward kernel. -/
theorem idx : ∀ t : Fin cfg2.N, win2_0.index t = ![0, 40 + t.val] ∧ win2_1.index t = ![0, 44 + t.val] ∧ win2_2.index t = ![0, 48 + t.val]
    ∧ win2_3.index t = ![0, t.val] ∧ win2_4.index t = ![0, t.val] ∧ win2_5.index t = ![0, t.val] ∧ win2_6.index t = ![0, t.val]
    ∧ win2_7.index t = ![0, t.val] ∧ win2_8.index t = ![0, t.val] :=
  (by decide +kernel : ∀ t : Fin grid2.N, _)

/-- Column `l` of the block at point `t`. -/
abbrev at_ (t : Fin cfg2.N) (l : Fin 128) : Fin 512 :=
  ⟨t.val * 128 + l.val, by have := lt_of_lt_of_eq t.isLt N_2; omega⟩

/-- The columns and the taps a grid point's blocks hold. -/
theorem blocks (t : Fin cfg2.N) (l : Fin 128) :
    (fun s : Fin 2048 => (iblk2 V c 0 t : FVec Ideal S2048x128 .f32) (ix2 s l)) = gateCol (V c main_arg0) (at_ t l)
    ∧ (fun s : Fin 2048 => (iblk2 V c 1 t : FVec Ideal S2048x128 .f32) (ix2 s l)) = firstCol (V c main_arg0) (at_ t l)
    ∧ (fun s : Fin 2048 => (iblk2 V c 2 t : FVec Ideal S2048x128 .f32) (ix2 s l)) = secondCol (V c main_arg0) (at_ t l)
    ∧ (fun k : Fin 3 => (iblk2 V c 3 t : FVec Ideal S3x128 .f32) (ix2 k l)) = taps (V c main_arg1) (at_ t l)
    ∧ (fun s : Fin 2048 => (iblk2 V c 4 t : FVec Ideal S2048x128 .bf16) (ix2 s l))
        = fun s => (V c main_arg3 : FVec Ideal S2048x512 .bf16) (ix2 s (at_ t l)) := by
  refine ⟨funext fun s => ?_, funext fun s => ?_, funext fun s => ?_, funext fun s => ?_, funext fun s => ?_⟩ <;>
    blk_ext [iblk2, idx t]

/-- The product's column, the cotangent's and the triple of taps at a grid point, from its blocks. -/
theorem cols (t : Fin cfg2.N) (l : Fin 128) :
    prod (iblk2 V c 1 t) (iblk2 V c 2 t) l = prodCol (V c main_arg0) (at_ t l)
    ∧ gated (iblk2 V c 4 t) (iblk2 V c 0 t) l = gatedCol (V c main_arg0) (V c main_arg3) (at_ t l)
    ∧ ![(iblk2 V c 3 t : FVec Ideal S3x128 .f32) (ix2 0 l), (iblk2 V c 3 t : FVec Ideal S3x128 .f32) (ix2 1 l), (iblk2 V c 3 t : FVec Ideal S3x128 .f32) (ix2 2 l)]
        = taps (V c main_arg1) (at_ t l) := by
  obtain ⟨hb, hc, hh, hw, hd⟩ := blocks V c t l
  exact ⟨funext fun s => congrArg₂ (fun a b : EReal => a * b) (congrFun hc s) (congrFun hh s),
    funext fun s => congrArg₂ (fun a b : EReal => a * b) (congrFun hd s) (congrFun hb s),
    (vec3 fun k => (iblk2 V c 3 t : FVec Ideal S3x128 .f32) (ix2 k l)).trans hw⟩

/-- The gate's gradient, after the run. -/
theorem final5 : (dat2 V c).arrAt 5 cfg2.N = gradGate (V c main_arg0) (V c main_arg1) (V c main_arg3) := by
  refine (dat2 V c).arrAt_eq_of_covers 5 _ (by decide +kernel) fun t _ y => ?_
  blk_simp
  rw [after2_5]
  unfold_out out2_5
  frame_out
  idx_vars y
  refine (gate_at (iblk2 V c 1 t) (iblk2 V c 2 t) (iblk2 V c 4 t) _ _ _ y0 y1).trans ?_
  pointwise
  refine Eq.trans (b := gradGate (V c main_arg0) (V c main_arg1) (V c main_arg3) (ix2 y0 (at_ t y1))) ?_ ?_
  · exact congrArg₂ (· * ·) (congrFun (blocks V c t y1).2.2.2.2 y0) (congrFun (congrArg₂ conv (cols V c t y1).2.2 (cols V c t y1).1) y0)
  · exact congrArg (gradGate (V c main_arg0) (V c main_arg1) (V c main_arg3)) (show ix2 y0 (at_ t y1) = _ by blk_ext [idx t])

/-- The first factor's gradient, after the run. -/
theorem final6 : (dat2 V c).arrAt 6 cfg2.N = gradFirst (V c main_arg0) (V c main_arg1) (V c main_arg3) := by
  refine (dat2 V c).arrAt_eq_of_covers 6 _ (by decide +kernel) fun t _ y => ?_
  blk_simp
  rw [after2_6]
  unfold_out out2_6
  frame_out
  idx_vars y
  refine (first_at (iblk2 V c 0 t) (iblk2 V c 2 t) (iblk2 V c 4 t) _ _ _ y0 y1).trans ?_
  pointwise
  refine Eq.trans (b := gradFirst (V c main_arg0) (V c main_arg1) (V c main_arg3) (ix2 y0 (at_ t y1))) ?_ ?_
  · exact congrArg₂ (· * ·) (congrFun (congrArg₂ convT (cols V c t y1).2.2 (cols V c t y1).2.1) y0) (congrFun (blocks V c t y1).2.2.1 y0)
  · exact congrArg (gradFirst (V c main_arg0) (V c main_arg1) (V c main_arg3)) (show ix2 y0 (at_ t y1) = _ by blk_ext [idx t])

/-- The second factor's gradient, after the run. -/
theorem final7 : (dat2 V c).arrAt 7 cfg2.N = gradSecond (V c main_arg0) (V c main_arg1) (V c main_arg3) := by
  refine (dat2 V c).arrAt_eq_of_covers 7 _ (by decide +kernel) fun t _ y => ?_
  blk_simp
  rw [after2_7]
  unfold_out out2_7
  frame_out
  idx_vars y
  refine (second_at (iblk2 V c 0 t) (iblk2 V c 1 t) (iblk2 V c 4 t) _ _ _ y0 y1).trans ?_
  pointwise
  refine Eq.trans (b := gradSecond (V c main_arg0) (V c main_arg1) (V c main_arg3) (ix2 y0 (at_ t y1))) ?_ ?_
  · exact congrArg₂ (· * ·) (congrFun (congrArg₂ convT (cols V c t y1).2.2 (cols V c t y1).2.1) y0) (congrFun (blocks V c t y1).2.1 y0)
  · exact congrArg (gradSecond (V c main_arg0) (V c main_arg1) (V c main_arg3)) (show ix2 y0 (at_ t y1) = _ by blk_ext [idx t])

set_option maxHeartbeats 1000000 in
/-- The taps' gradient, after the run. -/
theorem final8 : (dat2 V c).arrAt 8 cfg2.N = gradTaps (V c main_arg0) (V c main_arg3) := by
  refine (dat2 V c).arrAt_eq_of_covers 8 _ (by decide +kernel) fun t _ y => ?_
  blk_simp
  rw [after2_8]
  unfold_out out2_8
  canon_tiles x h
  all_goals
    idx_vars x
    obtain rfl : x0 = 0 := Subsingleton.elim _ _
  case' piece0 => refine (corr_at (View.ld (iblk2 V c 0 t) r2_0) (View.ld (iblk2 V c 1 t) r2_0) (View.ld (iblk2 V c 2 t) r2_0) (View.ld (iblk2 V c 4 t) r2_0) x1).2.2.trans ?_
  case' piece1 => refine (corr_at (View.ld (iblk2 V c 0 t) r2_0) (View.ld (iblk2 V c 1 t) r2_0) (View.ld (iblk2 V c 2 t) r2_0) (View.ld (iblk2 V c 4 t) r2_0) x1).2.1.trans ?_
  case' piece2 => refine (corr_at (View.ld (iblk2 V c 0 t) r2_0) (View.ld (iblk2 V c 1 t) r2_0) (View.ld (iblk2 V c 2 t) r2_0) (View.ld (iblk2 V c 4 t) r2_0) x1).1.trans ?_
  all_goals
    pointwise
    refine (congrArg₂ (corr _) (cols V c t x1).2.1 (cols V c t x1).1).trans ?_
  case piece0 => exact congrArg (gradTaps (V c main_arg0) (V c main_arg3)) (show ix2 2 (at_ t x1) = _ by blk_ext [idx t])
  case piece1 => exact congrArg (gradTaps (V c main_arg0) (V c main_arg3)) (show ix2 1 (at_ t x1) = _ by blk_ext [idx t])
  case piece2 => exact congrArg (gradTaps (V c main_arg0) (V c main_arg3)) (show ix2 0 (at_ t x1) = _ by blk_ext [idx t])

end Cert.MixArray

end
-- ==== Proof.MixRef.lean ====
/- The gated convolution's reference read at an index: the branch's array and its gradients in terms of the columns
   of the projection, of the taps and of the cotangent. -/
module

public import proofs.«01_k».proof.Proof.Gen.Reference8Ideal.Read
public import proofs.«01_k».proof.Proof.Taps

@[expose] public section

set_option maxRecDepth 16384

noncomputable section

open Idealize.ShloMosaic Idealize.ShloMosaic.TcCoe Idealize.SL.Sem

namespace Cert.MixRef

open Cert.Reference8Ideal Cert.Reference8Ideal.Gen Cert.Reference8Ideal.Read Cert.Taps

variable (X : FVec Ideal S2048x12800 .f32) (W : FVec Ideal S3x512 .f32) (Y : FVec Ideal S2048x2048 .bf16) (D : FVec Ideal S2048x512 .bf16)

/-- Column `c` of the gate. -/
abbrev gateCol (c : Fin 512) : Col := fun s => X (ix2 s ⟨5120 + c.val, by omega⟩)
/-- Column `c` of the first factor. -/
abbrev firstCol (c : Fin 512) : Col := fun s => X (ix2 s ⟨5632 + c.val, by omega⟩)
/-- Column `c` of the second factor. -/
abbrev secondCol (c : Fin 512) : Col := fun s => X (ix2 s ⟨6144 + c.val, by omega⟩)
/-- Column `c` of the two factors' product. -/
abbrev prodCol (c : Fin 512) : Col := fun s => firstCol X c s * secondCol X c s
/-- The taps of column `c`. -/
abbrev taps (c : Fin 512) : Fin 3 → EReal := fun k => W (ix2 k c)
/-- Column `c` of the cotangent that enters the convolution. -/
abbrev gatedCol (c : Fin 512) : Col := fun s => D (ix2 s c) * gateCol X c s

/-- The three parts of the projection's columns. -/
theorem parts_at (r : Fin 2048) (c : Fin 512) :
    val_main_v1 (F := Ideal) X (ix2 r c) = gateCol X c r ∧ val_main_v2 (F := Ideal) X (ix2 r c) = firstCol X c r
      ∧ val_main_v3 (F := Ideal) X (ix2 r c) = secondCol X c r := by
  refine ⟨?_, ?_, ?_⟩
  · pointwise [val_main_v1, val_main_v0]
  · pointwise [val_main_v2, val_main_v0]
    exact congrArg (fun q => X (ix2 r q)) (Fin.ext (by show 5120 + (512 + c.val) = 5632 + c.val; omega))
  · pointwise [val_main_v3, val_main_v0]
    exact congrArg (fun q => X (ix2 r q)) (Fin.ext (by show 5120 + (1024 + c.val) = 6144 + c.val; omega))

/-- The product of the two factors. -/
theorem prod_at (r : Fin 2048) (c : Fin 512) : val_main_v4 (F := Ideal) X (ix2 r c) = prodCol X c r := by
  obtain ⟨-, h2, h3⟩ := parts_at X r c
  pointwise [val_main_v4, h2, h3]

/-- The padded product under each tap is the product moved down by as many rows. -/
theorem moved_at (r : Fin 2048) (c : Fin 512) :
    val_main_v10 (F := Ideal) X (ix2 r c) = prodCol X c r
      ∧ val_main_v18 (F := Ideal) X (ix2 r c) = back 1 (prodCol X c) r
      ∧ val_main_v25 (F := Ideal) X (ix2 r c) = back 2 (prodCol X c) r := by
  have hp : ∀ r, val_main_v4 (F := Ideal) X (ix2 r c) = prodCol X c r := fun r => prod_at X r c
  unfold val_main_v10 val_main_v18 val_main_v25 val_main_v6
  generalize val_main_v4 (F := Ideal) X = Z at hp
  refine ⟨?_, ?_, ?_⟩
  · rw [← hp]
    pointwise [val_main_v5, val_main_cst]
  · rw [show prodCol X c = fun s => Z (ix2 s c) from funext fun s => (hp s).symm]
    pointwise [val_main_v5, val_main_cst]
    unfold back
    by_cases h : 1 ≤ r.val
    · rw [if_pos h, dif_neg (by omega)]
      exact congrArg (fun q => Z (ix2 q c)) (Fin.ext (by show 1 + r.val - 2 = r.val - 1; omega))
    · rw [if_neg h, dif_pos (by omega)]
  · rw [show prodCol X c = fun s => Z (ix2 s c) from funext fun s => (hp s).symm]
    pointwise [val_main_v5, val_main_cst]
    unfold back
    by_cases h : 2 ≤ r.val
    · rw [if_pos h, dif_neg (by omega)]
    · rw [if_neg h, dif_pos (by omega)]

/-- The causal convolution of the product. -/
theorem conv_at (r : Fin 2048) (c : Fin 512) : val_main_v29 (F := Ideal) X W (ix2 r c) = conv (taps W c) (prodCol X c) r := by
  obtain ⟨h10, h18, h25⟩ := moved_at X r c
  pointwise [val_main_v29, val_main_v28, val_main_v27, val_main_v26, val_main_v24, val_main_v23, val_main_v22, val_main_v21,
    val_main_v20, val_main_v19, val_main_v17, val_main_v16, val_main_v15, val_main_v14, val_main_v13, val_main_v12, val_main_v11,
    val_main_v9, val_main_v8, val_main_cst_1]
  rw [h10, h18, h25, mul_back, mul_back]
  rfl

/-- The branch's array: the gate times the convolution. -/
theorem mixed_at (r : Fin 2048) (c : Fin 512) :
    val_main_v30 (F := Ideal) X W (ix2 r c) = gateCol X c r * conv (taps W c) (prodCol X c) r := by
  have h1 := (parts_at X r c).1
  have h29 := conv_at X W r c
  pointwise [val_main_v30, h1, h29]

/-- The cotangent that enters the convolution. -/
theorem gated_at (r : Fin 2048) (c : Fin 512) : val_main_v32 (F := Ideal) X D (ix2 r c) = gatedCol X D c r := by
  have h1 := (parts_at X r c).1
  pointwise [val_main_v32, val_main_v31, h1]
  exact mul_comm (G := EReal) _ _

/-- The gate's gradient. -/
theorem gate_at (r : Fin 2048) (c : Fin 512) :
    val_main_v33 (F := Ideal) X W D (ix2 r c) = D (ix2 r c) * conv (taps W c) (prodCol X c) r := by
  have h29 := conv_at X W r c
  pointwise [val_main_v33, val_main_v31, h29]

/-- The cotangent of the product: the adjoint convolution. -/
theorem adjoint_at (r : Fin 2048) (c : Fin 512) :
    val_main_v66 (F := Ideal) X W D (ix2 r c) = convT (taps W c) (gatedCol X D c) r := by
  have hg : ∀ r, val_main_v32 (F := Ideal) X D (ix2 r c) = gatedCol X D c r := fun r => gated_at X D r c
  rw [show gatedCol X D c = fun s => val_main_v32 (F := Ideal) X D (ix2 s c) from funext fun s => (hg s).symm]
  pointwise [val_main_v66, val_main_v61, val_main_v60, val_main_v55, val_main_v54, val_main_v50, val_main_v49, val_main_v44,
    val_main_v43, val_main_v40, val_main_v35, val_main_v34, val_main_v26, val_main_v24, val_main_v23, val_main_v19, val_main_v17,
    val_main_v16, val_main_v11, val_main_v9, val_main_v8, val_main_cst_4, val_main_cst_8, val_main_cst_12]
  rw [add_comm, add_comm (dite _ _ _), ← add_assoc]
  refine congrArg₂ (· + ·) (congrArg₂ (· + ·) rfl ?_) ?_
  · refine Eq.trans ?_ (fwd_dite 1 _ r).symm
    by_cases h : r.val + 1 < 2048
    · rw [dif_pos (by omega), dif_pos h]
      exact congrArg (fun q => W (ix2 1 c) * val_main_v32 (F := Ideal) X D (ix2 q c)) (Fin.ext (by show 2 + r.val - 1 = r.val + 1; omega))
    · rw [dif_neg (by omega), dif_neg h]
  · refine Eq.trans ?_ (fwd_dite 2 _ r).symm
    by_cases h : r.val + 2 < 2048
    · rw [dif_pos (by omega), dif_pos h]
      exact congrArg (fun q => W (ix2 2 c) * val_main_v32 (F := Ideal) X D (ix2 q c)) (Fin.ext (by show 2 + r.val = r.val + 2; omega))
    · rw [dif_neg (by omega), dif_neg h]

/-- The two factors' gradients. -/
theorem factors_at (r : Fin 2048) (c : Fin 512) :
    val_main_v68 (F := Ideal) X W D (ix2 r c) = convT (taps W c) (gatedCol X D c) r * secondCol X c r
      ∧ val_main_v67 (F := Ideal) X W D (ix2 r c) = convT (taps W c) (gatedCol X D c) r * firstCol X c r := by
  have h66 := adjoint_at X W D r c
  obtain ⟨-, h2, h3⟩ := parts_at X r c
  refine ⟨?_, ?_⟩
  · pointwise [val_main_v68, h66, h3]
  · pointwise [val_main_v67, h66, h2]
    exact mul_comm (G := EReal) _ _

/-- The gradient of the taps. -/
theorem tap_at (k : Fin 3) (c : Fin 512) :
    val_main_v64 (F := Ideal) X D (ix2 k c) = corr k.val (gatedCol X D c) (prodCol X c) := by
  have hg : ∀ r, val_main_v32 (F := Ideal) X D (ix2 r c) = gatedCol X D c r := fun r => gated_at X D r c
  pointwise [val_main_v64, val_main_v63, val_main_v62, val_main_v59, val_main_v58, val_main_v57, val_main_v56,
    val_main_v53, val_main_v52, val_main_v51, val_main_v48, val_main_v47, val_main_v46, val_main_v45,
    val_main_v42, val_main_v41, val_main_v39, val_main_v38, val_main_v37, val_main_v36,
    val_main_cst_2, val_main_cst_3, val_main_cst_5, val_main_cst_6, val_main_cst_7, val_main_cst_9, val_main_cst_10, val_main_cst_11, val_main_cst_13,
    hg, fun r => (moved_at X r c).1, fun r => (moved_at X r c).2.1, fun r => (moved_at X r c).2.2]
  simp only [Fin.sum_univ_one]
  rw [corr_eq_back]
  fin_cases k
  · rw [dif_neg (by decide), dif_neg (by decide), dif_pos (by decide), zero_add, zero_add]
    rfl
  · rw [dif_neg (by decide), dif_pos (by decide), dif_neg (by decide), zero_add, add_zero]
  · rw [dif_pos (by decide), dif_neg (by decide), dif_neg (by decide), add_zero, add_zero]

end Cert.MixRef

end
-- ==== Proof.Mix.lean ====
/- The convolution branch's backward run: the branch's array, its output weight's gradient and the gradients of the
   projection's columns and of the taps, chained through their regions, are the reference's three results. -/
module

public import proofs.«01_k».proof.Proof.MixArray
public import proofs.«01_k».proof.Proof.MixRef
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Mix

open Cert.Kernel8Ideal Cert.Kernel8Ideal.Gen Cert.Taps Cert.MixArray

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, the three results at the last boundary's contents and the arguments as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v3_3) = W5 m ρ c (Proc.devRef .tc main_v3_3)
      ∧ r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v4 (by decide)),
       h c _ (mem_uc main_v3_3 (by decide)),
       h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end run

/-! ## The results -/

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The gate's gradient is the reference's. -/
theorem gate_eq (X : FVec Ideal S2048x12800 .f32) (W : FVec Ideal S3x512 .f32) (D : FVec Ideal S2048x512 .bf16) :
    gradGate X W D = truncf .bf16 (Cert.Reference8Ideal.Read.val_main_v33 (F := Ideal) X W D) bitsLt_bf16_f32 := by
  funext i
  idx_vars i
  exact (Cert.MixRef.gate_at X W D i0 i1).symm

/-- The first factor's gradient is the reference's. -/
theorem first_eq (X : FVec Ideal S2048x12800 .f32) (W : FVec Ideal S3x512 .f32) (D : FVec Ideal S2048x512 .bf16) :
    gradFirst X W D = truncf .bf16 (Cert.Reference8Ideal.Read.val_main_v68 (F := Ideal) X W D) bitsLt_bf16_f32 := by
  funext i
  idx_vars i
  exact (Cert.MixRef.factors_at X W D i0 i1).1.symm

/-- The second factor's gradient is the reference's. -/
theorem second_eq (X : FVec Ideal S2048x12800 .f32) (W : FVec Ideal S3x512 .f32) (D : FVec Ideal S2048x512 .bf16) :
    gradSecond X W D = truncf .bf16 (Cert.Reference8Ideal.Read.val_main_v67 (F := Ideal) X W D) bitsLt_bf16_f32 := by
  funext i
  idx_vars i
  exact (Cert.MixRef.factors_at X W D i0 i1).2.symm

/-- The gradient of the projection's columns is the reference's. -/
theorem result0 : W5 m ρ c (Proc.devRef .tc main_v4)
    = Cert.Reference8Ideal.Read.val_main_v71 (F := Ideal) (arg m c main_arg0) (arg m c main_arg1) (arg m c main_arg3) := by
  have a0 : V3 m ρ c main_arg0 = arg m c main_arg0 := W3_args m ρ c main_arg0 (by decide)
  have a1 : V3 m ρ c main_arg1 = arg m c main_arg1 := W3_args m ρ c main_arg1 (by decide)
  have a3 : V3 m ρ c main_arg3 = arg m c main_arg3 := W3_args m ρ c main_arg3 (by decide)
  have h0 : W4 m ρ c (Proc.devRef .tc main_v3_0) = _ := (W4_arr m ρ c 5).trans ((final5 (V3 m ρ) c).trans ((congr (congrArg₂ gradGate a0 a1) a3).trans (gate_eq _ _ _)))
  have h1 : W4 m ρ c (Proc.devRef .tc main_v3_1) = _ := (W4_arr m ρ c 6).trans ((final6 (V3 m ρ) c).trans ((congr (congrArg₂ gradFirst a0 a1) a3).trans (first_eq _ _ _)))
  have h2 : W4 m ρ c (Proc.devRef .tc main_v3_2) = _ := (W4_arr m ρ c 7).trans ((final7 (V3 m ρ) c).trans ((congr (congrArg₂ gradSecond a0 a1) a3).trans (second_eq _ _ _)))
  have h5 : W5 m ρ c (Proc.devRef .tc main_v4) = concatenate S2048x1536 1
      [⟨S2048x512, (W4 m ρ c (Proc.devRef .tc main_v3_0) : FVec Ideal S2048x512 .bf16)⟩, ⟨S2048x512, (W4 m ρ c (Proc.devRef .tc main_v3_1) : FVec Ideal S2048x512 .bf16)⟩,
        ⟨S2048x512, (W4 m ρ c (Proc.devRef .tc main_v3_2) : FVec Ideal S2048x512 .bf16)⟩] concatenates_S2048x512_S2048x512_S2048x512_S2048x1536_d1 := by
    after_results
    rfl
  rw [h5, h0, h1, h2]
  funext i
  idx_vars i
  pointwise [Cert.Reference8Ideal.Read.val_main_v71, Cert.Reference8Ideal.Read.val_main_v69]

/-- The gradient of the taps is the reference's. -/
theorem result1 : W5 m ρ c (Proc.devRef .tc main_v3_3)
    = Cert.Reference8Ideal.Read.val_main_v64 (F := Ideal) (arg m c main_arg0) (arg m c main_arg3) := by
  refine (W5_of m ρ c main_v3_3 (by decide)).trans ((W4_arr m ρ c 8).trans ((final8 (V3 m ρ) c).trans ?_))
  rw [show V3 m ρ c main_arg0 = _ from W3_args m ρ c main_arg0 (by decide), show V3 m ρ c main_arg3 = _ from W3_args m ρ c main_arg3 (by decide)]
  funext i
  idx_vars i
  exact (Cert.MixRef.tap_at _ _ i0 i1).symm

/-- The output weight's gradient is the reference's. -/
theorem result2 : W5 m ρ c (Proc.devRef .tc main_v7)
    = Cert.Reference8Ideal.Read.val_main_v75 (F := Ideal) (arg m c main_arg0) (arg m c main_arg1) (arg m c main_arg2) := by
  have h2 : V2 m ρ c main_v0 = mixed (arg m c main_arg0) (arg m c main_arg1) :=
    (W2_of m ρ c main_v0 (by decide)).trans ((W1_arr m ρ c 4).trans (final0 (V0 m ρ) c))
  have h4 : W4 m ρ c (Proc.devRef .tc main_v2) = overRowsBlocked (mixed (arg m c main_arg0) (arg m c main_arg1)) (arg m c main_arg2) :=
    (W4_of m ρ c main_v2 (by decide)).trans ((W3_arr m ρ c 2).trans ((final1 (V2 m ρ) c).trans
      (congrArg₂ overRowsBlocked h2 (W2_args m ρ c main_arg2 (by decide)))))
  have h5 : W5 m ρ c (Proc.devRef .tc main_v7) = shapeCast S512x2048 (transpose S512x4x512 [1, 0, 2]
      (shapeCast S4x512x512 (W4 m ρ c (Proc.devRef .tc main_v2) : FVec Ideal S1x4x512x512 .f32) shapeCasts_S1x4x512x512_S4x512x512)
      transposes_S4x512x512_S512x4x512_1_0_2) shapeCasts_S512x4x512_S512x2048 := by
    after_results
    rfl
  rw [h5, h4]
  funext i
  idx_vars i
  have hm := fun r => Cert.MixRef.mixed_at (arg m c main_arg0) (arg m c main_arg1) r i0
  pointwise [Cert.Reference8Ideal.Read.val_main_v75, Cert.Reference8Ideal.Read.val_main_v74, Cert.Reference8Ideal.Read.val_main_v73]
  have e : (⟨i1.val / 512 * 512 + i1.val % 512, by omega⟩ : Fin 2048) = i1 := Fin.ext (by dsimp only; omega)
  refine Finset.sum_congr (M := EReal) rfl fun r _ => (mul_comm (G := EReal) _ _).trans ?_
  exact congrArg₂ (fun a b : EReal => a * b) (congrArg (fun j => (show EReal from arg m c main_arg2 (ix2 r j))) e) (hm r).symm

end Cert.Mix

end
-- ==== Proof.MergeArray.lean ====
/- The five regions of the merge of the three branches and of the output projection, each as one function of the
   arrays its region finds: the convolution branch and its projection, the gated sum, the product with the output
   weight and that weight's gradient. -/
module

public import proofs.«01_k».proof.Proof.Gen.Kernel6Ideal.Frame
public import Idealize.ShloMosaic.Lib.Pipeline.ValueKit
public import proofs.«01_k».proof.Proof.MixArray

@[expose] public section

set_option maxRecDepth 16384

noncomputable section

open Idealize.ShloMosaic Idealize.ShloMosaic.TcCoe Idealize.SL.Sem
open Idealize.ShloMosaic.Pipeline (Dat)

namespace Cert.MergeArray

open Cert.Kernel6Ideal Cert.Kernel6Ideal.Gen Cert.Taps
open Cert.MixArray (gateCol firstCol secondCol taps prodCol mixed vec3)

/-- An array times a weight in four blocks of columns. -/
def timesBlocked (H : FVec Ideal S2048x512 .bf16) (U : FVec Ideal S1x4x512x512 .bf16) : FVec Ideal S2048x2048 .f32 :=
  fun i => ∑ k : Fin 512, H (ix2 (i 0) k) * U (ix4 0 ⟨(i 1).val / 512, by have : (i 1).val < 2048 := (i 1).isLt; omega⟩ k ⟨(i 1).val % 512, Nat.mod_lt _ (by omega)⟩)

/-- The three branches' arrays, each times its gate, summed: a gate is the logistic function of the projection's column and
    the gate's offset. -/
def merged (X : FVec Ideal S2048x12800 .f32) (p q y : FVec Ideal S2048x2048 .f32) (b0 b1 b2 : FVec Ideal S1x2048 .f32) : FVec Ideal S2048x2048 .bf16 :=
  fun i => Ideal.logistic (X (ix2 (i 0) ⟨6656 + (i 1).val, by have : (i 1).val < 2048 := (i 1).isLt; omega⟩) + b0 (ix2 0 (i 1))) * p (ix2 (i 0) (i 1))
    + Ideal.logistic (X (ix2 (i 0) ⟨8704 + (i 1).val, by have : (i 1).val < 2048 := (i 1).isLt; omega⟩) + b1 (ix2 0 (i 1))) * q (ix2 (i 0) (i 1))
    + Ideal.logistic (X (ix2 (i 0) ⟨10752 + (i 1).val, by have : (i 1).val < 2048 := (i 1).isLt; omega⟩) + b2 (ix2 0 (i 1))) * y (ix2 (i 0) (i 1))

/-- An array times a weight under two unit axes. -/
def timesLifted (H : FVec Ideal S2048x2048 .bf16) (U : FVec Ideal S1x1x2048x2048 .bf16) : FVec Ideal S2048x2048 .f32 :=
  fun i => ∑ k : Fin 2048, H (ix2 (i 0) k) * U (ix4 0 0 k (i 1))

/-- The product of two arrays over their rows, under two unit axes. -/
def overRows (H G : FVec Ideal S2048x2048 .bf16) : FVec Ideal S1x1x2048x2048 .f32 :=
  fun i => ∑ r : Fin 2048, H (ix2 r (i 2)) * G (ix2 r (i 3))

variable (V : (c : Dev nD) → (b : Ref sig .tc) → Buf (Elt Ideal) ((c : Thread nD τ).loc b)) (c : Dev nD)

/-- The convolution's body is the one of the branch's backward run. -/
theorem fwd_at (xb xc xh : FVec Ideal S2048x128 .f32) (w0 w1 w2 : FVec Ideal S1x128 .f32) (r : Fin 2048) (l : Fin 128) :
    k0_pay1 (F := Ideal) xb xc xh w0 w1 w2 (ix2 r l)
      = xb (ix2 r l) * conv ![w0 (ix2 0 l), w1 (ix2 0 l), w2 (ix2 0 l)] (fun s => xc (ix2 s l) * xh (ix2 s l)) r :=
  Cert.MixBlock.fwd_at xb xc xh w0 w1 w2 r l

/-! ## The branch's array -/

/-- Where each window's block lies at a grid point of the forward kernel. -/
theorem idx0 : ∀ t : Fin cfg0.N, win0_0.index t = ![0, 40 + t.val] ∧ win0_1.index t = ![0, 44 + t.val] ∧ win0_2.index t = ![0, 48 + t.val]
    ∧ win0_3.index t = ![0, t.val] ∧ win0_4.index t = ![0, t.val] :=
  (by decide +kernel : ∀ t : Fin grid0.N, _)

/-- Column `l` of the block at point `t`. -/
abbrev at0 (t : Fin cfg0.N) (l : Fin 128) : Fin 512 :=
  ⟨t.val * 128 + l.val, by have := lt_of_lt_of_eq t.isLt N_0; omega⟩

/-- The columns and the taps a grid point's blocks hold. -/
theorem blocks0 (t : Fin cfg0.N) (l : Fin 128) :
    (fun s : Fin 2048 => (iblk0 V c 0 t : FVec Ideal S2048x128 .f32) (ix2 s l)) = gateCol (V c main_arg0) (at0 t l)
    ∧ (fun s : Fin 2048 => (iblk0 V c 1 t : FVec Ideal S2048x128 .f32) (ix2 s l)) = firstCol (V c main_arg0) (at0 t l)
    ∧ (fun s : Fin 2048 => (iblk0 V c 2 t : FVec Ideal S2048x128 .f32) (ix2 s l)) = secondCol (V c main_arg0) (at0 t l)
    ∧ (fun k : Fin 3 => (iblk0 V c 3 t : FVec Ideal S3x128 .f32) (ix2 k l)) = taps (V c main_arg1) (at0 t l) := by
  refine ⟨funext fun s => ?_, funext fun s => ?_, funext fun s => ?_, funext fun s => ?_⟩ <;>
    blk_ext [iblk0, idx0 t]

/-- The branch's array, after its region. -/
theorem final0 : (dat0 V c).arrAt 4 cfg0.N = mixed (V c main_arg0) (V c main_arg1) := by
  refine (dat0 V c).arrAt_eq_of_covers 4 _ (by decide +kernel) fun t _ y => ?_
  blk_simp
  rw [after0_4]
  unfold out0_4
  frame_out
  idx_vars y
  refine (fwd_at (iblk0 V c 0 t) (iblk0 V c 1 t) (iblk0 V c 2 t) _ _ _ y0 y1).trans ?_
  obtain ⟨hb, hc, hh, hw⟩ := blocks0 V c t y1
  pointwise
  refine Eq.trans (b := mixed (V c main_arg0) (V c main_arg1) (ix2 y0 (at0 t y1))) ?_ ?_
  · refine congrArg₂ (· * ·) (congrFun hb y0) (congrFun (congrArg₂ conv ((vec3 fun k => (iblk0 V c 3 t : FVec Ideal S3x128 .f32) (ix2 k y1)).trans hw) ?_) y0)
    exact funext fun s => congrArg₂ (fun a b : EReal => a * b) (congrFun hc s) (congrFun hh s)
  · exact congrArg (mixed (V c main_arg0) (V c main_arg1)) (show ix2 y0 (at0 t y1) = _ by blk_ext [idx0 t])

/-! ## The branch's projection -/

/-- Where its blocks lie. -/
theorem idx1 : ∀ t : Fin cfg1.N, win1_0.index t = ![0, 0] ∧ win1_1.index t = ![0, t.val, 0, 0]
    ∧ win1_2.index t = ![0, t.val] :=
  (by decide +kernel : ∀ t : Fin grid1.N, _)

/-- The projected branch, after its region. -/
theorem final1 : (dat1 V c).arrAt 2 cfg1.N = timesBlocked (V c main_v0) (V c main_v4) := by
  refine (dat1 V c).arrAt_eq_of_covers 2 _ (by decide +kernel) fun t _ y => ?_
  blk_simp
  rw [after1_2]
  unfold out1_2
  frame_out
  have ht := lt_of_lt_of_eq t.isLt N_1
  idx_vars y
  pointwise [k1_pay1, timesBlocked]
  blk_point [iblk1, idx1 t]

/-! ## The gated sum -/

/-- Where its blocks lie. -/
theorem idx2 : ∀ t : Fin cfg2.N, win2_0.index t = ![t.val / 4, 13 + t.val % 4] ∧ win2_1.index t = ![t.val / 4, 17 + t.val % 4]
    ∧ win2_2.index t = ![t.val / 4, 21 + t.val % 4] ∧ win2_3.index t = ![t.val / 4, t.val % 4] ∧ win2_4.index t = ![t.val / 4, t.val % 4]
    ∧ win2_5.index t = ![t.val / 4, t.val % 4] ∧ win2_6.index t = ![0, t.val % 4] ∧ win2_7.index t = ![0, t.val % 4]
    ∧ win2_8.index t = ![0, t.val % 4] ∧ win2_9.index t = ![t.val / 4, t.val % 4] :=
  (by decide +kernel : ∀ t : Fin grid2.N, _)

/-- The gated sum, after its region. -/
theorem final2 : (dat2 V c).arrAt 9 cfg2.N
    = merged (V c main_arg0) (V c main_arg3) (V c main_arg4) (V c main_v5) (V c main_v8) (V c main_v10) (V c main_v12) := by
  refine (dat2 V c).arrAt_eq_of_covers 9 _ (by decide +kernel) fun t _ y => ?_
  blk_simp
  rw [after2_9]
  unfold out2_9
  frame_out
  have ht := lt_of_lt_of_eq t.isLt N_2
  idx_vars y
  pointwise [k2_pay1, merged]
  blk_point [iblk2, idx2 t]

/-! ## The output projection -/

/-- Where its blocks lie. -/
theorem idx3 : ∀ t : Fin cfg3.N, win3_0.index t = ![0, 0] ∧ win3_1.index t = ![0, 0, 0, t.val]
    ∧ win3_2.index t = ![0, t.val] :=
  (by decide +kernel : ∀ t : Fin grid3.N, _)

/-- The product with the output weight, after its region. -/
theorem final3 : (dat3 V c).arrAt 2 cfg3.N = timesLifted (V c main_v13) (V c main_v15) := by
  refine (dat3 V c).arrAt_eq_of_covers 2 _ (by decide +kernel) fun t _ y => ?_
  blk_simp
  rw [after3_2]
  unfold out3_2
  frame_out
  have ht := lt_of_lt_of_eq t.isLt N_3
  idx_vars y
  pointwise [k3_pay1, timesLifted]
  blk_point [iblk3, idx3 t]

/-- Where the blocks of the weight's gradient lie. -/
theorem idx4 : ∀ t : Fin cfg4.N, win4_0.index t = ![0, 0] ∧ win4_1.index t = ![0, t.val]
    ∧ win4_2.index t = ![0, 0, 0, t.val] :=
  (by decide +kernel : ∀ t : Fin grid4.N, _)

/-- The output weight's gradient, after its region. -/
theorem final4 : (dat4 V c).arrAt 2 cfg4.N = overRows (V c main_v13) (V c main_arg7) := by
  refine (dat4 V c).arrAt_eq_of_covers 2 _ (by decide +kernel) fun t _ y => ?_
  blk_simp
  rw [after4_2]
  unfold outsAt4
  frame_out
  have ht := lt_of_lt_of_eq t.isLt N_4
  idx_vars y
  pointwise [k4_pay1, overRows]
  blk_point [iblk4, idx4 t]

end Cert.MergeArray

end
-- ==== Proof.Merge.lean ====
/- The merge of the three branches and the output projection, forward and its weight's gradient: the five regions,
   chained by the contents at their boundaries, are the reference's two results. -/
module

public import proofs.«01_k».proof.Proof.MergeArray
public import proofs.«01_k».proof.Proof.MixRef
public import proofs.«01_k».proof.Proof.Gen.Reference6Ideal.Read
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Merge

open Cert.Kernel6Ideal Cert.Kernel6Ideal.Gen Cert.Taps Cert.MergeArray
open Cert.MixArray (mixed)

section run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, the two results at the last boundary's contents and the arguments as launched. -/
theorem run : θ_run defs (onTc (τ := τ) (main (F := F))) ⟨m, fun _ => 0, ρ⟩ (fun r => ∀ c : Dev nD,
      r.2.mem ((c.tc : Thread nD τ).loc main_v16) = W10 m ρ c (Proc.devRef .tc main_v16)
      ∧ r.2.mem ((c.tc : Thread nD τ).loc main_v19) = W10 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨h c _ (mem_uc main_v16 (by decide)),
       h c _ (mem_uc main_v19 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end run

/-! ## The results -/

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The branch's weight in blocks, read back by its columns. -/
theorem blocks_at (k : Fin 512) (j : Fin 2048) :
    V2 m ρ c main_v4 (ix4 0 ⟨j.val / 512, by omega⟩ k ⟨j.val % 512, Nat.mod_lt _ (by omega)⟩) = arg m c main_arg2 (ix2 k j) := by
  have h : W2 m ρ c (Proc.devRef .tc main_v4) = broadcastInDim S1x4x512x512 ![1, 2, 3] bcast_S4x512x512_S1x4x512x512_1_2_3
      (transpose S4x512x512 [1, 0, 2] (shapeCast S512x4x512
        (truncf (F := Ideal) .bf16 (W1 m ρ c (Proc.devRef .tc main_arg2) : FVec Ideal S512x2048 .f32) bitsLt_bf16_f32) shapeCasts_S512x2048_S512x4x512)
        transposes_S512x4x512_S4x512x512_1_0_2) := by
    after_results
    rfl
  rw [show V2 m ρ c main_v4 = _ from h, W1_args m ρ c main_arg2 (by decide)]
  pointwise []

/-- The branch's array is the reference's. -/
theorem mixed_at (X : FVec Ideal S2048x12800 .f32) (W : FVec Ideal S3x512 .f32) (r : Fin 2048) (k : Fin 512) :
    mixed X W (ix2 r k) = Cert.Reference6Ideal.Read.val_main_v29 (F := Ideal) X W (ix2 r k) :=
  (Cert.MixRef.mixed_at X W r k).symm

/-- The projected branch is the reference's. -/
theorem branch : V4 m ρ c main_v5 = Cert.Reference6Ideal.Read.val_main_v30 (F := Ideal) (arg m c main_arg0) (arg m c main_arg1) (arg m c main_arg2) := by
  have h2 : V2 m ρ c main_v0 = mixed (arg m c main_arg0) (arg m c main_arg1) :=
    (W2_of m ρ c main_v0 (by decide)).trans ((W1_arr m ρ c 4).trans (final0 (V0 m ρ) c))
  refine (W4_of m ρ c main_v5 (by decide)).trans ((W3_arr m ρ c 2).trans ((final1 (V2 m ρ) c).trans ?_))
  rw [h2]
  funext i
  idx_vars i
  pointwise [timesBlocked, Cert.Reference6Ideal.Read.val_main_v30]
  exact Finset.sum_congr rfl fun k _ => congrArg₂ (fun a b : EReal => a * b) (mixed_at _ _ i0 k) (blocks_at m ρ c k i1)

/-- A gate's offsets, read in their row. -/
theorem offsets_at (j : Fin 2048) :
    V4 m ρ c main_v8 (ix2 0 j) = arg m c main_arg5 (ix1 ⟨j.val, by omega⟩)
      ∧ V4 m ρ c main_v10 (ix2 0 j) = arg m c main_arg5 (ix1 ⟨2048 + j.val, by omega⟩)
      ∧ V4 m ρ c main_v12 (ix2 0 j) = arg m c main_arg5 (ix1 ⟨4096 + j.val, by omega⟩) := by
  have h3 : W3 m ρ c (Proc.devRef .tc main_arg5) = arg m c main_arg5 := W3_args m ρ c main_arg5 (by decide)
  have h8 : W4 m ρ c (Proc.devRef .tc main_v8) = shapeCast S1x2048 (extractStridedSlice S1x1x2048 ![0, 0, 0]
      (shapeCast S3x1x2048 (W3 m ρ c (Proc.devRef .tc main_arg5) : FVec Ideal S6144 .f32) shapeCasts_S6144_S3x1x2048) slices_S3x1x2048_S1x1x2048_0_0_0) shapeCasts_S1x1x2048_S1x2048 := by
    after_results
    rfl
  have h10 : W4 m ρ c (Proc.devRef .tc main_v10) = shapeCast S1x2048 (extractStridedSlice S1x1x2048 ![1, 0, 0]
      (shapeCast S3x1x2048 (W3 m ρ c (Proc.devRef .tc main_arg5) : FVec Ideal S6144 .f32) shapeCasts_S6144_S3x1x2048) slices_S3x1x2048_S1x1x2048_1_0_0) shapeCasts_S1x1x2048_S1x2048 := by
    after_results
    rfl
  have h12 : W4 m ρ c (Proc.devRef .tc main_v12) = shapeCast S1x2048 (extractStridedSlice S1x1x2048 ![2, 0, 0]
      (shapeCast S3x1x2048 (W3 m ρ c (Proc.devRef .tc main_arg5) : FVec Ideal S6144 .f32) shapeCasts_S6144_S3x1x2048) slices_S3x1x2048_S1x1x2048_2_0_0) shapeCasts_S1x1x2048_S1x2048 := by
    after_results
    rfl
  rw [h3] at h8 h10 h12
  rw [show V4 m ρ c main_v8 = _ from h8, show V4 m ρ c main_v10 = _ from h10, show V4 m ρ c main_v12 = _ from h12]
  refine ⟨?_, ?_, ?_⟩
  · pointwise []
  · pointwise []
  · pointwise []

/-- The gated sum is the reference's. -/
theorem merged_eq : W5 m ρ c (Proc.devRef .tc main_v13)
    = (truncf .bf16 (Cert.Reference6Ideal.Read.val_main_v52 (F := Ideal) (arg m c main_arg0) (arg m c main_arg1) (arg m c main_arg2)
        (arg m c main_arg3) (arg m c main_arg4) (arg m c main_arg5)) bitsLt_bf16_f32 : FVec Ideal S2048x2048 .bf16) := by
  refine (W5_arr m ρ c 9).trans ((final2 (V4 m ρ) c).trans ?_)
  rw [branch, show V4 m ρ c main_arg0 = _ from W4_args m ρ c main_arg0 (by decide), show V4 m ρ c main_arg3 = _ from W4_args m ρ c main_arg3 (by decide),
    show V4 m ρ c main_arg4 = _ from W4_args m ρ c main_arg4 (by decide)]
  funext i
  idx_vars i
  obtain ⟨o0, o1, o2⟩ := offsets_at m ρ c i1
  generalize V4 m ρ c main_v8 = B0 at *
  generalize V4 m ρ c main_v10 = B1 at *
  generalize V4 m ρ c main_v12 = B2 at *
  unfold merged Cert.Reference6Ideal.Read.val_main_v52 Cert.Reference6Ideal.Read.val_main_v51
  generalize Cert.Reference6Ideal.Read.val_main_v30 (F := Ideal) (arg m c main_arg0) (arg m c main_arg1) (arg m c main_arg2) = Y
  pointwise [Cert.Reference6Ideal.Read.val_main_v48, Cert.Reference6Ideal.Read.val_main_v50, Cert.Reference6Ideal.Read.val_main_v49,
    Cert.Reference6Ideal.Read.val_main_v47, Cert.Reference6Ideal.Read.val_main_v46, Cert.Reference6Ideal.Read.val_main_v45,
    Cert.Reference6Ideal.Read.val_main_v44, Cert.Reference6Ideal.Read.val_main_v43, Cert.Reference6Ideal.Read.val_main_v42,
    Cert.Reference6Ideal.Read.val_main_v41, Cert.Reference6Ideal.Read.val_main_v40, Cert.Reference6Ideal.Read.val_main_v39,
    Cert.Reference6Ideal.Read.val_main_v38, Cert.Reference6Ideal.Read.val_main_v37, Cert.Reference6Ideal.Read.val_main_v36,
    Cert.Reference6Ideal.Read.val_main_v35, Cert.Reference6Ideal.Read.val_main_v34, Cert.Reference6Ideal.Read.val_main_v33,
    Cert.Reference6Ideal.Read.val_main_v32, Cert.Reference6Ideal.Read.val_main_v31, Cert.Reference6Ideal.Read.val_main_cst_1,
    Cert.Reference6Ideal.Read.val_main_cst_2, o0, o1, o2]
  simp only [← Nat.add_assoc, Nat.reduceAdd]
  rfl

/-- The output weight under its two unit axes, read. -/
theorem lifted_at (k j : Fin 2048) : V6 m ρ c main_v15 (ix4 0 0 k j) = arg m c main_arg6 (ix2 k j) := by
  have h : W6 m ρ c (Proc.devRef .tc main_v15) = broadcastInDim S1x1x2048x2048 ![2, 3] bcast_S2048x2048_S1x1x2048x2048_2_3
      (truncf (F := Ideal) .bf16 (W5 m ρ c (Proc.devRef .tc main_arg6) : FVec Ideal S2048x2048 .f32) bitsLt_bf16_f32) := by
    after_results
  rw [show V6 m ρ c main_v15 = _ from h, W5_args m ρ c main_arg6 (by decide)]
  exact congrArg (show S2048x2048.Idx → EReal from arg m c main_arg6) (funext fun a => by fin_cases a <;> rfl)

/-- The output projection is the reference's. -/
theorem result0 : W10 m ρ c (Proc.devRef .tc main_v16)
    = Cert.Reference6Ideal.Read.val_main_v53 (F := Ideal) (arg m c main_arg0) (arg m c main_arg1) (arg m c main_arg2)
        (arg m c main_arg3) (arg m c main_arg4) (arg m c main_arg5) (arg m c main_arg6) := by
  refine (W10_of m ρ c main_v16 (by decide)).trans ((W9_of m ρ c main_v16 (by decide)).trans ((W8_of m ρ c main_v16 (by decide)).trans
    ((W7_arr m ρ c 2).trans ((final3 (V6 m ρ) c).trans ?_))))
  rw [show V6 m ρ c main_v13 = _ from (W6_of m ρ c main_v13 (by decide)).trans (merged_eq m ρ c)]
  unfold Cert.Reference6Ideal.Read.val_main_v53
  generalize Cert.Reference6Ideal.Read.val_main_v52 (F := Ideal) (arg m c main_arg0) (arg m c main_arg1) (arg m c main_arg2)
    (arg m c main_arg3) (arg m c main_arg4) (arg m c main_arg5) = M
  funext i
  idx_vars i
  pointwise [timesLifted]
  exact Finset.sum_congr rfl fun k _ => congrArg (fun z : EReal => (show EReal from M (ix2 i0 k)) * z) (lifted_at m ρ c k i1)

/-- The output weight's gradient is the reference's. -/
theorem result1 : W10 m ρ c (Proc.devRef .tc main_v19)
    = Cert.Reference6Ideal.Read.val_main_v56 (F := Ideal) (arg m c main_arg0) (arg m c main_arg1) (arg m c main_arg2)
        (arg m c main_arg3) (arg m c main_arg4) (arg m c main_arg5) (arg m c main_arg7) := by
  have h8 : V8 m ρ c main_v13 = _ := (W8_of m ρ c main_v13 (by decide)).trans ((W7_of m ρ c main_v13 (by decide)).trans
    ((W6_of m ρ c main_v13 (by decide)).trans (merged_eq m ρ c)))
  have h9 : W9 m ρ c (Proc.devRef .tc main_v18) = _ := (W9_arr m ρ c 2).trans ((final4 (V8 m ρ) c).trans
    (congrArg₂ overRows h8 (W8_args m ρ c main_arg7 (by decide))))
  have h10 : W10 m ρ c (Proc.devRef .tc main_v19) = shapeCast S2048x2048
      (W9 m ρ c (Proc.devRef .tc main_v18) : FVec Ideal S1x1x2048x2048 .f32) shapeCasts_S1x1x2048x2048_S2048x2048 := by
    after_results
    rfl
  rw [h10, h9]
  unfold Cert.Reference6Ideal.Read.val_main_v56 Cert.Reference6Ideal.Read.val_main_v55
  generalize Cert.Reference6Ideal.Read.val_main_v52 (F := Ideal) (arg m c main_arg0) (arg m c main_arg1) (arg m c main_arg2)
    (arg m c main_arg3) (arg m c main_arg4) (arg m c main_arg5) = M
  funext i
  idx_vars i
  pointwise [overRows, Cert.Reference6Ideal.Read.val_main_v54]
  exact Finset.sum_congr (M := EReal) rfl fun r _ => mul_comm (G := EReal) _ _

end Cert.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.AdamLarge
public import proofs.«01_k».proof.Proof.AdamSmall
public import proofs.«01_k».proof.Proof.ModGrad
public import proofs.«01_k».proof.Proof.Equation
public import proofs.«01_k».proof.Proof.UpX
public import proofs.«01_k».proof.Proof.InX
public import proofs.«01_k».proof.Proof.Down
public import proofs.«01_k».proof.Proof.InProj
public import proofs.«01_k».proof.Proof.BranchX
public import proofs.«01_k».proof.Proof.BranchConvX
public import proofs.«01_k».proof.Proof.Branch
public import proofs.«01_k».proof.Proof.OutX
public import proofs.«01_k».proof.Proof.Mix
public import proofs.«01_k».proof.Proof.Merge
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its arguments as they were and has no semaphores. -/
theorem quiescent_reference : Cert.quiescent_ReferenceIdeal := by
  intro m g _
  run_from Cert.ReferenceIdeal.Value.run m g
  · exact fun _ => ⟨trivial, trivial, trivial, trivial, trivial⟩
  · exact sem_eq_zero_of_no_sems (by decide) _

/-- The feed-forward step's gradients are its reference's. -/
theorem algebraic : Cert.algebraic_KernelIdeal_ReferenceIdeal := by
  pair_intro
  · run_from Cert.Run.run m g
  · run_from Cert.ReferenceIdeal.Value.run m' g'
    · rw [Cert.ReferenceIdeal.Read.val_main_v74_eq, (hagree c).1, (hagree c).2.1, (hagree c).2.2.1, (hagree c).2.2.2.1, (hagree c).2.2.2.2]
      exact ((Cert.Run.result0 m g c).trans (Cert.Equation.result0 _ _ _ _ _)).symm
    · rw [Cert.ReferenceIdeal.Read.val_main_v70_eq, (hagree c).1, (hagree c).2.1, (hagree c).2.2.1, (hagree c).2.2.2.1, (hagree c).2.2.2.2]
      exact ((Cert.Run.result1 m g c).trans (Cert.Equation.result1 _ _ _ _ _)).symm
    · rw [Cert.ReferenceIdeal.Read.val_main_v34_eq, (hagree c).1, (hagree c).2.1, (hagree c).2.2.1, (hagree c).2.2.2.2]
      exact ((Cert.Run.result2 m g c).trans (Cert.Equation.result2 _ _ _ _)).symm

/-- The reference of the up-projection's input gradient runs, leaves its arguments as they were and has no semaphores. -/
theorem quiescent_reference2 : Cert.quiescent_Reference2Ideal := by
  intro m g _
  run_from Cert.Reference2Ideal.Value.run m g
  · exact fun _ => ⟨trivial, trivial⟩
  · exact sem_eq_zero_of_no_sems (by decide) _

/-- The up-projection's input gradient is its reference's. -/
theorem algebraic2 : Cert.algebraic_Kernel2Ideal_Reference2Ideal := by
  pair_intro
  · run_from Cert.Kernel2Ideal.Value.run_blocks m g
  · run_from Cert.Reference2Ideal.Value.run m' g'
    · exact (Cert.UpX.result m c).symm

/-- The reference of the input projection's input gradient runs, leaves its arguments as they were and has no semaphores. -/
theorem quiescent_reference3 : Cert.quiescent_Reference3Ideal := by
  intro m g _
  run_from Cert.Reference3Ideal.Value.run m g
  · exact fun _ => ⟨trivial, trivial⟩
  · exact sem_eq_zero_of_no_sems (by decide) _

/-- The input projection's input gradient is its reference's. -/
theorem algebraic3 : Cert.algebraic_Kernel3Ideal_Reference3Ideal := by
  pair_intro
  · run_from Cert.Kernel3Ideal.Value.run_blocks m g
  · run_from Cert.Reference3Ideal.Value.run m' g'
    · exact (Cert.InX.result m c).symm

/-- The reference of the down-projection runs, leaves its arguments as they were and has no semaphores. -/
theorem quiescent_reference4 : Cert.quiescent_Reference4Ideal := by
  intro m g _
  run_from Cert.Reference4Ideal.Value.run m g
  · exact fun _ => ⟨trivial, trivial⟩
  · exact sem_eq_zero_of_no_sems (by decide) _

/-- The down-projection is its reference's. -/
theorem algebraic4 : Cert.algebraic_Kernel4Ideal_Reference4Ideal := by
  pair_intro
  · run_from Cert.Kernel4Ideal.Value.run_blocks m g
  · run_from Cert.Reference4Ideal.Value.run m' g'
    · exact (Cert.Down.result m c).symm

/-- The reference of the input projection runs, leaves its arguments as they were and has no semaphores. -/
theorem quiescent_reference5 : Cert.quiescent_Reference5Ideal := by
  intro m g _
  run_from Cert.Reference5Ideal.Value.run m g
  · exact fun _ => ⟨trivial, trivial, trivial⟩
  · exact sem_eq_zero_of_no_sems (by decide) _

/-- The input projection and its weight's gradient are its reference's. -/
theorem algebraic5 : Cert.algebraic_Kernel5Ideal_Reference5Ideal := by
  pair_intro
  · run_from Cert.InProj.run m g
  · run_from Cert.Reference5Ideal.Value.run m' g'
    · exact (Cert.InProj.result0 m g c).symm
    · rw [Cert.Reference5Ideal.Read.val_main_v4_eq]
      exact (Cert.InProj.result1 m g c).symm

/-- The reference of the merge runs, leaves its arguments as they were and has no semaphores. -/
theorem quiescent_reference6 : Cert.quiescent_Reference6Ideal := by
  intro m g _
  run_from Cert.Reference6Ideal.Value.run m g
  · exact fun _ => ⟨trivial, trivial, trivial, trivial, trivial, trivial, trivial, trivial⟩
  · exact sem_eq_zero_of_no_sems (by decide) _

set_option maxHeartbeats 2000000 in
/-- The merged branches times the output weight, and that weight's gradient, are the reference's. -/
theorem algebraic6 : Cert.algebraic_Kernel6Ideal_Reference6Ideal := by
  pair_intro
  · run_from Cert.Merge.run m g
  · run_from Cert.Reference6Ideal.Value.run m' g'
    · obtain ⟨h0, h1, h2, h3, h4, h5, h6, h7⟩ := hagree c
      rw [Cert.Reference6Ideal.Read.val_main_v53_eq, h0, h1, h2, h3, h4, h5, h6]
      exact (Cert.Merge.result0 m g c).symm
    · obtain ⟨h0, h1, h2, h3, h4, h5, h6, h7⟩ := hagree c
      rw [Cert.Reference6Ideal.Read.val_main_v56_eq, h0, h1, h2, h3, h4, h5, h7]
      exact (Cert.Merge.result1 m g c).symm

/-- The reference of the convolution branch's backward run runs, leaves its arguments as they were and has no semaphores. -/
theorem quiescent_reference8 : Cert.quiescent_Reference8Ideal := by
  intro m g _
  run_from Cert.Reference8Ideal.Value.run m g
  · exact fun _ => ⟨trivial, trivial, trivial, trivial⟩
  · exact sem_eq_zero_of_no_sems (by decide) _

/-- The gradients of the convolution branch's columns, taps and output weight are the reference's. -/
theorem algebraic8 : Cert.algebraic_Kernel8Ideal_Reference8Ideal := by
  pair_intro
  · run_from Cert.Mix.run m g
  · run_from Cert.Reference8Ideal.Value.run m' g'
    · obtain ⟨h0, h1, h2, h3⟩ := hagree c
      rw [Cert.Reference8Ideal.Read.val_main_v71_eq, h0, h1, h3]
      exact (Cert.Mix.result0 m g c).symm
    · rw [Cert.Reference8Ideal.Read.val_main_v64_eq]
      exact (Cert.Mix.result1 m g c).symm
    · rw [Cert.Reference8Ideal.Read.val_main_v75_eq]
      exact (Cert.Mix.result2 m g c).symm

/-- The reference of the branches' input gradient runs, leaves its arguments as they were and has no semaphores. -/
theorem quiescent_reference9 : Cert.quiescent_Reference9Ideal := by
  intro m g _
  run_from Cert.Reference9Ideal.Value.run m g
  · exact fun _ => ⟨trivial, trivial⟩
  · exact sem_eq_zero_of_no_sems (by decide) _

/-- A branch projection's input gradient is its reference's. -/
theorem algebraic9 : Cert.algebraic_Kernel9Ideal_Reference9Ideal := by
  pair_intro
  · run_from Cert.Kernel9Ideal.Value.run_blocks m g
  · run_from Cert.Reference9Ideal.Value.run m' g'
    · exact (Cert.BranchX.result m c).symm

/-- The reference of the convolution branch's input gradient runs, leaves its arguments as they were and has no semaphores. -/
theorem quiescent_reference10 : Cert.quiescent_Reference10Ideal := by
  intro m g _
  run_from Cert.Reference10Ideal.Value.run m g
  · exact fun _ => ⟨trivial, trivial⟩
  · exact sem_eq_zero_of_no_sems (by decide) _

/-- The convolution branch's input gradient is its reference's. -/
theorem algebraic10 : Cert.algebraic_Kernel10Ideal_Reference10Ideal := by
  pair_intro
  · run_from Cert.Kernel10Ideal.Value.run_blocks m g
  · run_from Cert.Reference10Ideal.Value.run m' g'
    · rw [Cert.Reference10Ideal.Read.val_main_v4_eq]
      exact (Cert.BranchConvX.result m c).symm

/-- The reference of the branches' projection runs, leaves its arguments as they were and has no semaphores. -/
theorem quiescent_reference11 : Cert.quiescent_Reference11Ideal := by
  intro m g _
  run_from Cert.Reference11Ideal.Value.run m g
  · exact fun _ => ⟨trivial, trivial, trivial⟩
  · exact sem_eq_zero_of_no_sems (by decide) _

/-- A branch projection and its weight's gradient are its reference's. -/
theorem algebraic11 : Cert.algebraic_Kernel11Ideal_Reference11Ideal := by
  pair_intro
  · run_from Cert.Branch.run m g
  · run_from Cert.Reference11Ideal.Value.run m' g'
    · exact (Cert.Branch.result0 m g c).symm
    · rw [Cert.Reference11Ideal.Read.val_main_v4_eq]
      exact (Cert.Branch.result1 m g c).symm

/-- The reference of the output projection's input gradient runs, leaves its arguments as they were and has no semaphores. -/
theorem quiescent_reference12 : Cert.quiescent_Reference12Ideal := by
  intro m g _
  run_from Cert.Reference12Ideal.Value.run m g
  · exact fun _ => ⟨trivial, trivial⟩
  · exact sem_eq_zero_of_no_sems (by decide) _

/-- The output projection's input gradient is its reference's. -/
theorem algebraic12 : Cert.algebraic_Kernel12Ideal_Reference12Ideal := by
  pair_intro
  · run_from Cert.Kernel12Ideal.Value.run_blocks m g
  · run_from Cert.Reference12Ideal.Value.run m' g'
    · exact (Cert.OutX.result m c).symm

/-- The reference of the large weights' updates runs, leaves its arguments as they were and has no semaphores. -/
theorem quiescent_reference13 : Cert.quiescent_Reference13Ideal := by
  intro m g _
  run_from Cert.Reference13Ideal.Value.run m g
  · exact fun _ => ⟨trivial, trivial, trivial, trivial, trivial, trivial, trivial, trivial, trivial, trivial, trivial, trivial, trivial, trivial, trivial, trivial, trivial, trivial, trivial, trivial, trivial, trivial, trivial, trivial⟩
  · exact sem_eq_zero_of_no_sems (by decide) _

set_option maxHeartbeats 20000000 in
/-- The steps, the means and the squares' means of the large weights are the reference's. -/
theorem algebraic13 : Cert.algebraic_Kernel13Ideal_Reference13Ideal := by
  pair_intro
  · run_from Cert.AdamLarge.run m g
  · run_from Cert.Reference13Ideal.Value.run m' g'
    · exact (Cert.AdamLarge.result0 m g c).1.symm
    · exact (Cert.AdamLarge.result0 m g c).2.1.symm
    · exact (Cert.AdamLarge.result0 m g c).2.2.symm
    · exact (Cert.AdamLarge.result1 m g c).1.symm
    · exact (Cert.AdamLarge.result1 m g c).2.1.symm
    · exact (Cert.AdamLarge.result1 m g c).2.2.symm
    · exact (Cert.AdamLarge.result2 m g c).1.symm
    · exact (Cert.AdamLarge.result2 m g c).2.1.symm
    · exact (Cert.AdamLarge.result2 m g c).2.2.symm
    · exact (Cert.AdamLarge.result3 m g c).1.symm
    · exact (Cert.AdamLarge.result3 m g c).2.1.symm
    · exact (Cert.AdamLarge.result3 m g c).2.2.symm
    · exact (Cert.AdamLarge.result4 m g c).1.symm
    · exact (Cert.AdamLarge.result4 m g c).2.1.symm
    · exact (Cert.AdamLarge.result4 m g c).2.2.symm
    · exact (Cert.AdamLarge.result5 m g c).1.symm
    · exact (Cert.AdamLarge.result5 m g c).2.1.symm
    · exact (Cert.AdamLarge.result5 m g c).2.2.symm

/-- The reference of the small weights' updates runs, leaves its arguments as they were and has no semaphores. -/
theorem quiescent_reference14 : Cert.quiescent_Reference14Ideal := by
  intro m g _
  run_from Cert.Reference14Ideal.Value.run m g
  · exact fun _ => ⟨trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial, trivial⟩
  · exact sem_eq_zero_of_no_sems (by decide) _

set_option maxHeartbeats 20000000 in
/-- The steps, the means and the squares' means of the small weights are the reference's. -/
theorem algebraic14 : Cert.algebraic_Kernel14Ideal_Reference14Ideal := by
  pair_intro
  · run_from Cert.AdamSmall.run m g
  · run_from Cert.Reference14Ideal.Value.run m' g'
    · exact (Cert.AdamSmall.result0 m g c).1.symm
    · exact (Cert.AdamSmall.result0 m g c).2.1.symm
    · exact (Cert.AdamSmall.result0 m g c).2.2.symm
    · exact (Cert.AdamSmall.result1 m g c).1.symm
    · exact (Cert.AdamSmall.result1 m g c).2.1.symm
    · exact (Cert.AdamSmall.result1 m g c).2.2.symm
    · exact (Cert.AdamSmall.result2 m g c).1.symm
    · exact (Cert.AdamSmall.result2 m g c).2.1.symm
    · exact (Cert.AdamSmall.result2 m g c).2.2.symm
    · exact (Cert.AdamSmall.result3 m g c).1.symm
    · exact (Cert.AdamSmall.result3 m g c).2.1.symm
    · exact (Cert.AdamSmall.result3 m g c).2.2.symm
    · exact (Cert.AdamSmall.result4 m g c).1.symm
    · exact (Cert.AdamSmall.result4 m g c).2.1.symm
    · exact (Cert.AdamSmall.result4 m g c).2.2.symm
    · exact (Cert.AdamSmall.result5 m g c).1.symm
    · exact (Cert.AdamSmall.result5 m g c).2.1.symm
    · exact (Cert.AdamSmall.result5 m g c).2.2.symm
    · exact (Cert.AdamSmall.result6 m g c).1.symm
    · exact (Cert.AdamSmall.result6 m g c).2.1.symm
    · exact (Cert.AdamSmall.result6 m g c).2.2.symm
    · exact (Cert.AdamSmall.result7 m g c).1.symm
    · exact (Cert.AdamSmall.result7 m g c).2.1.symm
    · exact (Cert.AdamSmall.result7 m g c).2.2.symm
    · exact (Cert.AdamSmall.result8 m g c).1.symm
    · exact (Cert.AdamSmall.result8 m g c).2.1.symm
    · exact (Cert.AdamSmall.result8 m g c).2.2.symm
    · exact (Cert.AdamSmall.result9 m g c).1.symm
    · exact (Cert.AdamSmall.result9 m g c).2.1.symm
    · exact (Cert.AdamSmall.result9 m g c).2.2.symm

/-- The reference of the modulation's weight runs, leaves its arguments as they were and has no semaphores. -/
theorem quiescent_reference15 : Cert.quiescent_Reference15Ideal := by
  intro m g _
  run_from Cert.Reference15Ideal.Value.run m g
  · exact fun _ => ⟨trivial, trivial, trivial, trivial, trivial⟩
  · exact sem_eq_zero_of_no_sems (by decide) _

/-- The gradient of the modulation's weight, its step, mean and square's mean are the reference's. -/
theorem algebraic15 : Cert.algebraic_Kernel15Ideal_Reference15Ideal := by
  pair_intro
  · run_from Cert.Kernel15Ideal.Value.run_blocks m g
  · run_from Cert.Reference15Ideal.Value.run m' g'
    · rw [Cert.Reference15Ideal.Read.val_main_v44_eq]
      exact (Cert.ModGrad.result0 m c).symm
    · obtain ⟨h0, h1, h2, h3, h4⟩ := hagree c
      rw [Cert.Reference15Ideal.Read.val_main_v68_eq, h0, h1, h2, h3, h4]
      exact (Cert.ModGrad.result1 m c).symm
    · rw [Cert.Reference15Ideal.Read.val_main_v49_eq]
      exact (Cert.ModGrad.result2 m c).symm
    · obtain ⟨h0, h1, h2, h3, h4⟩ := hagree c
      rw [Cert.Reference15Ideal.Read.val_main_v55_eq, h0, h1, h4]
      exact (Cert.ModGrad.result3 m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   fun m ρ _ => Cert.Kernel.Gen.frame m ρ, fun m ρ _ => Cert.KernelIdeal.Gen.frame m ρ, quiescent_reference,
   fun m ρ _ => Cert.Kernel2.Gen.frame m ρ, fun m ρ _ => Cert.Kernel2Ideal.Gen.frame m ρ, quiescent_reference2,
   fun m ρ _ => Cert.Kernel3.Gen.frame m ρ, fun m ρ _ => Cert.Kernel3Ideal.Gen.frame m ρ, quiescent_reference3,
   fun m ρ _ => Cert.Kernel4.Gen.frame m ρ, fun m ρ _ => Cert.Kernel4Ideal.Gen.frame m ρ, quiescent_reference4,
   fun m ρ _ => Cert.Kernel5.Gen.frame m ρ, fun m ρ _ => Cert.Kernel5Ideal.Gen.frame m ρ, quiescent_reference5,
   fun m ρ _ => Cert.Kernel6.Gen.frame m ρ, fun m ρ _ => Cert.Kernel6Ideal.Gen.frame m ρ, quiescent_reference6,
   fun m ρ _ => Cert.Kernel8.Gen.frame m ρ, fun m ρ _ => Cert.Kernel8Ideal.Gen.frame m ρ, quiescent_reference8,
   fun m ρ _ => Cert.Kernel9.Gen.frame m ρ, fun m ρ _ => Cert.Kernel9Ideal.Gen.frame m ρ, quiescent_reference9,
   fun m ρ _ => Cert.Kernel10.Gen.frame m ρ, fun m ρ _ => Cert.Kernel10Ideal.Gen.frame m ρ, quiescent_reference10,
   fun m ρ _ => Cert.Kernel11.Gen.frame m ρ, fun m ρ _ => Cert.Kernel11Ideal.Gen.frame m ρ, quiescent_reference11,
   fun m ρ _ => Cert.Kernel12.Gen.frame m ρ, fun m ρ _ => Cert.Kernel12Ideal.Gen.frame m ρ, quiescent_reference12,
   fun m ρ _ => Cert.Kernel13.Gen.frame m ρ, fun m ρ _ => Cert.Kernel13Ideal.Gen.frame m ρ, quiescent_reference13,
   fun m ρ _ => Cert.Kernel14.Gen.frame m ρ, fun m ρ _ => Cert.Kernel14Ideal.Gen.frame m ρ, quiescent_reference14,
   fun m ρ _ => Cert.Kernel15.Gen.frame m ρ, fun m ρ _ => Cert.Kernel15Ideal.Gen.frame m ρ, quiescent_reference15,
   trivial, algebraic, trivial, algebraic2, trivial, algebraic3, trivial, algebraic4, trivial, algebraic5, trivial, algebraic6, trivial, algebraic8, trivial, algebraic9, trivial, algebraic10, trivial, algebraic11, trivial, algebraic12, trivial, algebraic13, trivial, algebraic14, trivial, algebraic15⟩

end Cert.Proof

end
